-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_ScIn (m : (ℓ : Loc Cert.ScIn.nD Cert.ScIn.τ Cert.ScIn.sig) → Buf (Elt Bits) ℓ) : Prop :=
  True

def Pre_ScInIdeal (m : (ℓ : Loc Cert.ScInIdeal.nD Cert.ScInIdeal.τ Cert.ScInIdeal.sig) → Buf (Elt Ideal) ℓ) : Prop :=
  True

def Pre_ScInRefIdeal (m : (ℓ : Loc Cert.ScInRefIdeal.nD Cert.ScInRefIdeal.τ Cert.ScInRefIdeal.sig) → Buf (Elt Ideal) ℓ) : Prop :=
  True

def Pre_ScOut (m : (ℓ : Loc Cert.ScOut.nD Cert.ScOut.τ Cert.ScOut.sig) → Buf (Elt Bits) ℓ) : Prop :=
  True

def Pre_ScOutIdeal (m : (ℓ : Loc Cert.ScOutIdeal.nD Cert.ScOutIdeal.τ Cert.ScOutIdeal.sig) → Buf (Elt Ideal) ℓ) : Prop :=
  True

def Pre_ScOutRefIdeal (m : (ℓ : Loc Cert.ScOutRefIdeal.nD Cert.ScOutRefIdeal.τ Cert.ScOutRefIdeal.sig) → Buf (Elt Ideal) ℓ) : Prop :=
  True

def Pre_HyIn (m : (ℓ : Loc Cert.HyIn.nD Cert.HyIn.τ Cert.HyIn.sig) → Buf (Elt Bits) ℓ) : Prop :=
  True

def Pre_HyInIdeal (m : (ℓ : Loc Cert.HyInIdeal.nD Cert.HyInIdeal.τ Cert.HyInIdeal.sig) → Buf (Elt Ideal) ℓ) : Prop :=
  True

def Pre_HyInRefIdeal (m : (ℓ : Loc Cert.HyInRefIdeal.nD Cert.HyInRefIdeal.τ Cert.HyInRefIdeal.sig) → Buf (Elt Ideal) ℓ) : Prop :=
  True

def Pre_HyOut (m : (ℓ : Loc Cert.HyOut.nD Cert.HyOut.τ Cert.HyOut.sig) → Buf (Elt Bits) ℓ) : Prop :=
  True

def Pre_HyOutIdeal (m : (ℓ : Loc Cert.HyOutIdeal.nD Cert.HyOutIdeal.τ Cert.HyOutIdeal.sig) → Buf (Elt Ideal) ℓ) : Prop :=
  True

def Pre_HyOutRefIdeal (m : (ℓ : Loc Cert.HyOutRefIdeal.nD Cert.HyOutRefIdeal.τ Cert.HyOutRefIdeal.sig) → Buf (Elt Ideal) ℓ) : Prop :=
  True

def Pre_MlaOut (m : (ℓ : Loc Cert.MlaOut.nD Cert.MlaOut.τ Cert.MlaOut.sig) → Buf (Elt Bits) ℓ) : Prop :=
  True

def Pre_MlaOutIdeal (m : (ℓ : Loc Cert.MlaOutIdeal.nD Cert.MlaOutIdeal.τ Cert.MlaOutIdeal.sig) → Buf (Elt Ideal) ℓ) : Prop :=
  True

def Pre_MlaOutRefIdeal (m : (ℓ : Loc Cert.MlaOutRefIdeal.nD Cert.MlaOutRefIdeal.τ Cert.MlaOutRefIdeal.sig) → Buf (Elt Ideal) ℓ) : Prop :=
  True

def Pre_QDown (m : (ℓ : Loc Cert.QDown.nD Cert.QDown.τ Cert.QDown.sig) → Buf (Elt Bits) ℓ) : Prop :=
  True

def Pre_QDownIdeal (m : (ℓ : Loc Cert.QDownIdeal.nD Cert.QDownIdeal.τ Cert.QDownIdeal.sig) → Buf (Elt Ideal) ℓ) : Prop :=
  True

def Pre_QDownRefIdeal (m : (ℓ : Loc Cert.QDownRefIdeal.nD Cert.QDownRefIdeal.τ Cert.QDownRefIdeal.sig) → Buf (Elt Ideal) ℓ) : Prop :=
  True

def Pre_KvDown (m : (ℓ : Loc Cert.KvDown.nD Cert.KvDown.τ Cert.KvDown.sig) → Buf (Elt Bits) ℓ) : Prop :=
  True

def Pre_KvDownIdeal (m : (ℓ : Loc Cert.KvDownIdeal.nD Cert.KvDownIdeal.τ Cert.KvDownIdeal.sig) → Buf (Elt Ideal) ℓ) : Prop :=
  True

def Pre_KvDownRefIdeal (m : (ℓ : Loc Cert.KvDownRefIdeal.nD Cert.KvDownRefIdeal.τ Cert.KvDownRefIdeal.sig) → Buf (Elt Ideal) ℓ) : Prop :=
  True

def Pre_KUp (m : (ℓ : Loc Cert.KUp.nD Cert.KUp.τ Cert.KUp.sig) → Buf (Elt Bits) ℓ) : Prop :=
  True

def Pre_KUpIdeal (m : (ℓ : Loc Cert.KUpIdeal.nD Cert.KUpIdeal.τ Cert.KUpIdeal.sig) → Buf (Elt Ideal) ℓ) : Prop :=
  True

def Pre_KUpRefIdeal (m : (ℓ : Loc Cert.KUpRefIdeal.nD Cert.KUpRefIdeal.τ Cert.KUpRefIdeal.sig) → Buf (Elt Ideal) ℓ) : Prop :=
  True

def Pre_VUp (m : (ℓ : Loc Cert.VUp.nD Cert.VUp.τ Cert.VUp.sig) → Buf (Elt Bits) ℓ) : Prop :=
  True

def Pre_VUpIdeal (m : (ℓ : Loc Cert.VUpIdeal.nD Cert.VUpIdeal.τ Cert.VUpIdeal.sig) → Buf (Elt Ideal) ℓ) : Prop :=
  True

def Pre_VUpRefIdeal (m : (ℓ : Loc Cert.VUpRefIdeal.nD Cert.VUpRefIdeal.τ Cert.VUpRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_ScIn [hScIn : Cert.ScIn.Facts] : Prop :=
  ∀ (m : (ℓ : Loc Cert.ScIn.nD Cert.ScIn.τ Cert.ScIn.sig) → Buf (Elt Bits) ℓ) (g : Dev Cert.ScIn.nD → PrngReg), Pre_ScIn m →
    θ_run (Cert.ScIn.defs (F := Bits)) (onTc (τ := Cert.ScIn.τ) (Cert.ScIn.main (F := Bits))) ⟨m, fun _ => 0, g⟩ (fun r => (∀ c : Dev Cert.ScIn.nD,
      r.2.mem ((c.tc : Thread Cert.ScIn.nD Cert.ScIn.τ).loc Cert.ScIn.main_arg0) = m ((c.tc : Thread Cert.ScIn.nD Cert.ScIn.τ).loc Cert.ScIn.main_arg0)
      ∧ r.2.mem ((c.tc : Thread Cert.ScIn.nD Cert.ScIn.τ).loc Cert.ScIn.main_arg1) = m ((c.tc : Thread Cert.ScIn.nD Cert.ScIn.τ).loc Cert.ScIn.main_arg1))
      ∧ r.2.sem = fun _ => 0)

def quiescent_ScInIdeal [hScInIdeal : Cert.ScInIdeal.Facts] : Prop :=
  ∀ (m : (ℓ : Loc Cert.ScInIdeal.nD Cert.ScInIdeal.τ Cert.ScInIdeal.sig) → Buf (Elt Ideal) ℓ) (g : Dev Cert.ScInIdeal.nD → PrngReg), Pre_ScInIdeal m →
    θ_run (Cert.ScInIdeal.defs (F := Ideal)) (onTc (τ := Cert.ScInIdeal.τ) (Cert.ScInIdeal.main (F := Ideal))) ⟨m, fun _ => 0, g⟩ (fun r => (∀ c : Dev Cert.ScInIdeal.nD,
      r.2.mem ((c.tc : Thread Cert.ScInIdeal.nD Cert.ScInIdeal.τ).loc Cert.ScInIdeal.main_arg0) = m ((c.tc : Thread Cert.ScInIdeal.nD Cert.ScInIdeal.τ).loc Cert.ScInIdeal.main_arg0)
      ∧ r.2.mem ((c.tc : Thread Cert.ScInIdeal.nD Cert.ScInIdeal.τ).loc Cert.ScInIdeal.main_arg1) = m ((c.tc : Thread Cert.ScInIdeal.nD Cert.ScInIdeal.τ).loc Cert.ScInIdeal.main_arg1))
      ∧ r.2.sem = fun _ => 0)

def quiescent_ScInRefIdeal [hScInRefIdeal : Cert.ScInRefIdeal.Facts] : Prop :=
  ∀ (m : (ℓ : Loc Cert.ScInRefIdeal.nD Cert.ScInRefIdeal.τ Cert.ScInRefIdeal.sig) → Buf (Elt Ideal) ℓ) (g : Dev Cert.ScInRefIdeal.nD → PrngReg), Pre_ScInRefIdeal m →
    θ_run (Cert.ScInRefIdeal.defs (F := Ideal)) (onTc (τ := Cert.ScInRefIdeal.τ) (Cert.ScInRefIdeal.main (F := Ideal))) ⟨m, fun _ => 0, g⟩ (fun r => (∀ c : Dev Cert.ScInRefIdeal.nD,
      r.2.mem ((c.tc : Thread Cert.ScInRefIdeal.nD Cert.ScInRefIdeal.τ).loc Cert.ScInRefIdeal.main_arg0) = m ((c.tc : Thread Cert.ScInRefIdeal.nD Cert.ScInRefIdeal.τ).loc Cert.ScInRefIdeal.main_arg0)
      ∧ r.2.mem ((c.tc : Thread Cert.ScInRefIdeal.nD Cert.ScInRefIdeal.τ).loc Cert.ScInRefIdeal.main_arg1) = m ((c.tc : Thread Cert.ScInRefIdeal.nD Cert.ScInRefIdeal.τ).loc Cert.ScInRefIdeal.main_arg1))
      ∧ r.2.sem = fun _ => 0)

def quiescent_ScOut [hScOut : Cert.ScOut.Facts] : Prop :=
  ∀ (m : (ℓ : Loc Cert.ScOut.nD Cert.ScOut.τ Cert.ScOut.sig) → Buf (Elt Bits) ℓ) (g : Dev Cert.ScOut.nD → PrngReg), Pre_ScOut m →
    θ_run (Cert.ScOut.defs (F := Bits)) (onTc (τ := Cert.ScOut.τ) (Cert.ScOut.main (F := Bits))) ⟨m, fun _ => 0, g⟩ (fun r => (∀ c : Dev Cert.ScOut.nD,
      r.2.mem ((c.tc : Thread Cert.ScOut.nD Cert.ScOut.τ).loc Cert.ScOut.main_arg0) = m ((c.tc : Thread Cert.ScOut.nD Cert.ScOut.τ).loc Cert.ScOut.main_arg0)
      ∧ r.2.mem ((c.tc : Thread Cert.ScOut.nD Cert.ScOut.τ).loc Cert.ScOut.main_arg1) = m ((c.tc : Thread Cert.ScOut.nD Cert.ScOut.τ).loc Cert.ScOut.main_arg1)
      ∧ r.2.mem ((c.tc : Thread Cert.ScOut.nD Cert.ScOut.τ).loc Cert.ScOut.main_arg2) = m ((c.tc : Thread Cert.ScOut.nD Cert.ScOut.τ).loc Cert.ScOut.main_arg2)
      ∧ r.2.mem ((c.tc : Thread Cert.ScOut.nD Cert.ScOut.τ).loc Cert.ScOut.main_arg3) = m ((c.tc : Thread Cert.ScOut.nD Cert.ScOut.τ).loc Cert.ScOut.main_arg3))
      ∧ r.2.sem = fun _ => 0)

def quiescent_ScOutIdeal [hScOutIdeal : Cert.ScOutIdeal.Facts] : Prop :=
  ∀ (m : (ℓ : Loc Cert.ScOutIdeal.nD Cert.ScOutIdeal.τ Cert.ScOutIdeal.sig) → Buf (Elt Ideal) ℓ) (g : Dev Cert.ScOutIdeal.nD → PrngReg), Pre_ScOutIdeal m →
    θ_run (Cert.ScOutIdeal.defs (F := Ideal)) (onTc (τ := Cert.ScOutIdeal.τ) (Cert.ScOutIdeal.main (F := Ideal))) ⟨m, fun _ => 0, g⟩ (fun r => (∀ c : Dev Cert.ScOutIdeal.nD,
      r.2.mem ((c.tc : Thread Cert.ScOutIdeal.nD Cert.ScOutIdeal.τ).loc Cert.ScOutIdeal.main_arg0) = m ((c.tc : Thread Cert.ScOutIdeal.nD Cert.ScOutIdeal.τ).loc Cert.ScOutIdeal.main_arg0)
      ∧ r.2.mem ((c.tc : Thread Cert.ScOutIdeal.nD Cert.ScOutIdeal.τ).loc Cert.ScOutIdeal.main_arg1) = m ((c.tc : Thread Cert.ScOutIdeal.nD Cert.ScOutIdeal.τ).loc Cert.ScOutIdeal.main_arg1)
      ∧ r.2.mem ((c.tc : Thread Cert.ScOutIdeal.nD Cert.ScOutIdeal.τ).loc Cert.ScOutIdeal.main_arg2) = m ((c.tc : Thread Cert.ScOutIdeal.nD Cert.ScOutIdeal.τ).loc Cert.ScOutIdeal.main_arg2)
      ∧ r.2.mem ((c.tc : Thread Cert.ScOutIdeal.nD Cert.ScOutIdeal.τ).loc Cert.ScOutIdeal.main_arg3) = m ((c.tc : Thread Cert.ScOutIdeal.nD Cert.ScOutIdeal.τ).loc Cert.ScOutIdeal.main_arg3))
      ∧ r.2.sem = fun _ => 0)

def quiescent_ScOutRefIdeal [hScOutRefIdeal : Cert.ScOutRefIdeal.Facts] : Prop :=
  ∀ (m : (ℓ : Loc Cert.ScOutRefIdeal.nD Cert.ScOutRefIdeal.τ Cert.ScOutRefIdeal.sig) → Buf (Elt Ideal) ℓ) (g : Dev Cert.ScOutRefIdeal.nD → PrngReg), Pre_ScOutRefIdeal m →
    θ_run (Cert.ScOutRefIdeal.defs (F := Ideal)) (onTc (τ := Cert.ScOutRefIdeal.τ) (Cert.ScOutRefIdeal.main (F := Ideal))) ⟨m, fun _ => 0, g⟩ (fun r => (∀ c : Dev Cert.ScOutRefIdeal.nD,
      r.2.mem ((c.tc : Thread Cert.ScOutRefIdeal.nD Cert.ScOutRefIdeal.τ).loc Cert.ScOutRefIdeal.main_arg0) = m ((c.tc : Thread Cert.ScOutRefIdeal.nD Cert.ScOutRefIdeal.τ).loc Cert.ScOutRefIdeal.main_arg0)
      ∧ r.2.mem ((c.tc : Thread Cert.ScOutRefIdeal.nD Cert.ScOutRefIdeal.τ).loc Cert.ScOutRefIdeal.main_arg1) = m ((c.tc : Thread Cert.ScOutRefIdeal.nD Cert.ScOutRefIdeal.τ).loc Cert.ScOutRefIdeal.main_arg1)
      ∧ r.2.mem ((c.tc : Thread Cert.ScOutRefIdeal.nD Cert.ScOutRefIdeal.τ).loc Cert.ScOutRefIdeal.main_arg2) = m ((c.tc : Thread Cert.ScOutRefIdeal.nD Cert.ScOutRefIdeal.τ).loc Cert.ScOutRefIdeal.main_arg2)
      ∧ r.2.mem ((c.tc : Thread Cert.ScOutRefIdeal.nD Cert.ScOutRefIdeal.τ).loc Cert.ScOutRefIdeal.main_arg3) = m ((c.tc : Thread Cert.ScOutRefIdeal.nD Cert.ScOutRefIdeal.τ).loc Cert.ScOutRefIdeal.main_arg3))
      ∧ r.2.sem = fun _ => 0)

def quiescent_HyIn [hHyIn : Cert.HyIn.Facts] : Prop :=
  ∀ (m : (ℓ : Loc Cert.HyIn.nD Cert.HyIn.τ Cert.HyIn.sig) → Buf (Elt Bits) ℓ) (g : Dev Cert.HyIn.nD → PrngReg), Pre_HyIn m →
    θ_run (Cert.HyIn.defs (F := Bits)) (onTc (τ := Cert.HyIn.τ) (Cert.HyIn.main (F := Bits))) ⟨m, fun _ => 0, g⟩ (fun r => (∀ c : Dev Cert.HyIn.nD,
      r.2.mem ((c.tc : Thread Cert.HyIn.nD Cert.HyIn.τ).loc Cert.HyIn.main_arg0) = m ((c.tc : Thread Cert.HyIn.nD Cert.HyIn.τ).loc Cert.HyIn.main_arg0)
      ∧ r.2.mem ((c.tc : Thread Cert.HyIn.nD Cert.HyIn.τ).loc Cert.HyIn.main_arg1) = m ((c.tc : Thread Cert.HyIn.nD Cert.HyIn.τ).loc Cert.HyIn.main_arg1))
      ∧ r.2.sem = fun _ => 0)

def quiescent_HyInIdeal [hHyInIdeal : Cert.HyInIdeal.Facts] : Prop :=
  ∀ (m : (ℓ : Loc Cert.HyInIdeal.nD Cert.HyInIdeal.τ Cert.HyInIdeal.sig) → Buf (Elt Ideal) ℓ) (g : Dev Cert.HyInIdeal.nD → PrngReg), Pre_HyInIdeal m →
    θ_run (Cert.HyInIdeal.defs (F := Ideal)) (onTc (τ := Cert.HyInIdeal.τ) (Cert.HyInIdeal.main (F := Ideal))) ⟨m, fun _ => 0, g⟩ (fun r => (∀ c : Dev Cert.HyInIdeal.nD,
      r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
      ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1))
      ∧ r.2.sem = fun _ => 0)

def quiescent_HyInRefIdeal [hHyInRefIdeal : Cert.HyInRefIdeal.Facts] : Prop :=
  ∀ (m : (ℓ : Loc Cert.HyInRefIdeal.nD Cert.HyInRefIdeal.τ Cert.HyInRefIdeal.sig) → Buf (Elt Ideal) ℓ) (g : Dev Cert.HyInRefIdeal.nD → PrngReg), Pre_HyInRefIdeal m →
    θ_run (Cert.HyInRefIdeal.defs (F := Ideal)) (onTc (τ := Cert.HyInRefIdeal.τ) (Cert.HyInRefIdeal.main (F := Ideal))) ⟨m, fun _ => 0, g⟩ (fun r => (∀ c : Dev Cert.HyInRefIdeal.nD,
      r.2.mem ((c.tc : Thread Cert.HyInRefIdeal.nD Cert.HyInRefIdeal.τ).loc Cert.HyInRefIdeal.main_arg0) = m ((c.tc : Thread Cert.HyInRefIdeal.nD Cert.HyInRefIdeal.τ).loc Cert.HyInRefIdeal.main_arg0)
      ∧ r.2.mem ((c.tc : Thread Cert.HyInRefIdeal.nD Cert.HyInRefIdeal.τ).loc Cert.HyInRefIdeal.main_arg1) = m ((c.tc : Thread Cert.HyInRefIdeal.nD Cert.HyInRefIdeal.τ).loc Cert.HyInRefIdeal.main_arg1))
      ∧ r.2.sem = fun _ => 0)

def quiescent_HyOut [hHyOut : Cert.HyOut.Facts] : Prop :=
  ∀ (m : (ℓ : Loc Cert.HyOut.nD Cert.HyOut.τ Cert.HyOut.sig) → Buf (Elt Bits) ℓ) (g : Dev Cert.HyOut.nD → PrngReg), Pre_HyOut m →
    θ_run (Cert.HyOut.defs (F := Bits)) (onTc (τ := Cert.HyOut.τ) (Cert.HyOut.main (F := Bits))) ⟨m, fun _ => 0, g⟩ (fun r => (∀ c : Dev Cert.HyOut.nD,
      r.2.mem ((c.tc : Thread Cert.HyOut.nD Cert.HyOut.τ).loc Cert.HyOut.main_arg0) = m ((c.tc : Thread Cert.HyOut.nD Cert.HyOut.τ).loc Cert.HyOut.main_arg0)
      ∧ r.2.mem ((c.tc : Thread Cert.HyOut.nD Cert.HyOut.τ).loc Cert.HyOut.main_arg1) = m ((c.tc : Thread Cert.HyOut.nD Cert.HyOut.τ).loc Cert.HyOut.main_arg1)
      ∧ r.2.mem ((c.tc : Thread Cert.HyOut.nD Cert.HyOut.τ).loc Cert.HyOut.main_arg2) = m ((c.tc : Thread Cert.HyOut.nD Cert.HyOut.τ).loc Cert.HyOut.main_arg2)
      ∧ r.2.mem ((c.tc : Thread Cert.HyOut.nD Cert.HyOut.τ).loc Cert.HyOut.main_arg3) = m ((c.tc : Thread Cert.HyOut.nD Cert.HyOut.τ).loc Cert.HyOut.main_arg3)
      ∧ r.2.mem ((c.tc : Thread Cert.HyOut.nD Cert.HyOut.τ).loc Cert.HyOut.main_arg4) = m ((c.tc : Thread Cert.HyOut.nD Cert.HyOut.τ).loc Cert.HyOut.main_arg4))
      ∧ r.2.sem = fun _ => 0)

def quiescent_HyOutIdeal [hHyOutIdeal : Cert.HyOutIdeal.Facts] : Prop :=
  ∀ (m : (ℓ : Loc Cert.HyOutIdeal.nD Cert.HyOutIdeal.τ Cert.HyOutIdeal.sig) → Buf (Elt Ideal) ℓ) (g : Dev Cert.HyOutIdeal.nD → PrngReg), Pre_HyOutIdeal m →
    θ_run (Cert.HyOutIdeal.defs (F := Ideal)) (onTc (τ := Cert.HyOutIdeal.τ) (Cert.HyOutIdeal.main (F := Ideal))) ⟨m, fun _ => 0, g⟩ (fun r => (∀ c : Dev Cert.HyOutIdeal.nD,
      r.2.mem ((c.tc : Thread Cert.HyOutIdeal.nD Cert.HyOutIdeal.τ).loc Cert.HyOutIdeal.main_arg0) = m ((c.tc : Thread Cert.HyOutIdeal.nD Cert.HyOutIdeal.τ).loc Cert.HyOutIdeal.main_arg0)
      ∧ r.2.mem ((c.tc : Thread Cert.HyOutIdeal.nD Cert.HyOutIdeal.τ).loc Cert.HyOutIdeal.main_arg1) = m ((c.tc : Thread Cert.HyOutIdeal.nD Cert.HyOutIdeal.τ).loc Cert.HyOutIdeal.main_arg1)
      ∧ r.2.mem ((c.tc : Thread Cert.HyOutIdeal.nD Cert.HyOutIdeal.τ).loc Cert.HyOutIdeal.main_arg2) = m ((c.tc : Thread Cert.HyOutIdeal.nD Cert.HyOutIdeal.τ).loc Cert.HyOutIdeal.main_arg2)
      ∧ r.2.mem ((c.tc : Thread Cert.HyOutIdeal.nD Cert.HyOutIdeal.τ).loc Cert.HyOutIdeal.main_arg3) = m ((c.tc : Thread Cert.HyOutIdeal.nD Cert.HyOutIdeal.τ).loc Cert.HyOutIdeal.main_arg3)
      ∧ r.2.mem ((c.tc : Thread Cert.HyOutIdeal.nD Cert.HyOutIdeal.τ).loc Cert.HyOutIdeal.main_arg4) = m ((c.tc : Thread Cert.HyOutIdeal.nD Cert.HyOutIdeal.τ).loc Cert.HyOutIdeal.main_arg4))
      ∧ r.2.sem = fun _ => 0)

def quiescent_HyOutRefIdeal [hHyOutRefIdeal : Cert.HyOutRefIdeal.Facts] : Prop :=
  ∀ (m : (ℓ : Loc Cert.HyOutRefIdeal.nD Cert.HyOutRefIdeal.τ Cert.HyOutRefIdeal.sig) → Buf (Elt Ideal) ℓ) (g : Dev Cert.HyOutRefIdeal.nD → PrngReg), Pre_HyOutRefIdeal m →
    θ_run (Cert.HyOutRefIdeal.defs (F := Ideal)) (onTc (τ := Cert.HyOutRefIdeal.τ) (Cert.HyOutRefIdeal.main (F := Ideal))) ⟨m, fun _ => 0, g⟩ (fun r => (∀ c : Dev Cert.HyOutRefIdeal.nD,
      r.2.mem ((c.tc : Thread Cert.HyOutRefIdeal.nD Cert.HyOutRefIdeal.τ).loc Cert.HyOutRefIdeal.main_arg0) = m ((c.tc : Thread Cert.HyOutRefIdeal.nD Cert.HyOutRefIdeal.τ).loc Cert.HyOutRefIdeal.main_arg0)
      ∧ r.2.mem ((c.tc : Thread Cert.HyOutRefIdeal.nD Cert.HyOutRefIdeal.τ).loc Cert.HyOutRefIdeal.main_arg1) = m ((c.tc : Thread Cert.HyOutRefIdeal.nD Cert.HyOutRefIdeal.τ).loc Cert.HyOutRefIdeal.main_arg1)
      ∧ r.2.mem ((c.tc : Thread Cert.HyOutRefIdeal.nD Cert.HyOutRefIdeal.τ).loc Cert.HyOutRefIdeal.main_arg2) = m ((c.tc : Thread Cert.HyOutRefIdeal.nD Cert.HyOutRefIdeal.τ).loc Cert.HyOutRefIdeal.main_arg2)
      ∧ r.2.mem ((c.tc : Thread Cert.HyOutRefIdeal.nD Cert.HyOutRefIdeal.τ).loc Cert.HyOutRefIdeal.main_arg3) = m ((c.tc : Thread Cert.HyOutRefIdeal.nD Cert.HyOutRefIdeal.τ).loc Cert.HyOutRefIdeal.main_arg3)
      ∧ r.2.mem ((c.tc : Thread Cert.HyOutRefIdeal.nD Cert.HyOutRefIdeal.τ).loc Cert.HyOutRefIdeal.main_arg4) = m ((c.tc : Thread Cert.HyOutRefIdeal.nD Cert.HyOutRefIdeal.τ).loc Cert.HyOutRefIdeal.main_arg4))
      ∧ r.2.sem = fun _ => 0)

def quiescent_MlaOut [hMlaOut : Cert.MlaOut.Facts] : Prop :=
  ∀ (m : (ℓ : Loc Cert.MlaOut.nD Cert.MlaOut.τ Cert.MlaOut.sig) → Buf (Elt Bits) ℓ) (g : Dev Cert.MlaOut.nD → PrngReg), Pre_MlaOut m →
    θ_run (Cert.MlaOut.defs (F := Bits)) (onTc (τ := Cert.MlaOut.τ) (Cert.MlaOut.main (F := Bits))) ⟨m, fun _ => 0, g⟩ (fun r => (∀ c : Dev Cert.MlaOut.nD,
      r.2.mem ((c.tc : Thread Cert.MlaOut.nD Cert.MlaOut.τ).loc Cert.MlaOut.main_arg0) = m ((c.tc : Thread Cert.MlaOut.nD Cert.MlaOut.τ).loc Cert.MlaOut.main_arg0)
      ∧ r.2.mem ((c.tc : Thread Cert.MlaOut.nD Cert.MlaOut.τ).loc Cert.MlaOut.main_arg1) = m ((c.tc : Thread Cert.MlaOut.nD Cert.MlaOut.τ).loc Cert.MlaOut.main_arg1))
      ∧ r.2.sem = fun _ => 0)

def quiescent_MlaOutIdeal [hMlaOutIdeal : Cert.MlaOutIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg), Pre_MlaOutIdeal m →
    θ_run (Cert.MlaOutIdeal.defs (F := Ideal)) (onTc (τ := Cert.MlaOutIdeal.τ) (Cert.MlaOutIdeal.main (F := Ideal))) ⟨m, fun _ => 0, g⟩ (fun r => (∀ c : Dev Cert.MlaOutIdeal.nD,
      r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
      ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1))
      ∧ r.2.sem = fun _ => 0)

def quiescent_MlaOutRefIdeal [hMlaOutRefIdeal : Cert.MlaOutRefIdeal.Facts] : Prop :=
  ∀ (m : (ℓ : Loc Cert.MlaOutRefIdeal.nD Cert.MlaOutRefIdeal.τ Cert.MlaOutRefIdeal.sig) → Buf (Elt Ideal) ℓ) (g : Dev Cert.MlaOutRefIdeal.nD → PrngReg), Pre_MlaOutRefIdeal m →
    θ_run (Cert.MlaOutRefIdeal.defs (F := Ideal)) (onTc (τ := Cert.MlaOutRefIdeal.τ) (Cert.MlaOutRefIdeal.main (F := Ideal))) ⟨m, fun _ => 0, g⟩ (fun r => (∀ c : Dev Cert.MlaOutRefIdeal.nD,
      r.2.mem ((c.tc : Thread Cert.MlaOutRefIdeal.nD Cert.MlaOutRefIdeal.τ).loc Cert.MlaOutRefIdeal.main_arg0) = m ((c.tc : Thread Cert.MlaOutRefIdeal.nD Cert.MlaOutRefIdeal.τ).loc Cert.MlaOutRefIdeal.main_arg0)
      ∧ r.2.mem ((c.tc : Thread Cert.MlaOutRefIdeal.nD Cert.MlaOutRefIdeal.τ).loc Cert.MlaOutRefIdeal.main_arg1) = m ((c.tc : Thread Cert.MlaOutRefIdeal.nD Cert.MlaOutRefIdeal.τ).loc Cert.MlaOutRefIdeal.main_arg1))
      ∧ r.2.sem = fun _ => 0)

def quiescent_QDown [hQDown : Cert.QDown.Facts] : Prop :=
  ∀ (m : (ℓ : Loc Cert.QDown.nD Cert.QDown.τ Cert.QDown.sig) → Buf (Elt Bits) ℓ) (g : Dev Cert.QDown.nD → PrngReg), Pre_QDown m →
    θ_run (Cert.QDown.defs (F := Bits)) (onTc (τ := Cert.QDown.τ) (Cert.QDown.main (F := Bits))) ⟨m, fun _ => 0, g⟩ (fun r => (∀ c : Dev Cert.QDown.nD,
      r.2.mem ((c.tc : Thread Cert.QDown.nD Cert.QDown.τ).loc Cert.QDown.main_arg0) = m ((c.tc : Thread Cert.QDown.nD Cert.QDown.τ).loc Cert.QDown.main_arg0)
      ∧ r.2.mem ((c.tc : Thread Cert.QDown.nD Cert.QDown.τ).loc Cert.QDown.main_arg1) = m ((c.tc : Thread Cert.QDown.nD Cert.QDown.τ).loc Cert.QDown.main_arg1)
      ∧ r.2.mem ((c.tc : Thread Cert.QDown.nD Cert.QDown.τ).loc Cert.QDown.main_arg2) = m ((c.tc : Thread Cert.QDown.nD Cert.QDown.τ).loc Cert.QDown.main_arg2))
      ∧ r.2.sem = fun _ => 0)

def quiescent_QDownIdeal [hQDownIdeal : Cert.QDownIdeal.Facts] : Prop :=
  ∀ (m : (ℓ : Loc Cert.QDownIdeal.nD Cert.QDownIdeal.τ Cert.QDownIdeal.sig) → Buf (Elt Ideal) ℓ) (g : Dev Cert.QDownIdeal.nD → PrngReg), Pre_QDownIdeal m →
    θ_run (Cert.QDownIdeal.defs (F := Ideal)) (onTc (τ := Cert.QDownIdeal.τ) (Cert.QDownIdeal.main (F := Ideal))) ⟨m, fun _ => 0, g⟩ (fun r => (∀ c : Dev Cert.QDownIdeal.nD,
      r.2.mem ((c.tc : Thread Cert.QDownIdeal.nD Cert.QDownIdeal.τ).loc Cert.QDownIdeal.main_arg0) = m ((c.tc : Thread Cert.QDownIdeal.nD Cert.QDownIdeal.τ).loc Cert.QDownIdeal.main_arg0)
      ∧ r.2.mem ((c.tc : Thread Cert.QDownIdeal.nD Cert.QDownIdeal.τ).loc Cert.QDownIdeal.main_arg1) = m ((c.tc : Thread Cert.QDownIdeal.nD Cert.QDownIdeal.τ).loc Cert.QDownIdeal.main_arg1)
      ∧ r.2.mem ((c.tc : Thread Cert.QDownIdeal.nD Cert.QDownIdeal.τ).loc Cert.QDownIdeal.main_arg2) = m ((c.tc : Thread Cert.QDownIdeal.nD Cert.QDownIdeal.τ).loc Cert.QDownIdeal.main_arg2))
      ∧ r.2.sem = fun _ => 0)

def quiescent_QDownRefIdeal [hQDownRefIdeal : Cert.QDownRefIdeal.Facts] : Prop :=
  ∀ (m : (ℓ : Loc Cert.QDownRefIdeal.nD Cert.QDownRefIdeal.τ Cert.QDownRefIdeal.sig) → Buf (Elt Ideal) ℓ) (g : Dev Cert.QDownRefIdeal.nD → PrngReg), Pre_QDownRefIdeal m →
    θ_run (Cert.QDownRefIdeal.defs (F := Ideal)) (onTc (τ := Cert.QDownRefIdeal.τ) (Cert.QDownRefIdeal.main (F := Ideal))) ⟨m, fun _ => 0, g⟩ (fun r => (∀ c : Dev Cert.QDownRefIdeal.nD,
      r.2.mem ((c.tc : Thread Cert.QDownRefIdeal.nD Cert.QDownRefIdeal.τ).loc Cert.QDownRefIdeal.main_arg0) = m ((c.tc : Thread Cert.QDownRefIdeal.nD Cert.QDownRefIdeal.τ).loc Cert.QDownRefIdeal.main_arg0)
      ∧ r.2.mem ((c.tc : Thread Cert.QDownRefIdeal.nD Cert.QDownRefIdeal.τ).loc Cert.QDownRefIdeal.main_arg1) = m ((c.tc : Thread Cert.QDownRefIdeal.nD Cert.QDownRefIdeal.τ).loc Cert.QDownRefIdeal.main_arg1)
      ∧ r.2.mem ((c.tc : Thread Cert.QDownRefIdeal.nD Cert.QDownRefIdeal.τ).loc Cert.QDownRefIdeal.main_arg2) = m ((c.tc : Thread Cert.QDownRefIdeal.nD Cert.QDownRefIdeal.τ).loc Cert.QDownRefIdeal.main_arg2))
      ∧ r.2.sem = fun _ => 0)

def quiescent_KvDown [hKvDown : Cert.KvDown.Facts] : Prop :=
  ∀ (m : (ℓ : Loc Cert.KvDown.nD Cert.KvDown.τ Cert.KvDown.sig) → Buf (Elt Bits) ℓ) (g : Dev Cert.KvDown.nD → PrngReg), Pre_KvDown m →
    θ_run (Cert.KvDown.defs (F := Bits)) (onTc (τ := Cert.KvDown.τ) (Cert.KvDown.main (F := Bits))) ⟨m, fun _ => 0, g⟩ (fun r => (∀ c : Dev Cert.KvDown.nD,
      r.2.mem ((c.tc : Thread Cert.KvDown.nD Cert.KvDown.τ).loc Cert.KvDown.main_arg0) = m ((c.tc : Thread Cert.KvDown.nD Cert.KvDown.τ).loc Cert.KvDown.main_arg0)
      ∧ r.2.mem ((c.tc : Thread Cert.KvDown.nD Cert.KvDown.τ).loc Cert.KvDown.main_arg1) = m ((c.tc : Thread Cert.KvDown.nD Cert.KvDown.τ).loc Cert.KvDown.main_arg1)
      ∧ r.2.mem ((c.tc : Thread Cert.KvDown.nD Cert.KvDown.τ).loc Cert.KvDown.main_arg2) = m ((c.tc : Thread Cert.KvDown.nD Cert.KvDown.τ).loc Cert.KvDown.main_arg2)
      ∧ r.2.mem ((c.tc : Thread Cert.KvDown.nD Cert.KvDown.τ).loc Cert.KvDown.main_arg3) = m ((c.tc : Thread Cert.KvDown.nD Cert.KvDown.τ).loc Cert.KvDown.main_arg3)
      ∧ r.2.mem ((c.tc : Thread Cert.KvDown.nD Cert.KvDown.τ).loc Cert.KvDown.main_arg4) = m ((c.tc : Thread Cert.KvDown.nD Cert.KvDown.τ).loc Cert.KvDown.main_arg4)
      ∧ r.2.mem ((c.tc : Thread Cert.KvDown.nD Cert.KvDown.τ).loc Cert.KvDown.main_arg5) = m ((c.tc : Thread Cert.KvDown.nD Cert.KvDown.τ).loc Cert.KvDown.main_arg5)
      ∧ r.2.mem ((c.tc : Thread Cert.KvDown.nD Cert.KvDown.τ).loc Cert.KvDown.main_arg6) = m ((c.tc : Thread Cert.KvDown.nD Cert.KvDown.τ).loc Cert.KvDown.main_arg6))
      ∧ r.2.sem = fun _ => 0)

def quiescent_KvDownIdeal [hKvDownIdeal : Cert.KvDownIdeal.Facts] : Prop :=
  ∀ (m : (ℓ : Loc Cert.KvDownIdeal.nD Cert.KvDownIdeal.τ Cert.KvDownIdeal.sig) → Buf (Elt Ideal) ℓ) (g : Dev Cert.KvDownIdeal.nD → PrngReg), Pre_KvDownIdeal m →
    θ_run (Cert.KvDownIdeal.defs (F := Ideal)) (onTc (τ := Cert.KvDownIdeal.τ) (Cert.KvDownIdeal.main (F := Ideal))) ⟨m, fun _ => 0, g⟩ (fun r => (∀ c : Dev Cert.KvDownIdeal.nD,
      r.2.mem ((c.tc : Thread Cert.KvDownIdeal.nD Cert.KvDownIdeal.τ).loc Cert.KvDownIdeal.main_arg0) = m ((c.tc : Thread Cert.KvDownIdeal.nD Cert.KvDownIdeal.τ).loc Cert.KvDownIdeal.main_arg0)
      ∧ r.2.mem ((c.tc : Thread Cert.KvDownIdeal.nD Cert.KvDownIdeal.τ).loc Cert.KvDownIdeal.main_arg1) = m ((c.tc : Thread Cert.KvDownIdeal.nD Cert.KvDownIdeal.τ).loc Cert.KvDownIdeal.main_arg1)
      ∧ r.2.mem ((c.tc : Thread Cert.KvDownIdeal.nD Cert.KvDownIdeal.τ).loc Cert.KvDownIdeal.main_arg2) = m ((c.tc : Thread Cert.KvDownIdeal.nD Cert.KvDownIdeal.τ).loc Cert.KvDownIdeal.main_arg2)
      ∧ r.2.mem ((c.tc : Thread Cert.KvDownIdeal.nD Cert.KvDownIdeal.τ).loc Cert.KvDownIdeal.main_arg3) = m ((c.tc : Thread Cert.KvDownIdeal.nD Cert.KvDownIdeal.τ).loc Cert.KvDownIdeal.main_arg3)
      ∧ r.2.mem ((c.tc : Thread Cert.KvDownIdeal.nD Cert.KvDownIdeal.τ).loc Cert.KvDownIdeal.main_arg4) = m ((c.tc : Thread Cert.KvDownIdeal.nD Cert.KvDownIdeal.τ).loc Cert.KvDownIdeal.main_arg4)
      ∧ r.2.mem ((c.tc : Thread Cert.KvDownIdeal.nD Cert.KvDownIdeal.τ).loc Cert.KvDownIdeal.main_arg5) = m ((c.tc : Thread Cert.KvDownIdeal.nD Cert.KvDownIdeal.τ).loc Cert.KvDownIdeal.main_arg5)
      ∧ r.2.mem ((c.tc : Thread Cert.KvDownIdeal.nD Cert.KvDownIdeal.τ).loc Cert.KvDownIdeal.main_arg6) = m ((c.tc : Thread Cert.KvDownIdeal.nD Cert.KvDownIdeal.τ).loc Cert.KvDownIdeal.main_arg6))
      ∧ r.2.sem = fun _ => 0)

def quiescent_KvDownRefIdeal [hKvDownRefIdeal : Cert.KvDownRefIdeal.Facts] : Prop :=
  ∀ (m : (ℓ : Loc Cert.KvDownRefIdeal.nD Cert.KvDownRefIdeal.τ Cert.KvDownRefIdeal.sig) → Buf (Elt Ideal) ℓ) (g : Dev Cert.KvDownRefIdeal.nD → PrngReg), Pre_KvDownRefIdeal m →
    θ_run (Cert.KvDownRefIdeal.defs (F := Ideal)) (onTc (τ := Cert.KvDownRefIdeal.τ) (Cert.KvDownRefIdeal.main (F := Ideal))) ⟨m, fun _ => 0, g⟩ (fun r => (∀ c : Dev Cert.KvDownRefIdeal.nD,
      r.2.mem ((c.tc : Thread Cert.KvDownRefIdeal.nD Cert.KvDownRefIdeal.τ).loc Cert.KvDownRefIdeal.main_arg0) = m ((c.tc : Thread Cert.KvDownRefIdeal.nD Cert.KvDownRefIdeal.τ).loc Cert.KvDownRefIdeal.main_arg0)
      ∧ r.2.mem ((c.tc : Thread Cert.KvDownRefIdeal.nD Cert.KvDownRefIdeal.τ).loc Cert.KvDownRefIdeal.main_arg1) = m ((c.tc : Thread Cert.KvDownRefIdeal.nD Cert.KvDownRefIdeal.τ).loc Cert.KvDownRefIdeal.main_arg1)
      ∧ r.2.mem ((c.tc : Thread Cert.KvDownRefIdeal.nD Cert.KvDownRefIdeal.τ).loc Cert.KvDownRefIdeal.main_arg2) = m ((c.tc : Thread Cert.KvDownRefIdeal.nD Cert.KvDownRefIdeal.τ).loc Cert.KvDownRefIdeal.main_arg2)
      ∧ r.2.mem ((c.tc : Thread Cert.KvDownRefIdeal.nD Cert.KvDownRefIdeal.τ).loc Cert.KvDownRefIdeal.main_arg3) = m ((c.tc : Thread Cert.KvDownRefIdeal.nD Cert.KvDownRefIdeal.τ).loc Cert.KvDownRefIdeal.main_arg3)
      ∧ r.2.mem ((c.tc : Thread Cert.KvDownRefIdeal.nD Cert.KvDownRefIdeal.τ).loc Cert.KvDownRefIdeal.main_arg4) = m ((c.tc : Thread Cert.KvDownRefIdeal.nD Cert.KvDownRefIdeal.τ).loc Cert.KvDownRefIdeal.main_arg4)
      ∧ r.2.mem ((c.tc : Thread Cert.KvDownRefIdeal.nD Cert.KvDownRefIdeal.τ).loc Cert.KvDownRefIdeal.main_arg5) = m ((c.tc : Thread Cert.KvDownRefIdeal.nD Cert.KvDownRefIdeal.τ).loc Cert.KvDownRefIdeal.main_arg5)
      ∧ r.2.mem ((c.tc : Thread Cert.KvDownRefIdeal.nD Cert.KvDownRefIdeal.τ).loc Cert.KvDownRefIdeal.main_arg6) = m ((c.tc : Thread Cert.KvDownRefIdeal.nD Cert.KvDownRefIdeal.τ).loc Cert.KvDownRefIdeal.main_arg6))
      ∧ r.2.sem = fun _ => 0)

def quiescent_KUp [hKUp : Cert.KUp.Facts] : Prop :=
  ∀ (m : (ℓ : Loc Cert.KUp.nD Cert.KUp.τ Cert.KUp.sig) → Buf (Elt Bits) ℓ) (g : Dev Cert.KUp.nD → PrngReg), Pre_KUp m →
    θ_run (Cert.KUp.defs (F := Bits)) (onTc (τ := Cert.KUp.τ) (Cert.KUp.main (F := Bits))) ⟨m, fun _ => 0, g⟩ (fun r => (∀ c : Dev Cert.KUp.nD,
      r.2.mem ((c.tc : Thread Cert.KUp.nD Cert.KUp.τ).loc Cert.KUp.main_arg0) = m ((c.tc : Thread Cert.KUp.nD Cert.KUp.τ).loc Cert.KUp.main_arg0)
      ∧ r.2.mem ((c.tc : Thread Cert.KUp.nD Cert.KUp.τ).loc Cert.KUp.main_arg1) = m ((c.tc : Thread Cert.KUp.nD Cert.KUp.τ).loc Cert.KUp.main_arg1)
      ∧ r.2.mem ((c.tc : Thread Cert.KUp.nD Cert.KUp.τ).loc Cert.KUp.main_arg2) = m ((c.tc : Thread Cert.KUp.nD Cert.KUp.τ).loc Cert.KUp.main_arg2))
      ∧ r.2.sem = fun _ => 0)

def quiescent_KUpIdeal [hKUpIdeal : Cert.KUpIdeal.Facts] : Prop :=
  ∀ (m : (ℓ : Loc Cert.KUpIdeal.nD Cert.KUpIdeal.τ Cert.KUpIdeal.sig) → Buf (Elt Ideal) ℓ) (g : Dev Cert.KUpIdeal.nD → PrngReg), Pre_KUpIdeal m →
    θ_run (Cert.KUpIdeal.defs (F := Ideal)) (onTc (τ := Cert.KUpIdeal.τ) (Cert.KUpIdeal.main (F := Ideal))) ⟨m, fun _ => 0, g⟩ (fun r => (∀ c : Dev Cert.KUpIdeal.nD,
      r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
      ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
      ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2))
      ∧ r.2.sem = fun _ => 0)

def quiescent_KUpRefIdeal [hKUpRefIdeal : Cert.KUpRefIdeal.Facts] : Prop :=
  ∀ (m : (ℓ : Loc Cert.KUpRefIdeal.nD Cert.KUpRefIdeal.τ Cert.KUpRefIdeal.sig) → Buf (Elt Ideal) ℓ) (g : Dev Cert.KUpRefIdeal.nD → PrngReg), Pre_KUpRefIdeal m →
    θ_run (Cert.KUpRefIdeal.defs (F := Ideal)) (onTc (τ := Cert.KUpRefIdeal.τ) (Cert.KUpRefIdeal.main (F := Ideal))) ⟨m, fun _ => 0, g⟩ (fun r => (∀ c : Dev Cert.KUpRefIdeal.nD,
      r.2.mem ((c.tc : Thread Cert.KUpRefIdeal.nD Cert.KUpRefIdeal.τ).loc Cert.KUpRefIdeal.main_arg0) = m ((c.tc : Thread Cert.KUpRefIdeal.nD Cert.KUpRefIdeal.τ).loc Cert.KUpRefIdeal.main_arg0)
      ∧ r.2.mem ((c.tc : Thread Cert.KUpRefIdeal.nD Cert.KUpRefIdeal.τ).loc Cert.KUpRefIdeal.main_arg1) = m ((c.tc : Thread Cert.KUpRefIdeal.nD Cert.KUpRefIdeal.τ).loc Cert.KUpRefIdeal.main_arg1)
      ∧ r.2.mem ((c.tc : Thread Cert.KUpRefIdeal.nD Cert.KUpRefIdeal.τ).loc Cert.KUpRefIdeal.main_arg2) = m ((c.tc : Thread Cert.KUpRefIdeal.nD Cert.KUpRefIdeal.τ).loc Cert.KUpRefIdeal.main_arg2))
      ∧ r.2.sem = fun _ => 0)

def quiescent_VUp [hVUp : Cert.VUp.Facts] : Prop :=
  ∀ (m : (ℓ : Loc Cert.VUp.nD Cert.VUp.τ Cert.VUp.sig) → Buf (Elt Bits) ℓ) (g : Dev Cert.VUp.nD → PrngReg), Pre_VUp m →
    θ_run (Cert.VUp.defs (F := Bits)) (onTc (τ := Cert.VUp.τ) (Cert.VUp.main (F := Bits))) ⟨m, fun _ => 0, g⟩ (fun r => (∀ c : Dev Cert.VUp.nD,
      r.2.mem ((c.tc : Thread Cert.VUp.nD Cert.VUp.τ).loc Cert.VUp.main_arg0) = m ((c.tc : Thread Cert.VUp.nD Cert.VUp.τ).loc Cert.VUp.main_arg0)
      ∧ r.2.mem ((c.tc : Thread Cert.VUp.nD Cert.VUp.τ).loc Cert.VUp.main_arg1) = m ((c.tc : Thread Cert.VUp.nD Cert.VUp.τ).loc Cert.VUp.main_arg1))
      ∧ r.2.sem = fun _ => 0)

def quiescent_VUpIdeal [hVUpIdeal : Cert.VUpIdeal.Facts] : Prop :=
  ∀ (m : (ℓ : Loc Cert.VUpIdeal.nD Cert.VUpIdeal.τ Cert.VUpIdeal.sig) → Buf (Elt Ideal) ℓ) (g : Dev Cert.VUpIdeal.nD → PrngReg), Pre_VUpIdeal m →
    θ_run (Cert.VUpIdeal.defs (F := Ideal)) (onTc (τ := Cert.VUpIdeal.τ) (Cert.VUpIdeal.main (F := Ideal))) ⟨m, fun _ => 0, g⟩ (fun r => (∀ c : Dev Cert.VUpIdeal.nD,
      r.2.mem ((c.tc : Thread Cert.VUpIdeal.nD Cert.VUpIdeal.τ).loc Cert.VUpIdeal.main_arg0) = m ((c.tc : Thread Cert.VUpIdeal.nD Cert.VUpIdeal.τ).loc Cert.VUpIdeal.main_arg0)
      ∧ r.2.mem ((c.tc : Thread Cert.VUpIdeal.nD Cert.VUpIdeal.τ).loc Cert.VUpIdeal.main_arg1) = m ((c.tc : Thread Cert.VUpIdeal.nD Cert.VUpIdeal.τ).loc Cert.VUpIdeal.main_arg1))
      ∧ r.2.sem = fun _ => 0)

def quiescent_VUpRefIdeal [hVUpRefIdeal : Cert.VUpRefIdeal.Facts] : Prop :=
  ∀ (m : (ℓ : Loc Cert.VUpRefIdeal.nD Cert.VUpRefIdeal.τ Cert.VUpRefIdeal.sig) → Buf (Elt Ideal) ℓ) (g : Dev Cert.VUpRefIdeal.nD → PrngReg), Pre_VUpRefIdeal m →
    θ_run (Cert.VUpRefIdeal.defs (F := Ideal)) (onTc (τ := Cert.VUpRefIdeal.τ) (Cert.VUpRefIdeal.main (F := Ideal))) ⟨m, fun _ => 0, g⟩ (fun r => (∀ c : Dev Cert.VUpRefIdeal.nD,
      r.2.mem ((c.tc : Thread Cert.VUpRefIdeal.nD Cert.VUpRefIdeal.τ).loc Cert.VUpRefIdeal.main_arg0) = m ((c.tc : Thread Cert.VUpRefIdeal.nD Cert.VUpRefIdeal.τ).loc Cert.VUpRefIdeal.main_arg0)
      ∧ r.2.mem ((c.tc : Thread Cert.VUpRefIdeal.nD Cert.VUpRefIdeal.τ).loc Cert.VUpRefIdeal.main_arg1) = m ((c.tc : Thread Cert.VUpRefIdeal.nD Cert.VUpRefIdeal.τ).loc Cert.VUpRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v8) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_ScIn_ScInIdeal : Prop :=
  True

def algebraic_ScInIdeal_ScInRefIdeal [hScInIdeal : Cert.ScInIdeal.Facts] [hScInRefIdeal : Cert.ScInRefIdeal.Facts] : Prop :=
  ∀ (m : (ℓ : Loc Cert.ScInIdeal.nD Cert.ScInIdeal.τ Cert.ScInIdeal.sig) → Buf (Elt Ideal) ℓ) (g : Dev Cert.ScInIdeal.nD → PrngReg)
    (m' : (ℓ : Loc Cert.ScInRefIdeal.nD Cert.ScInRefIdeal.τ Cert.ScInRefIdeal.sig) → Buf (Elt Ideal) ℓ) (g' : Dev Cert.ScInRefIdeal.nD → PrngReg), Pre_ScInIdeal m →
    (∀ c : Dev Cert.ScInIdeal.nD,
      m' ((c.tc : Thread Cert.ScInRefIdeal.nD Cert.ScInRefIdeal.τ).loc Cert.ScInRefIdeal.main_arg0) = m ((c.tc : Thread Cert.ScInIdeal.nD Cert.ScInIdeal.τ).loc Cert.ScInIdeal.main_arg0)
      ∧ m' ((c.tc : Thread Cert.ScInRefIdeal.nD Cert.ScInRefIdeal.τ).loc Cert.ScInRefIdeal.main_arg1) = m ((c.tc : Thread Cert.ScInIdeal.nD Cert.ScInIdeal.τ).loc Cert.ScInIdeal.main_arg1)) →
    ∃ (v0 : (c : Dev Cert.ScInIdeal.nD) → Buf (Elt Ideal) ((c.tc : Thread Cert.ScInIdeal.nD Cert.ScInIdeal.τ).loc Cert.ScInIdeal.main_v0_0)) (v1 : (c : Dev Cert.ScInIdeal.nD) → Buf (Elt Ideal) ((c.tc : Thread Cert.ScInIdeal.nD Cert.ScInIdeal.τ).loc Cert.ScInIdeal.main_v0_1)),
      θ_run (Cert.ScInIdeal.defs (F := Ideal)) (onTc (τ := Cert.ScInIdeal.τ) (Cert.ScInIdeal.main (F := Ideal))) ⟨m, fun _ => 0, g⟩ (fun r => ∀ c : Dev Cert.ScInIdeal.nD,
          r.2.mem ((c.tc : Thread Cert.ScInIdeal.nD Cert.ScInIdeal.τ).loc Cert.ScInIdeal.main_v0_0) = v0 c
          ∧ r.2.mem ((c.tc : Thread Cert.ScInIdeal.nD Cert.ScInIdeal.τ).loc Cert.ScInIdeal.main_v0_1) = v1 c
          ∧ r.2.mem ((c.tc : Thread Cert.ScInIdeal.nD Cert.ScInIdeal.τ).loc Cert.ScInIdeal.main_arg0) = m ((c.tc : Thread Cert.ScInIdeal.nD Cert.ScInIdeal.τ).loc Cert.ScInIdeal.main_arg0)
          ∧ r.2.mem ((c.tc : Thread Cert.ScInIdeal.nD Cert.ScInIdeal.τ).loc Cert.ScInIdeal.main_arg1) = m ((c.tc : Thread Cert.ScInIdeal.nD Cert.ScInIdeal.τ).loc Cert.ScInIdeal.main_arg1))
      ∧ θ_run (Cert.ScInRefIdeal.defs (F := Ideal)) (onTc (τ := Cert.ScInRefIdeal.τ) (Cert.ScInRefIdeal.main (F := Ideal))) ⟨m', fun _ => 0, g'⟩ (fun r => ∀ c : Dev Cert.ScInRefIdeal.nD,
          r.2.mem ((c.tc : Thread Cert.ScInRefIdeal.nD Cert.ScInRefIdeal.τ).loc Cert.ScInRefIdeal.main_v8) = v0 c
          ∧ r.2.mem ((c.tc : Thread Cert.ScInRefIdeal.nD Cert.ScInRefIdeal.τ).loc Cert.ScInRefIdeal.main_v9) = v1 c
          ∧ r.2.mem ((c.tc : Thread Cert.ScInRefIdeal.nD Cert.ScInRefIdeal.τ).loc Cert.ScInRefIdeal.main_arg0) = m' ((c.tc : Thread Cert.ScInRefIdeal.nD Cert.ScInRefIdeal.τ).loc Cert.ScInRefIdeal.main_arg0)
          ∧ r.2.mem ((c.tc : Thread Cert.ScInRefIdeal.nD Cert.ScInRefIdeal.τ).loc Cert.ScInRefIdeal.main_arg1) = m' ((c.tc : Thread Cert.ScInRefIdeal.nD Cert.ScInRefIdeal.τ).loc Cert.ScInRefIdeal.main_arg1))

def preserves_ScOut_ScOutIdeal : Prop :=
  True

def algebraic_ScOutIdeal_ScOutRefIdeal [hScOutIdeal : Cert.ScOutIdeal.Facts] [hScOutRefIdeal : Cert.ScOutRefIdeal.Facts] : Prop :=
  ∀ (m : (ℓ : Loc Cert.ScOutIdeal.nD Cert.ScOutIdeal.τ Cert.ScOutIdeal.sig) → Buf (Elt Ideal) ℓ) (g : Dev Cert.ScOutIdeal.nD → PrngReg)
    (m' : (ℓ : Loc Cert.ScOutRefIdeal.nD Cert.ScOutRefIdeal.τ Cert.ScOutRefIdeal.sig) → Buf (Elt Ideal) ℓ) (g' : Dev Cert.ScOutRefIdeal.nD → PrngReg), Pre_ScOutIdeal m →
    (∀ c : Dev Cert.ScOutIdeal.nD,
      m' ((c.tc : Thread Cert.ScOutRefIdeal.nD Cert.ScOutRefIdeal.τ).loc Cert.ScOutRefIdeal.main_arg0) = m ((c.tc : Thread Cert.ScOutIdeal.nD Cert.ScOutIdeal.τ).loc Cert.ScOutIdeal.main_arg0)
      ∧ m' ((c.tc : Thread Cert.ScOutRefIdeal.nD Cert.ScOutRefIdeal.τ).loc Cert.ScOutRefIdeal.main_arg1) = m ((c.tc : Thread Cert.ScOutIdeal.nD Cert.ScOutIdeal.τ).loc Cert.ScOutIdeal.main_arg1)
      ∧ m' ((c.tc : Thread Cert.ScOutRefIdeal.nD Cert.ScOutRefIdeal.τ).loc Cert.ScOutRefIdeal.main_arg2) = m ((c.tc : Thread Cert.ScOutIdeal.nD Cert.ScOutIdeal.τ).loc Cert.ScOutIdeal.main_arg2)
      ∧ m' ((c.tc : Thread Cert.ScOutRefIdeal.nD Cert.ScOutRefIdeal.τ).loc Cert.ScOutRefIdeal.main_arg3) = m ((c.tc : Thread Cert.ScOutIdeal.nD Cert.ScOutIdeal.τ).loc Cert.ScOutIdeal.main_arg3)) →
    ∃ (v0 : (c : Dev Cert.ScOutIdeal.nD) → Buf (Elt Ideal) ((c.tc : Thread Cert.ScOutIdeal.nD Cert.ScOutIdeal.τ).loc Cert.ScOutIdeal.main_v5)),
      θ_run (Cert.ScOutIdeal.defs (F := Ideal)) (onTc (τ := Cert.ScOutIdeal.τ) (Cert.ScOutIdeal.main (F := Ideal))) ⟨m, fun _ => 0, g⟩ (fun r => ∀ c : Dev Cert.ScOutIdeal.nD,
          r.2.mem ((c.tc : Thread Cert.ScOutIdeal.nD Cert.ScOutIdeal.τ).loc Cert.ScOutIdeal.main_v5) = v0 c
          ∧ r.2.mem ((c.tc : Thread Cert.ScOutIdeal.nD Cert.ScOutIdeal.τ).loc Cert.ScOutIdeal.main_arg0) = m ((c.tc : Thread Cert.ScOutIdeal.nD Cert.ScOutIdeal.τ).loc Cert.ScOutIdeal.main_arg0)
          ∧ r.2.mem ((c.tc : Thread Cert.ScOutIdeal.nD Cert.ScOutIdeal.τ).loc Cert.ScOutIdeal.main_arg1) = m ((c.tc : Thread Cert.ScOutIdeal.nD Cert.ScOutIdeal.τ).loc Cert.ScOutIdeal.main_arg1)
          ∧ r.2.mem ((c.tc : Thread Cert.ScOutIdeal.nD Cert.ScOutIdeal.τ).loc Cert.ScOutIdeal.main_arg2) = m ((c.tc : Thread Cert.ScOutIdeal.nD Cert.ScOutIdeal.τ).loc Cert.ScOutIdeal.main_arg2)
          ∧ r.2.mem ((c.tc : Thread Cert.ScOutIdeal.nD Cert.ScOutIdeal.τ).loc Cert.ScOutIdeal.main_arg3) = m ((c.tc : Thread Cert.ScOutIdeal.nD Cert.ScOutIdeal.τ).loc Cert.ScOutIdeal.main_arg3))
      ∧ θ_run (Cert.ScOutRefIdeal.defs (F := Ideal)) (onTc (τ := Cert.ScOutRefIdeal.τ) (Cert.ScOutRefIdeal.main (F := Ideal))) ⟨m', fun _ => 0, g'⟩ (fun r => ∀ c : Dev Cert.ScOutRefIdeal.nD,
          r.2.mem ((c.tc : Thread Cert.ScOutRefIdeal.nD Cert.ScOutRefIdeal.τ).loc Cert.ScOutRefIdeal.main_v29) = v0 c
          ∧ r.2.mem ((c.tc : Thread Cert.ScOutRefIdeal.nD Cert.ScOutRefIdeal.τ).loc Cert.ScOutRefIdeal.main_arg0) = m' ((c.tc : Thread Cert.ScOutRefIdeal.nD Cert.ScOutRefIdeal.τ).loc Cert.ScOutRefIdeal.main_arg0)
          ∧ r.2.mem ((c.tc : Thread Cert.ScOutRefIdeal.nD Cert.ScOutRefIdeal.τ).loc Cert.ScOutRefIdeal.main_arg1) = m' ((c.tc : Thread Cert.ScOutRefIdeal.nD Cert.ScOutRefIdeal.τ).loc Cert.ScOutRefIdeal.main_arg1)
          ∧ r.2.mem ((c.tc : Thread Cert.ScOutRefIdeal.nD Cert.ScOutRefIdeal.τ).loc Cert.ScOutRefIdeal.main_arg2) = m' ((c.tc : Thread Cert.ScOutRefIdeal.nD Cert.ScOutRefIdeal.τ).loc Cert.ScOutRefIdeal.main_arg2)
          ∧ r.2.mem ((c.tc : Thread Cert.ScOutRefIdeal.nD Cert.ScOutRefIdeal.τ).loc Cert.ScOutRefIdeal.main_arg3) = m' ((c.tc : Thread Cert.ScOutRefIdeal.nD Cert.ScOutRefIdeal.τ).loc Cert.ScOutRefIdeal.main_arg3))

def preserves_HyIn_HyInIdeal : Prop :=
  True

def algebraic_HyInIdeal_HyInRefIdeal [hHyInIdeal : Cert.HyInIdeal.Facts] [hHyInRefIdeal : Cert.HyInRefIdeal.Facts] : Prop :=
  ∀ (m : (ℓ : Loc Cert.HyInIdeal.nD Cert.HyInIdeal.τ Cert.HyInIdeal.sig) → Buf (Elt Ideal) ℓ) (g : Dev Cert.HyInIdeal.nD → PrngReg)
    (m' : (ℓ : Loc Cert.HyInRefIdeal.nD Cert.HyInRefIdeal.τ Cert.HyInRefIdeal.sig) → Buf (Elt Ideal) ℓ) (g' : Dev Cert.HyInRefIdeal.nD → PrngReg), Pre_HyInIdeal m →
    (∀ c : Dev Cert.HyInIdeal.nD,
      m' ((c.tc : Thread Cert.HyInRefIdeal.nD Cert.HyInRefIdeal.τ).loc Cert.HyInRefIdeal.main_arg0) = m ((c.tc : Thread Cert.HyInIdeal.nD Cert.HyInIdeal.τ).loc Cert.HyInIdeal.main_arg0)
      ∧ m' ((c.tc : Thread Cert.HyInRefIdeal.nD Cert.HyInRefIdeal.τ).loc Cert.HyInRefIdeal.main_arg1) = m ((c.tc : Thread Cert.HyInIdeal.nD Cert.HyInIdeal.τ).loc Cert.HyInIdeal.main_arg1)) →
    ∃ (v0 : (c : Dev Cert.HyInIdeal.nD) → Buf (Elt Ideal) ((c.tc : Thread Cert.HyInIdeal.nD Cert.HyInIdeal.τ).loc Cert.HyInIdeal.main_v0)),
      θ_run (Cert.HyInIdeal.defs (F := Ideal)) (onTc (τ := Cert.HyInIdeal.τ) (Cert.HyInIdeal.main (F := Ideal))) ⟨m, fun _ => 0, g⟩ (fun r => ∀ c : Dev Cert.HyInIdeal.nD,
          r.2.mem ((c.tc : Thread Cert.HyInIdeal.nD Cert.HyInIdeal.τ).loc Cert.HyInIdeal.main_v0) = v0 c
          ∧ r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
          ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1))
      ∧ θ_run (Cert.HyInRefIdeal.defs (F := Ideal)) (onTc (τ := Cert.HyInRefIdeal.τ) (Cert.HyInRefIdeal.main (F := Ideal))) ⟨m', fun _ => 0, g'⟩ (fun r => ∀ c : Dev Cert.HyInRefIdeal.nD,
          r.2.mem ((c.tc : Thread Cert.HyInRefIdeal.nD Cert.HyInRefIdeal.τ).loc Cert.HyInRefIdeal.main_v3) = v0 c
          ∧ r.2.mem ((c.tc : Thread Cert.HyInRefIdeal.nD Cert.HyInRefIdeal.τ).loc Cert.HyInRefIdeal.main_arg0) = m' ((c.tc : Thread Cert.HyInRefIdeal.nD Cert.HyInRefIdeal.τ).loc Cert.HyInRefIdeal.main_arg0)
          ∧ r.2.mem ((c.tc : Thread Cert.HyInRefIdeal.nD Cert.HyInRefIdeal.τ).loc Cert.HyInRefIdeal.main_arg1) = m' ((c.tc : Thread Cert.HyInRefIdeal.nD Cert.HyInRefIdeal.τ).loc Cert.HyInRefIdeal.main_arg1))

def preserves_HyOut_HyOutIdeal : Prop :=
  True

def algebraic_HyOutIdeal_HyOutRefIdeal [hHyOutIdeal : Cert.HyOutIdeal.Facts] [hHyOutRefIdeal : Cert.HyOutRefIdeal.Facts] : Prop :=
  ∀ (m : (ℓ : Loc Cert.HyOutIdeal.nD Cert.HyOutIdeal.τ Cert.HyOutIdeal.sig) → Buf (Elt Ideal) ℓ) (g : Dev Cert.HyOutIdeal.nD → PrngReg)
    (m' : (ℓ : Loc Cert.HyOutRefIdeal.nD Cert.HyOutRefIdeal.τ Cert.HyOutRefIdeal.sig) → Buf (Elt Ideal) ℓ) (g' : Dev Cert.HyOutRefIdeal.nD → PrngReg), Pre_HyOutIdeal m →
    (∀ c : Dev Cert.HyOutIdeal.nD,
      m' ((c.tc : Thread Cert.HyOutRefIdeal.nD Cert.HyOutRefIdeal.τ).loc Cert.HyOutRefIdeal.main_arg0) = m ((c.tc : Thread Cert.HyOutIdeal.nD Cert.HyOutIdeal.τ).loc Cert.HyOutIdeal.main_arg0)
      ∧ m' ((c.tc : Thread Cert.HyOutRefIdeal.nD Cert.HyOutRefIdeal.τ).loc Cert.HyOutRefIdeal.main_arg1) = m ((c.tc : Thread Cert.HyOutIdeal.nD Cert.HyOutIdeal.τ).loc Cert.HyOutIdeal.main_arg1)
      ∧ m' ((c.tc : Thread Cert.HyOutRefIdeal.nD Cert.HyOutRefIdeal.τ).loc Cert.HyOutRefIdeal.main_arg2) = m ((c.tc : Thread Cert.HyOutIdeal.nD Cert.HyOutIdeal.τ).loc Cert.HyOutIdeal.main_arg2)
      ∧ m' ((c.tc : Thread Cert.HyOutRefIdeal.nD Cert.HyOutRefIdeal.τ).loc Cert.HyOutRefIdeal.main_arg3) = m ((c.tc : Thread Cert.HyOutIdeal.nD Cert.HyOutIdeal.τ).loc Cert.HyOutIdeal.main_arg3)
      ∧ m' ((c.tc : Thread Cert.HyOutRefIdeal.nD Cert.HyOutRefIdeal.τ).loc Cert.HyOutRefIdeal.main_arg4) = m ((c.tc : Thread Cert.HyOutIdeal.nD Cert.HyOutIdeal.τ).loc Cert.HyOutIdeal.main_arg4)) →
    ∃ (v0 : (c : Dev Cert.HyOutIdeal.nD) → Buf (Elt Ideal) ((c.tc : Thread Cert.HyOutIdeal.nD Cert.HyOutIdeal.τ).loc Cert.HyOutIdeal.main_v5)),
      θ_run (Cert.HyOutIdeal.defs (F := Ideal)) (onTc (τ := Cert.HyOutIdeal.τ) (Cert.HyOutIdeal.main (F := Ideal))) ⟨m, fun _ => 0, g⟩ (fun r => ∀ c : Dev Cert.HyOutIdeal.nD,
          r.2.mem ((c.tc : Thread Cert.HyOutIdeal.nD Cert.HyOutIdeal.τ).loc Cert.HyOutIdeal.main_v5) = v0 c
          ∧ r.2.mem ((c.tc : Thread Cert.HyOutIdeal.nD Cert.HyOutIdeal.τ).loc Cert.HyOutIdeal.main_arg0) = m ((c.tc : Thread Cert.HyOutIdeal.nD Cert.HyOutIdeal.τ).loc Cert.HyOutIdeal.main_arg0)
          ∧ r.2.mem ((c.tc : Thread Cert.HyOutIdeal.nD Cert.HyOutIdeal.τ).loc Cert.HyOutIdeal.main_arg1) = m ((c.tc : Thread Cert.HyOutIdeal.nD Cert.HyOutIdeal.τ).loc Cert.HyOutIdeal.main_arg1)
          ∧ r.2.mem ((c.tc : Thread Cert.HyOutIdeal.nD Cert.HyOutIdeal.τ).loc Cert.HyOutIdeal.main_arg2) = m ((c.tc : Thread Cert.HyOutIdeal.nD Cert.HyOutIdeal.τ).loc Cert.HyOutIdeal.main_arg2)
          ∧ r.2.mem ((c.tc : Thread Cert.HyOutIdeal.nD Cert.HyOutIdeal.τ).loc Cert.HyOutIdeal.main_arg3) = m ((c.tc : Thread Cert.HyOutIdeal.nD Cert.HyOutIdeal.τ).loc Cert.HyOutIdeal.main_arg3)
          ∧ r.2.mem ((c.tc : Thread Cert.HyOutIdeal.nD Cert.HyOutIdeal.τ).loc Cert.HyOutIdeal.main_arg4) = m ((c.tc : Thread Cert.HyOutIdeal.nD Cert.HyOutIdeal.τ).loc Cert.HyOutIdeal.main_arg4))
      ∧ θ_run (Cert.HyOutRefIdeal.defs (F := Ideal)) (onTc (τ := Cert.HyOutRefIdeal.τ) (Cert.HyOutRefIdeal.main (F := Ideal))) ⟨m', fun _ => 0, g'⟩ (fun r => ∀ c : Dev Cert.HyOutRefIdeal.nD,
          r.2.mem ((c.tc : Thread Cert.HyOutRefIdeal.nD Cert.HyOutRefIdeal.τ).loc Cert.HyOutRefIdeal.main_v11) = v0 c
          ∧ r.2.mem ((c.tc : Thread Cert.HyOutRefIdeal.nD Cert.HyOutRefIdeal.τ).loc Cert.HyOutRefIdeal.main_arg0) = m' ((c.tc : Thread Cert.HyOutRefIdeal.nD Cert.HyOutRefIdeal.τ).loc Cert.HyOutRefIdeal.main_arg0)
          ∧ r.2.mem ((c.tc : Thread Cert.HyOutRefIdeal.nD Cert.HyOutRefIdeal.τ).loc Cert.HyOutRefIdeal.main_arg1) = m' ((c.tc : Thread Cert.HyOutRefIdeal.nD Cert.HyOutRefIdeal.τ).loc Cert.HyOutRefIdeal.main_arg1)
          ∧ r.2.mem ((c.tc : Thread Cert.HyOutRefIdeal.nD Cert.HyOutRefIdeal.τ).loc Cert.HyOutRefIdeal.main_arg2) = m' ((c.tc : Thread Cert.HyOutRefIdeal.nD Cert.HyOutRefIdeal.τ).loc Cert.HyOutRefIdeal.main_arg2)
          ∧ r.2.mem ((c.tc : Thread Cert.HyOutRefIdeal.nD Cert.HyOutRefIdeal.τ).loc Cert.HyOutRefIdeal.main_arg3) = m' ((c.tc : Thread Cert.HyOutRefIdeal.nD Cert.HyOutRefIdeal.τ).loc Cert.HyOutRefIdeal.main_arg3)
          ∧ r.2.mem ((c.tc : Thread Cert.HyOutRefIdeal.nD Cert.HyOutRefIdeal.τ).loc Cert.HyOutRefIdeal.main_arg4) = m' ((c.tc : Thread Cert.HyOutRefIdeal.nD Cert.HyOutRefIdeal.τ).loc Cert.HyOutRefIdeal.main_arg4))

def preserves_MlaOut_MlaOutIdeal : Prop :=
  True

def algebraic_MlaOutIdeal_MlaOutRefIdeal [hMlaOutIdeal : Cert.MlaOutIdeal.Facts] [hMlaOutRefIdeal : Cert.MlaOutRefIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg)
    (m' : (ℓ : Loc Cert.MlaOutRefIdeal.nD Cert.MlaOutRefIdeal.τ Cert.MlaOutRefIdeal.sig) → Buf (Elt Ideal) ℓ) (g' : Dev Cert.MlaOutRefIdeal.nD → PrngReg), Pre_MlaOutIdeal m →
    (∀ c : Dev Cert.MlaOutIdeal.nD,
      m' ((c.tc : Thread Cert.MlaOutRefIdeal.nD Cert.MlaOutRefIdeal.τ).loc Cert.MlaOutRefIdeal.main_arg0) = m ((c.tc : Thread Cert.MlaOutIdeal.nD Cert.MlaOutIdeal.τ).loc Cert.MlaOutIdeal.main_arg0)
      ∧ m' ((c.tc : Thread Cert.MlaOutRefIdeal.nD Cert.MlaOutRefIdeal.τ).loc Cert.MlaOutRefIdeal.main_arg1) = m ((c.tc : Thread Cert.MlaOutIdeal.nD Cert.MlaOutIdeal.τ).loc Cert.MlaOutIdeal.main_arg1)) →
    ∃ (v0 : (c : Dev Cert.MlaOutIdeal.nD) → Buf (Elt Ideal) ((c.tc : Thread Cert.MlaOutIdeal.nD Cert.MlaOutIdeal.τ).loc Cert.MlaOutIdeal.main_v1)),
      θ_run (Cert.MlaOutIdeal.defs (F := Ideal)) (onTc (τ := Cert.MlaOutIdeal.τ) (Cert.MlaOutIdeal.main (F := Ideal))) ⟨m, fun _ => 0, g⟩ (fun r => ∀ c : Dev Cert.MlaOutIdeal.nD,
          r.2.mem ((c.tc : Thread Cert.MlaOutIdeal.nD Cert.MlaOutIdeal.τ).loc Cert.MlaOutIdeal.main_v1) = v0 c
          ∧ r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
          ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1))
      ∧ θ_run (Cert.MlaOutRefIdeal.defs (F := Ideal)) (onTc (τ := Cert.MlaOutRefIdeal.τ) (Cert.MlaOutRefIdeal.main (F := Ideal))) ⟨m', fun _ => 0, g'⟩ (fun r => ∀ c : Dev Cert.MlaOutRefIdeal.nD,
          r.2.mem ((c.tc : Thread Cert.MlaOutRefIdeal.nD Cert.MlaOutRefIdeal.τ).loc Cert.MlaOutRefIdeal.main_v3) = v0 c
          ∧ r.2.mem ((c.tc : Thread Cert.MlaOutRefIdeal.nD Cert.MlaOutRefIdeal.τ).loc Cert.MlaOutRefIdeal.main_arg0) = m' ((c.tc : Thread Cert.MlaOutRefIdeal.nD Cert.MlaOutRefIdeal.τ).loc Cert.MlaOutRefIdeal.main_arg0)
          ∧ r.2.mem ((c.tc : Thread Cert.MlaOutRefIdeal.nD Cert.MlaOutRefIdeal.τ).loc Cert.MlaOutRefIdeal.main_arg1) = m' ((c.tc : Thread Cert.MlaOutRefIdeal.nD Cert.MlaOutRefIdeal.τ).loc Cert.MlaOutRefIdeal.main_arg1))

def preserves_QDown_QDownIdeal : Prop :=
  True

def algebraic_QDownIdeal_QDownRefIdeal [hQDownIdeal : Cert.QDownIdeal.Facts] [hQDownRefIdeal : Cert.QDownRefIdeal.Facts] : Prop :=
  ∀ (m : (ℓ : Loc Cert.QDownIdeal.nD Cert.QDownIdeal.τ Cert.QDownIdeal.sig) → Buf (Elt Ideal) ℓ) (g : Dev Cert.QDownIdeal.nD → PrngReg)
    (m' : (ℓ : Loc Cert.QDownRefIdeal.nD Cert.QDownRefIdeal.τ Cert.QDownRefIdeal.sig) → Buf (Elt Ideal) ℓ) (g' : Dev Cert.QDownRefIdeal.nD → PrngReg), Pre_QDownIdeal m →
    (∀ c : Dev Cert.QDownIdeal.nD,
      m' ((c.tc : Thread Cert.QDownRefIdeal.nD Cert.QDownRefIdeal.τ).loc Cert.QDownRefIdeal.main_arg0) = m ((c.tc : Thread Cert.QDownIdeal.nD Cert.QDownIdeal.τ).loc Cert.QDownIdeal.main_arg0)
      ∧ m' ((c.tc : Thread Cert.QDownRefIdeal.nD Cert.QDownRefIdeal.τ).loc Cert.QDownRefIdeal.main_arg1) = m ((c.tc : Thread Cert.QDownIdeal.nD Cert.QDownIdeal.τ).loc Cert.QDownIdeal.main_arg1)
      ∧ m' ((c.tc : Thread Cert.QDownRefIdeal.nD Cert.QDownRefIdeal.τ).loc Cert.QDownRefIdeal.main_arg2) = m ((c.tc : Thread Cert.QDownIdeal.nD Cert.QDownIdeal.τ).loc Cert.QDownIdeal.main_arg2)) →
    ∃ (v0 : (c : Dev Cert.QDownIdeal.nD) → Buf (Elt Ideal) ((c.tc : Thread Cert.QDownIdeal.nD Cert.QDownIdeal.τ).loc Cert.QDownIdeal.main_v5)),
      θ_run (Cert.QDownIdeal.defs (F := Ideal)) (onTc (τ := Cert.QDownIdeal.τ) (Cert.QDownIdeal.main (F := Ideal))) ⟨m, fun _ => 0, g⟩ (fun r => ∀ c : Dev Cert.QDownIdeal.nD,
          r.2.mem ((c.tc : Thread Cert.QDownIdeal.nD Cert.QDownIdeal.τ).loc Cert.QDownIdeal.main_v5) = v0 c
          ∧ r.2.mem ((c.tc : Thread Cert.QDownIdeal.nD Cert.QDownIdeal.τ).loc Cert.QDownIdeal.main_arg0) = m ((c.tc : Thread Cert.QDownIdeal.nD Cert.QDownIdeal.τ).loc Cert.QDownIdeal.main_arg0)
          ∧ r.2.mem ((c.tc : Thread Cert.QDownIdeal.nD Cert.QDownIdeal.τ).loc Cert.QDownIdeal.main_arg1) = m ((c.tc : Thread Cert.QDownIdeal.nD Cert.QDownIdeal.τ).loc Cert.QDownIdeal.main_arg1)
          ∧ r.2.mem ((c.tc : Thread Cert.QDownIdeal.nD Cert.QDownIdeal.τ).loc Cert.QDownIdeal.main_arg2) = m ((c.tc : Thread Cert.QDownIdeal.nD Cert.QDownIdeal.τ).loc Cert.QDownIdeal.main_arg2))
      ∧ θ_run (Cert.QDownRefIdeal.defs (F := Ideal)) (onTc (τ := Cert.QDownRefIdeal.τ) (Cert.QDownRefIdeal.main (F := Ideal))) ⟨m', fun _ => 0, g'⟩ (fun r => ∀ c : Dev Cert.QDownRefIdeal.nD,
          r.2.mem ((c.tc : Thread Cert.QDownRefIdeal.nD Cert.QDownRefIdeal.τ).loc Cert.QDownRefIdeal.main_v18) = v0 c
          ∧ r.2.mem ((c.tc : Thread Cert.QDownRefIdeal.nD Cert.QDownRefIdeal.τ).loc Cert.QDownRefIdeal.main_arg0) = m' ((c.tc : Thread Cert.QDownRefIdeal.nD Cert.QDownRefIdeal.τ).loc Cert.QDownRefIdeal.main_arg0)
          ∧ r.2.mem ((c.tc : Thread Cert.QDownRefIdeal.nD Cert.QDownRefIdeal.τ).loc Cert.QDownRefIdeal.main_arg1) = m' ((c.tc : Thread Cert.QDownRefIdeal.nD Cert.QDownRefIdeal.τ).loc Cert.QDownRefIdeal.main_arg1)
          ∧ r.2.mem ((c.tc : Thread Cert.QDownRefIdeal.nD Cert.QDownRefIdeal.τ).loc Cert.QDownRefIdeal.main_arg2) = m' ((c.tc : Thread Cert.QDownRefIdeal.nD Cert.QDownRefIdeal.τ).loc Cert.QDownRefIdeal.main_arg2))

def preserves_KvDown_KvDownIdeal : Prop :=
  True

def algebraic_KvDownIdeal_KvDownRefIdeal [hKvDownIdeal : Cert.KvDownIdeal.Facts] [hKvDownRefIdeal : Cert.KvDownRefIdeal.Facts] : Prop :=
  ∀ (m : (ℓ : Loc Cert.KvDownIdeal.nD Cert.KvDownIdeal.τ Cert.KvDownIdeal.sig) → Buf (Elt Ideal) ℓ) (g : Dev Cert.KvDownIdeal.nD → PrngReg)
    (m' : (ℓ : Loc Cert.KvDownRefIdeal.nD Cert.KvDownRefIdeal.τ Cert.KvDownRefIdeal.sig) → Buf (Elt Ideal) ℓ) (g' : Dev Cert.KvDownRefIdeal.nD → PrngReg), Pre_KvDownIdeal m →
    (∀ c : Dev Cert.KvDownIdeal.nD,
      m' ((c.tc : Thread Cert.KvDownRefIdeal.nD Cert.KvDownRefIdeal.τ).loc Cert.KvDownRefIdeal.main_arg0) = m ((c.tc : Thread Cert.KvDownIdeal.nD Cert.KvDownIdeal.τ).loc Cert.KvDownIdeal.main_arg0)
      ∧ m' ((c.tc : Thread Cert.KvDownRefIdeal.nD Cert.KvDownRefIdeal.τ).loc Cert.KvDownRefIdeal.main_arg1) = m ((c.tc : Thread Cert.KvDownIdeal.nD Cert.KvDownIdeal.τ).loc Cert.KvDownIdeal.main_arg1)
      ∧ m' ((c.tc : Thread Cert.KvDownRefIdeal.nD Cert.KvDownRefIdeal.τ).loc Cert.KvDownRefIdeal.main_arg2) = m ((c.tc : Thread Cert.KvDownIdeal.nD Cert.KvDownIdeal.τ).loc Cert.KvDownIdeal.main_arg2)
      ∧ m' ((c.tc : Thread Cert.KvDownRefIdeal.nD Cert.KvDownRefIdeal.τ).loc Cert.KvDownRefIdeal.main_arg3) = m ((c.tc : Thread Cert.KvDownIdeal.nD Cert.KvDownIdeal.τ).loc Cert.KvDownIdeal.main_arg3)
      ∧ m' ((c.tc : Thread Cert.KvDownRefIdeal.nD Cert.KvDownRefIdeal.τ).loc Cert.KvDownRefIdeal.main_arg4) = m ((c.tc : Thread Cert.KvDownIdeal.nD Cert.KvDownIdeal.τ).loc Cert.KvDownIdeal.main_arg4)
      ∧ m' ((c.tc : Thread Cert.KvDownRefIdeal.nD Cert.KvDownRefIdeal.τ).loc Cert.KvDownRefIdeal.main_arg5) = m ((c.tc : Thread Cert.KvDownIdeal.nD Cert.KvDownIdeal.τ).loc Cert.KvDownIdeal.main_arg5)
      ∧ m' ((c.tc : Thread Cert.KvDownRefIdeal.nD Cert.KvDownRefIdeal.τ).loc Cert.KvDownRefIdeal.main_arg6) = m ((c.tc : Thread Cert.KvDownIdeal.nD Cert.KvDownIdeal.τ).loc Cert.KvDownIdeal.main_arg6)) →
    ∃ (v0 : (c : Dev Cert.KvDownIdeal.nD) → Buf (Elt Ideal) ((c.tc : Thread Cert.KvDownIdeal.nD Cert.KvDownIdeal.τ).loc Cert.KvDownIdeal.main_v18_0)) (v1 : (c : Dev Cert.KvDownIdeal.nD) → Buf (Elt Ideal) ((c.tc : Thread Cert.KvDownIdeal.nD Cert.KvDownIdeal.τ).loc Cert.KvDownIdeal.main_v18_1)),
      θ_run (Cert.KvDownIdeal.defs (F := Ideal)) (onTc (τ := Cert.KvDownIdeal.τ) (Cert.KvDownIdeal.main (F := Ideal))) ⟨m, fun _ => 0, g⟩ (fun r => ∀ c : Dev Cert.KvDownIdeal.nD,
          r.2.mem ((c.tc : Thread Cert.KvDownIdeal.nD Cert.KvDownIdeal.τ).loc Cert.KvDownIdeal.main_v18_0) = v0 c
          ∧ r.2.mem ((c.tc : Thread Cert.KvDownIdeal.nD Cert.KvDownIdeal.τ).loc Cert.KvDownIdeal.main_v18_1) = v1 c
          ∧ r.2.mem ((c.tc : Thread Cert.KvDownIdeal.nD Cert.KvDownIdeal.τ).loc Cert.KvDownIdeal.main_arg0) = m ((c.tc : Thread Cert.KvDownIdeal.nD Cert.KvDownIdeal.τ).loc Cert.KvDownIdeal.main_arg0)
          ∧ r.2.mem ((c.tc : Thread Cert.KvDownIdeal.nD Cert.KvDownIdeal.τ).loc Cert.KvDownIdeal.main_arg1) = m ((c.tc : Thread Cert.KvDownIdeal.nD Cert.KvDownIdeal.τ).loc Cert.KvDownIdeal.main_arg1)
          ∧ r.2.mem ((c.tc : Thread Cert.KvDownIdeal.nD Cert.KvDownIdeal.τ).loc Cert.KvDownIdeal.main_arg2) = m ((c.tc : Thread Cert.KvDownIdeal.nD Cert.KvDownIdeal.τ).loc Cert.KvDownIdeal.main_arg2)
          ∧ r.2.mem ((c.tc : Thread Cert.KvDownIdeal.nD Cert.KvDownIdeal.τ).loc Cert.KvDownIdeal.main_arg3) = m ((c.tc : Thread Cert.KvDownIdeal.nD Cert.KvDownIdeal.τ).loc Cert.KvDownIdeal.main_arg3)
          ∧ r.2.mem ((c.tc : Thread Cert.KvDownIdeal.nD Cert.KvDownIdeal.τ).loc Cert.KvDownIdeal.main_arg4) = m ((c.tc : Thread Cert.KvDownIdeal.nD Cert.KvDownIdeal.τ).loc Cert.KvDownIdeal.main_arg4)
          ∧ r.2.mem ((c.tc : Thread Cert.KvDownIdeal.nD Cert.KvDownIdeal.τ).loc Cert.KvDownIdeal.main_arg5) = m ((c.tc : Thread Cert.KvDownIdeal.nD Cert.KvDownIdeal.τ).loc Cert.KvDownIdeal.main_arg5)
          ∧ r.2.mem ((c.tc : Thread Cert.KvDownIdeal.nD Cert.KvDownIdeal.τ).loc Cert.KvDownIdeal.main_arg6) = m ((c.tc : Thread Cert.KvDownIdeal.nD Cert.KvDownIdeal.τ).loc Cert.KvDownIdeal.main_arg6))
      ∧ θ_run (Cert.KvDownRefIdeal.defs (F := Ideal)) (onTc (τ := Cert.KvDownRefIdeal.τ) (Cert.KvDownRefIdeal.main (F := Ideal))) ⟨m', fun _ => 0, g'⟩ (fun r => ∀ c : Dev Cert.KvDownRefIdeal.nD,
          r.2.mem ((c.tc : Thread Cert.KvDownRefIdeal.nD Cert.KvDownRefIdeal.τ).loc Cert.KvDownRefIdeal.main_v46) = v0 c
          ∧ r.2.mem ((c.tc : Thread Cert.KvDownRefIdeal.nD Cert.KvDownRefIdeal.τ).loc Cert.KvDownRefIdeal.main_v47) = v1 c
          ∧ r.2.mem ((c.tc : Thread Cert.KvDownRefIdeal.nD Cert.KvDownRefIdeal.τ).loc Cert.KvDownRefIdeal.main_arg0) = m' ((c.tc : Thread Cert.KvDownRefIdeal.nD Cert.KvDownRefIdeal.τ).loc Cert.KvDownRefIdeal.main_arg0)
          ∧ r.2.mem ((c.tc : Thread Cert.KvDownRefIdeal.nD Cert.KvDownRefIdeal.τ).loc Cert.KvDownRefIdeal.main_arg1) = m' ((c.tc : Thread Cert.KvDownRefIdeal.nD Cert.KvDownRefIdeal.τ).loc Cert.KvDownRefIdeal.main_arg1)
          ∧ r.2.mem ((c.tc : Thread Cert.KvDownRefIdeal.nD Cert.KvDownRefIdeal.τ).loc Cert.KvDownRefIdeal.main_arg2) = m' ((c.tc : Thread Cert.KvDownRefIdeal.nD Cert.KvDownRefIdeal.τ).loc Cert.KvDownRefIdeal.main_arg2)
          ∧ r.2.mem ((c.tc : Thread Cert.KvDownRefIdeal.nD Cert.KvDownRefIdeal.τ).loc Cert.KvDownRefIdeal.main_arg3) = m' ((c.tc : Thread Cert.KvDownRefIdeal.nD Cert.KvDownRefIdeal.τ).loc Cert.KvDownRefIdeal.main_arg3)
          ∧ r.2.mem ((c.tc : Thread Cert.KvDownRefIdeal.nD Cert.KvDownRefIdeal.τ).loc Cert.KvDownRefIdeal.main_arg4) = m' ((c.tc : Thread Cert.KvDownRefIdeal.nD Cert.KvDownRefIdeal.τ).loc Cert.KvDownRefIdeal.main_arg4)
          ∧ r.2.mem ((c.tc : Thread Cert.KvDownRefIdeal.nD Cert.KvDownRefIdeal.τ).loc Cert.KvDownRefIdeal.main_arg5) = m' ((c.tc : Thread Cert.KvDownRefIdeal.nD Cert.KvDownRefIdeal.τ).loc Cert.KvDownRefIdeal.main_arg5)
          ∧ r.2.mem ((c.tc : Thread Cert.KvDownRefIdeal.nD Cert.KvDownRefIdeal.τ).loc Cert.KvDownRefIdeal.main_arg6) = m' ((c.tc : Thread Cert.KvDownRefIdeal.nD Cert.KvDownRefIdeal.τ).loc Cert.KvDownRefIdeal.main_arg6))

def preserves_KUp_KUpIdeal : Prop :=
  True

def algebraic_KUpIdeal_KUpRefIdeal [hKUpIdeal : Cert.KUpIdeal.Facts] [hKUpRefIdeal : Cert.KUpRefIdeal.Facts] : Prop :=
  ∀ (m : (ℓ : Loc Cert.KUpIdeal.nD Cert.KUpIdeal.τ Cert.KUpIdeal.sig) → Buf (Elt Ideal) ℓ) (g : Dev Cert.KUpIdeal.nD → PrngReg)
    (m' : (ℓ : Loc Cert.KUpRefIdeal.nD Cert.KUpRefIdeal.τ Cert.KUpRefIdeal.sig) → Buf (Elt Ideal) ℓ) (g' : Dev Cert.KUpRefIdeal.nD → PrngReg), Pre_KUpIdeal m →
    (∀ c : Dev Cert.KUpIdeal.nD,
      m' ((c.tc : Thread Cert.KUpRefIdeal.nD Cert.KUpRefIdeal.τ).loc Cert.KUpRefIdeal.main_arg0) = m ((c.tc : Thread Cert.KUpIdeal.nD Cert.KUpIdeal.τ).loc Cert.KUpIdeal.main_arg0)
      ∧ m' ((c.tc : Thread Cert.KUpRefIdeal.nD Cert.KUpRefIdeal.τ).loc Cert.KUpRefIdeal.main_arg1) = m ((c.tc : Thread Cert.KUpIdeal.nD Cert.KUpIdeal.τ).loc Cert.KUpIdeal.main_arg1)
      ∧ m' ((c.tc : Thread Cert.KUpRefIdeal.nD Cert.KUpRefIdeal.τ).loc Cert.KUpRefIdeal.main_arg2) = m ((c.tc : Thread Cert.KUpIdeal.nD Cert.KUpIdeal.τ).loc Cert.KUpIdeal.main_arg2)) →
    ∃ (v0 : (c : Dev Cert.KUpIdeal.nD) → Buf (Elt Ideal) ((c.tc : Thread Cert.KUpIdeal.nD Cert.KUpIdeal.τ).loc Cert.KUpIdeal.main_v5)),
      θ_run (Cert.KUpIdeal.defs (F := Ideal)) (onTc (τ := Cert.KUpIdeal.τ) (Cert.KUpIdeal.main (F := Ideal))) ⟨m, fun _ => 0, g⟩ (fun r => ∀ c : Dev Cert.KUpIdeal.nD,
          r.2.mem ((c.tc : Thread Cert.KUpIdeal.nD Cert.KUpIdeal.τ).loc Cert.KUpIdeal.main_v5) = v0 c
          ∧ r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
          ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
          ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2))
      ∧ θ_run (Cert.KUpRefIdeal.defs (F := Ideal)) (onTc (τ := Cert.KUpRefIdeal.τ) (Cert.KUpRefIdeal.main (F := Ideal))) ⟨m', fun _ => 0, g'⟩ (fun r => ∀ c : Dev Cert.KUpRefIdeal.nD,
          r.2.mem ((c.tc : Thread Cert.KUpRefIdeal.nD Cert.KUpRefIdeal.τ).loc Cert.KUpRefIdeal.main_v10) = v0 c
          ∧ r.2.mem ((c.tc : Thread Cert.KUpRefIdeal.nD Cert.KUpRefIdeal.τ).loc Cert.KUpRefIdeal.main_arg0) = m' ((c.tc : Thread Cert.KUpRefIdeal.nD Cert.KUpRefIdeal.τ).loc Cert.KUpRefIdeal.main_arg0)
          ∧ r.2.mem ((c.tc : Thread Cert.KUpRefIdeal.nD Cert.KUpRefIdeal.τ).loc Cert.KUpRefIdeal.main_arg1) = m' ((c.tc : Thread Cert.KUpRefIdeal.nD Cert.KUpRefIdeal.τ).loc Cert.KUpRefIdeal.main_arg1)
          ∧ r.2.mem ((c.tc : Thread Cert.KUpRefIdeal.nD Cert.KUpRefIdeal.τ).loc Cert.KUpRefIdeal.main_arg2) = m' ((c.tc : Thread Cert.KUpRefIdeal.nD Cert.KUpRefIdeal.τ).loc Cert.KUpRefIdeal.main_arg2))

def preserves_VUp_VUpIdeal : Prop :=
  True

def algebraic_VUpIdeal_VUpRefIdeal [hVUpIdeal : Cert.VUpIdeal.Facts] [hVUpRefIdeal : Cert.VUpRefIdeal.Facts] : Prop :=
  ∀ (m : (ℓ : Loc Cert.VUpIdeal.nD Cert.VUpIdeal.τ Cert.VUpIdeal.sig) → Buf (Elt Ideal) ℓ) (g : Dev Cert.VUpIdeal.nD → PrngReg)
    (m' : (ℓ : Loc Cert.VUpRefIdeal.nD Cert.VUpRefIdeal.τ Cert.VUpRefIdeal.sig) → Buf (Elt Ideal) ℓ) (g' : Dev Cert.VUpRefIdeal.nD → PrngReg), Pre_VUpIdeal m →
    (∀ c : Dev Cert.VUpIdeal.nD,
      m' ((c.tc : Thread Cert.VUpRefIdeal.nD Cert.VUpRefIdeal.τ).loc Cert.VUpRefIdeal.main_arg0) = m ((c.tc : Thread Cert.VUpIdeal.nD Cert.VUpIdeal.τ).loc Cert.VUpIdeal.main_arg0)
      ∧ m' ((c.tc : Thread Cert.VUpRefIdeal.nD Cert.VUpRefIdeal.τ).loc Cert.VUpRefIdeal.main_arg1) = m ((c.tc : Thread Cert.VUpIdeal.nD Cert.VUpIdeal.τ).loc Cert.VUpIdeal.main_arg1)) →
    ∃ (v0 : (c : Dev Cert.VUpIdeal.nD) → Buf (Elt Ideal) ((c.tc : Thread Cert.VUpIdeal.nD Cert.VUpIdeal.τ).loc Cert.VUpIdeal.main_v6)),
      θ_run (Cert.VUpIdeal.defs (F := Ideal)) (onTc (τ := Cert.VUpIdeal.τ) (Cert.VUpIdeal.main (F := Ideal))) ⟨m, fun _ => 0, g⟩ (fun r => ∀ c : Dev Cert.VUpIdeal.nD,
          r.2.mem ((c.tc : Thread Cert.VUpIdeal.nD Cert.VUpIdeal.τ).loc Cert.VUpIdeal.main_v6) = v0 c
          ∧ r.2.mem ((c.tc : Thread Cert.VUpIdeal.nD Cert.VUpIdeal.τ).loc Cert.VUpIdeal.main_arg0) = m ((c.tc : Thread Cert.VUpIdeal.nD Cert.VUpIdeal.τ).loc Cert.VUpIdeal.main_arg0)
          ∧ r.2.mem ((c.tc : Thread Cert.VUpIdeal.nD Cert.VUpIdeal.τ).loc Cert.VUpIdeal.main_arg1) = m ((c.tc : Thread Cert.VUpIdeal.nD Cert.VUpIdeal.τ).loc Cert.VUpIdeal.main_arg1))
      ∧ θ_run (Cert.VUpRefIdeal.defs (F := Ideal)) (onTc (τ := Cert.VUpRefIdeal.τ) (Cert.VUpRefIdeal.main (F := Ideal))) ⟨m', fun _ => 0, g'⟩ (fun r => ∀ c : Dev Cert.VUpRefIdeal.nD,
          r.2.mem ((c.tc : Thread Cert.VUpRefIdeal.nD Cert.VUpRefIdeal.τ).loc Cert.VUpRefIdeal.main_v7) = v0 c
          ∧ r.2.mem ((c.tc : Thread Cert.VUpRefIdeal.nD Cert.VUpRefIdeal.τ).loc Cert.VUpRefIdeal.main_arg0) = m' ((c.tc : Thread Cert.VUpRefIdeal.nD Cert.VUpRefIdeal.τ).loc Cert.VUpRefIdeal.main_arg0)
          ∧ r.2.mem ((c.tc : Thread Cert.VUpRefIdeal.nD Cert.VUpRefIdeal.τ).loc Cert.VUpRefIdeal.main_arg1) = m' ((c.tc : Thread Cert.VUpRefIdeal.nD Cert.VUpRefIdeal.τ).loc Cert.VUpRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)) →
    ∃ (v0 : (c : Dev Cert.NormIdeal.nD) → Buf (Elt Ideal) ((c.tc : Thread Cert.NormIdeal.nD Cert.NormIdeal.τ).loc Cert.NormIdeal.main_v7_0)) (v1 : (c : Dev Cert.NormIdeal.nD) → Buf (Elt Ideal) ((c.tc : Thread Cert.NormIdeal.nD Cert.NormIdeal.τ).loc Cert.NormIdeal.main_v7_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v7_0) = v0 c
          ∧ r.2.mem ((c.tc : Thread Cert.NormIdeal.nD Cert.NormIdeal.τ).loc Cert.NormIdeal.main_v7_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v17) = v0 c
          ∧ r.2.mem ((c.tc : Thread Cert.NormRefIdeal.nD Cert.NormRefIdeal.τ).loc Cert.NormRefIdeal.main_v39) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hScIn : Cert.ScIn.Facts) (hScInIdeal : Cert.ScInIdeal.Facts) (hScInRefIdeal : Cert.ScInRefIdeal.Facts) (hScOut : Cert.ScOut.Facts) (hScOutIdeal : Cert.ScOutIdeal.Facts) (hScOutRefIdeal : Cert.ScOutRefIdeal.Facts) (hHyIn : Cert.HyIn.Facts) (hHyInIdeal : Cert.HyInIdeal.Facts) (hHyInRefIdeal : Cert.HyInRefIdeal.Facts) (hHyOut : Cert.HyOut.Facts) (hHyOutIdeal : Cert.HyOutIdeal.Facts) (hHyOutRefIdeal : Cert.HyOutRefIdeal.Facts) (hMlaOut : Cert.MlaOut.Facts) (hMlaOutIdeal : Cert.MlaOutIdeal.Facts) (hMlaOutRefIdeal : Cert.MlaOutRefIdeal.Facts) (hQDown : Cert.QDown.Facts) (hQDownIdeal : Cert.QDownIdeal.Facts) (hQDownRefIdeal : Cert.QDownRefIdeal.Facts) (hKvDown : Cert.KvDown.Facts) (hKvDownIdeal : Cert.KvDownIdeal.Facts) (hKvDownRefIdeal : Cert.KvDownRefIdeal.Facts) (hKUp : Cert.KUp.Facts) (hKUpIdeal : Cert.KUpIdeal.Facts) (hKUpRefIdeal : Cert.KUpRefIdeal.Facts) (hVUp : Cert.VUp.Facts) (hVUpIdeal : Cert.VUpIdeal.Facts) (hVUpRefIdeal : Cert.VUpRefIdeal.Facts) (hNorm : Cert.Norm.Facts) (hNormIdeal : Cert.NormIdeal.Facts) (hNormRefIdeal : Cert.NormRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_ScIn (hScIn := hScIn)
    ∧ quiescent_ScInIdeal (hScInIdeal := hScInIdeal)
    ∧ quiescent_ScInRefIdeal (hScInRefIdeal := hScInRefIdeal)
    ∧ quiescent_ScOut (hScOut := hScOut)
    ∧ quiescent_ScOutIdeal (hScOutIdeal := hScOutIdeal)
    ∧ quiescent_ScOutRefIdeal (hScOutRefIdeal := hScOutRefIdeal)
    ∧ quiescent_HyIn (hHyIn := hHyIn)
    ∧ quiescent_HyInIdeal (hHyInIdeal := hHyInIdeal)
    ∧ quiescent_HyInRefIdeal (hHyInRefIdeal := hHyInRefIdeal)
    ∧ quiescent_HyOut (hHyOut := hHyOut)
    ∧ quiescent_HyOutIdeal (hHyOutIdeal := hHyOutIdeal)
    ∧ quiescent_HyOutRefIdeal (hHyOutRefIdeal := hHyOutRefIdeal)
    ∧ quiescent_MlaOut (hMlaOut := hMlaOut)
    ∧ quiescent_MlaOutIdeal (hMlaOutIdeal := hMlaOutIdeal)
    ∧ quiescent_MlaOutRefIdeal (hMlaOutRefIdeal := hMlaOutRefIdeal)
    ∧ quiescent_QDown (hQDown := hQDown)
    ∧ quiescent_QDownIdeal (hQDownIdeal := hQDownIdeal)
    ∧ quiescent_QDownRefIdeal (hQDownRefIdeal := hQDownRefIdeal)
    ∧ quiescent_KvDown (hKvDown := hKvDown)
    ∧ quiescent_KvDownIdeal (hKvDownIdeal := hKvDownIdeal)
    ∧ quiescent_KvDownRefIdeal (hKvDownRefIdeal := hKvDownRefIdeal)
    ∧ quiescent_KUp (hKUp := hKUp)
    ∧ quiescent_KUpIdeal (hKUpIdeal := hKUpIdeal)
    ∧ quiescent_KUpRefIdeal (hKUpRefIdeal := hKUpRefIdeal)
    ∧ quiescent_VUp (hVUp := hVUp)
    ∧ quiescent_VUpIdeal (hVUpIdeal := hVUpIdeal)
    ∧ quiescent_VUpRefIdeal (hVUpRefIdeal := hVUpRefIdeal)
    ∧ quiescent_Norm (hNorm := hNorm)
    ∧ quiescent_NormIdeal (hNormIdeal := hNormIdeal)
    ∧ quiescent_NormRefIdeal (hNormRefIdeal := hNormRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_ScIn_ScInIdeal
    ∧ algebraic_ScInIdeal_ScInRefIdeal (hScInIdeal := hScInIdeal) (hScInRefIdeal := hScInRefIdeal)
    ∧ preserves_ScOut_ScOutIdeal
    ∧ algebraic_ScOutIdeal_ScOutRefIdeal (hScOutIdeal := hScOutIdeal) (hScOutRefIdeal := hScOutRefIdeal)
    ∧ preserves_HyIn_HyInIdeal
    ∧ algebraic_HyInIdeal_HyInRefIdeal (hHyInIdeal := hHyInIdeal) (hHyInRefIdeal := hHyInRefIdeal)
    ∧ preserves_HyOut_HyOutIdeal
    ∧ algebraic_HyOutIdeal_HyOutRefIdeal (hHyOutIdeal := hHyOutIdeal) (hHyOutRefIdeal := hHyOutRefIdeal)
    ∧ preserves_MlaOut_MlaOutIdeal
    ∧ algebraic_MlaOutIdeal_MlaOutRefIdeal (hMlaOutIdeal := hMlaOutIdeal) (hMlaOutRefIdeal := hMlaOutRefIdeal)
    ∧ preserves_QDown_QDownIdeal
    ∧ algebraic_QDownIdeal_QDownRefIdeal (hQDownIdeal := hQDownIdeal) (hQDownRefIdeal := hQDownRefIdeal)
    ∧ preserves_KvDown_KvDownIdeal
    ∧ algebraic_KvDownIdeal_KvDownRefIdeal (hKvDownIdeal := hKvDownIdeal) (hKvDownRefIdeal := hKvDownRefIdeal)
    ∧ preserves_KUp_KUpIdeal
    ∧ algebraic_KUpIdeal_KUpRefIdeal (hKUpIdeal := hKUpIdeal) (hKUpRefIdeal := hKUpRefIdeal)
    ∧ preserves_VUp_VUpIdeal
    ∧ algebraic_VUpIdeal_VUpRefIdeal (hVUpIdeal := hVUpIdeal) (hVUpRefIdeal := hVUpRefIdeal)
    ∧ preserves_Norm_NormIdeal
    ∧ algebraic_NormIdeal_NormRefIdeal (hNormIdeal := hNormIdeal) (hNormRefIdeal := hNormRefIdeal)
-- ==== Pre_finite.lean ====
abbrev S8192x16384 : Shape := ⟨2, ![8192, 16384]⟩
abbrev S16640x8192 : Shape := ⟨2, ![16640, 8192]⟩
abbrev S4096x16640 : Shape := ⟨2, ![4096, 16640]⟩
abbrev S_ : Shape := ⟨0, ![]⟩

class Facts : Prop where
  bitsLt_bf16_f32 : FTy.bits .bf16 < FTy.bits .f32
  bcast_S_S8192x16384 : S_.BroadcastsInDim S8192x16384 (![] : Fin 0 → Fin S8192x16384.rank)
  bcast_S_S16640x8192 : S_.BroadcastsInDim S16640x8192 (![] : Fin 0 → Fin S16640x8192.rank)

variable [Facts]

def fn {F : FTy → Type} [FloatOps F] (main_arg0 : FVec F S8192x16384 .bf16) (main_arg1 : FVec F S16640x8192 .bf16) (main_arg2 : FVec F S4096x16640 .bf16) : IVec S8192x16384 1 × IVec S16640x8192 1 :=
  let main_v0 : FVec F S8192x16384 .f32 := (extf .f32 · bitsLt_bf16_f32) main_arg0
  let main_v1 : FVec F S8192x16384 .f32 := Host.absf main_v0
  let main_cst : FVec F S_ .f32 := constant S_ .f32 0x7F800000#32
  let main_v2 : FVec F S8192x16384 .f32 := broadcastInDim S8192x16384 ![] bcast_S_S8192x16384 main_cst
  let main_v3 : IVec S8192x16384 1 := cmpf .olt main_v1 main_v2
  let main_v4 : FVec F S16640x8192 .f32 := (extf .f32 · bitsLt_bf16_f32) main_arg1
  let main_v5 : FVec F S16640x8192 .f32 := Host.absf main_v4
  let main_cst_0 : FVec F S_ .f32 := constant S_ .f32 0x7F800000#32
  let main_v6 : FVec F S16640x8192 .f32 := broadcastInDim S16640x8192 ![] bcast_S_S16640x8192 main_cst_0
  let main_v7 : IVec S16640x8192 1 := cmpf .olt main_v5 main_v6
  (main_v3, main_v7)
-- ==== Kernel.lean ====
abbrev S8192x16384 : Shape := ⟨2, ![8192, 16384]⟩
abbrev S16640x8192 : Shape := ⟨2, ![16640, 8192]⟩
abbrev S4096x16640 : Shape := ⟨2, ![4096, 16640]⟩
abbrev S16384x4096 : Shape := ⟨2, ![16384, 4096]⟩
abbrev S256x2048 : Shape := ⟨2, ![256, 2048]⟩
abbrev S3328x256 : Shape := ⟨2, ![3328, 256]⟩
abbrev S128x3328 : Shape := ⟨2, ![128, 3328]⟩
abbrev S2048x128 : Shape := ⟨2, ![2048, 128]⟩
abbrev S1x2048 : Shape := ⟨2, ![1, 2048]⟩
abbrev S128x2048 : Shape := ⟨2, ![128, 2048]⟩
abbrev S1x512 : Shape := ⟨2, ![1, 512]⟩
abbrev S128x512 : Shape := ⟨2, ![128, 512]⟩
abbrev S1536x256 : Shape := ⟨2, ![1536, 256]⟩
abbrev S256x512 : Shape := ⟨2, ![256, 512]⟩
abbrev S1536x512 : Shape := ⟨2, ![1536, 512]⟩
abbrev S1792x256 : Shape := ⟨2, ![1792, 256]⟩
abbrev S1792x512 : Shape := ⟨2, ![1792, 512]⟩
abbrev S512 : Shape := ⟨1, ![512]⟩
abbrev S128x1536 : Shape := ⟨2, ![128, 1536]⟩
abbrev S128x1792 : Shape := ⟨2, ![128, 1792]⟩
abbrev S512x128 : Shape := ⟨2, ![512, 128]⟩

abbrev nBuf : Space → Nat
  | .hbm => 4
  | .vmem => 11
  | .smem => 0
  | _ => 0

abbrev bufTy : (tb : Table) → Fin (tcTables nBuf tb) → BufTy
  | .hbm, ⟨0, _⟩ => ⟨S8192x16384, .bf16⟩
  | .hbm, ⟨1, _⟩ => ⟨S16640x8192, .bf16⟩
  | .hbm, ⟨2, _⟩ => ⟨S4096x16640, .bf16⟩
  | .hbm, ⟨3, _⟩ => ⟨S16384x4096, .bf16⟩
  | .local _ .vmem, ⟨0, _⟩ => ⟨S256x2048, .bf16⟩
  | .local _ .vmem, ⟨1, _⟩ => ⟨S256x2048, .bf16⟩
  | .local _ .vmem, ⟨2, _⟩ => ⟨S3328x256, .bf16⟩
  | .local _ .vmem, ⟨3, _⟩ => ⟨S3328x256, .bf16⟩
  | .local _ .vmem, ⟨4, _⟩ => ⟨S128x3328, .bf16⟩
  | .local _ .vmem, ⟨5, _⟩ => ⟨S128x3328, .bf16⟩
  | .local _ .vmem, ⟨6, _⟩ => ⟨S2048x128, .bf16⟩
  | .local _ .vmem, ⟨7, _⟩ => ⟨S2048x128, .bf16⟩
  | .local _ .vmem, ⟨8, _⟩ => ⟨S1x2048, .f32⟩
  | .local _ .vmem, ⟨9, _⟩ => ⟨S1x2048, .f32⟩
  | .local _ .vmem, ⟨10, _⟩ => ⟨S128x2048, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 8, 5], ![false, false, false]⟩

def k0_cond2 (i : grid0.Coords) : BitVec 1 :=
  let arg2 : BitVec 32 := BitVec.ofNat 32 (i 2).val
  let c4_i32 : BitVec 32 := 4#32
  let v219 : BitVec 1 := Scalar.cmpi .eq arg2 c4_i32
  let v220 : BitVec 32 := Scalar.extui v219
  let c0_i32_124 : BitVec 32 := 0#32
  let v221 : BitVec 1 := Scalar.cmpi .ne v220 c0_i32_124
  v221

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S3328x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S128x3328 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S8192x16384 : Shape := ⟨2, ![8192, 16384]⟩
abbrev S16640x8192 : Shape := ⟨2, ![16640, 8192]⟩
abbrev S4096x16640 : Shape := ⟨2, ![4096, 16640]⟩
abbrev S32x256x16384 : Shape := ⟨3, ![32, 256, 16384]⟩
abbrev S16640x32x256 : Shape := ⟨3, ![16640, 32, 256]⟩
abbrev S32x128x16640 : Shape := ⟨3, ![32, 128, 16640]⟩
abbrev S32x16384x16640 : Shape := ⟨3, ![32, 16384, 16640]⟩
abbrev S_ : Shape := ⟨0, ![]⟩
abbrev S32x16384 : Shape := ⟨2, ![32, 16384]⟩
abbrev S32x16384x1 : Shape := ⟨3, ![32, 16384, 1]⟩
abbrev S32x128x16384 : Shape := ⟨3, ![32, 128, 16384]⟩
abbrev S16384x32x128 : Shape := ⟨3, ![16384, 32, 128]⟩
abbrev S16384x4096 : Shape := ⟨2, ![16384, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S16640x8192, .bf16⟩
  | .hbm, ⟨2, _⟩ => ⟨S4096x16640, .bf16⟩
  | .hbm, ⟨3, _⟩ => ⟨S8192x16384, .f32⟩
  | .hbm, ⟨4, _⟩ => ⟨S32x256x16384, .f32⟩
  | .hbm, ⟨5, _⟩ => ⟨S16640x8192, .f32⟩
  | .hbm, ⟨6, _⟩ => ⟨S16640x32x256, .f32⟩
  | .hbm, ⟨7, _⟩ => ⟨S4096x16640, .f32⟩
  | .hbm, ⟨8, _⟩ => ⟨S32x128x16640, .f32⟩
  | .hbm, ⟨9, _⟩ => ⟨S32x16384x16640, .f32⟩
  | .hbm, ⟨10, _⟩ => ⟨S_, .f32⟩
  | .hbm, ⟨11, _⟩ => ⟨S_, .f32⟩
  | .hbm, ⟨12, _⟩ => ⟨S32x16384x16640, .f32⟩
  | .hbm, ⟨13, _⟩ => ⟨S32x16384x16640, .f32⟩
  | .hbm, ⟨14, _⟩ => ⟨S_, .f32⟩
  | .hbm, ⟨15, _⟩ => ⟨S32x16384, .f32⟩
  | .hbm, ⟨16, _⟩ => ⟨S_, .f32⟩
  | .hbm, ⟨17, _⟩ => ⟨S32x16384, .f32⟩
  | .hbm, ⟨18, _⟩ => ⟨S32x16384, .f32⟩
  | .hbm, ⟨19, _⟩ => ⟨S32x16384x1, .f32⟩
  | .hbm, ⟨20, _⟩ => ⟨S32x16384x16640, .f32⟩
  | .hbm, ⟨21, _⟩ => ⟨S32x16384x16640, .f32⟩
  | .hbm, ⟨22, _⟩ => ⟨S32x16384x16640, .f32⟩
  | .hbm, ⟨23, _⟩ => ⟨S_, .f32⟩
  | .hbm, ⟨24, _⟩ => ⟨S32x16384, .f32⟩
  | .hbm, ⟨25, _⟩ => ⟨S32x16384x1, .f32⟩
  | .hbm, ⟨26, _⟩ => ⟨S32x16384x16640, .f32⟩
  | .hbm, ⟨27, _⟩ => ⟨S32x16384x16640, .f32⟩
  | .hbm, ⟨28, _⟩ => ⟨S32x128x16384, .f32⟩
  | .hbm, ⟨29, _⟩ => ⟨S16384x32x128, .f32⟩
  | .hbm, ⟨30, _⟩ => ⟨S16384x4096, .f32⟩
  | .hbm, ⟨31, _⟩ => ⟨S16384x4096, .bf16⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== FfnUp.lean ====
abbrev S16384x4096 : Shape := ⟨2, ![16384, 4096]⟩
abbrev S4x4096x22016 : Shape := ⟨3, ![4, 4096, 22016]⟩
abbrev S16384x11008 : Shape := ⟨2, ![16384, 11008]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 3
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4x4096x22016, .f32⟩
  | .hbm, ⟨2, _⟩ => ⟨S16384x11008, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1024x256, .bf16⟩
  | .local _ .vmem, ⟨7, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.addi arg1 c43_i32
  let c0_i32 : BitVec 32 := 0#32
  let c0_i32_0 : BitVec 32 := 0#32
  ![c0_i32.toNat, arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnUpRefIdeal.lean ====
abbrev S16384x4096 : Shape := ⟨2, ![16384, 4096]⟩
abbrev S4x4096x22016 : Shape := ⟨3, ![4, 4096, 22016]⟩
abbrev S1x4096x22016 : Shape := ⟨3, ![1, 4096, 22016]⟩
abbrev S4096x22016 : Shape := ⟨2, ![4096, 22016]⟩
abbrev S16384x22016 : Shape := ⟨2, ![16384, 22016]⟩
abbrev S16384x11008 : Shape := ⟨2, ![16384, 11008]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x22016, .f32⟩
  | .hbm, ⟨2, _⟩ => ⟨S16384x4096, .f32⟩
  | .hbm, ⟨3, _⟩ => ⟨S1x4096x22016, .f32⟩
  | .hbm, ⟨4, _⟩ => ⟨S4096x22016, .f32⟩
  | .hbm, ⟨5, _⟩ => ⟨S16384x22016, .f32⟩
  | .hbm, ⟨6, _⟩ => ⟨S16384x11008, .f32⟩
  | .hbm, ⟨7, _⟩ => ⟨S16384x11008, .f32⟩
  | .hbm, ⟨8, _⟩ => ⟨S16384x11008, .f32⟩
  | .hbm, ⟨9, _⟩ => ⟨S16384x11008, .f32⟩
  | .hbm, ⟨10, _⟩ => ⟨S_, .f32⟩
  | .hbm, ⟨11, _⟩ => ⟨S16384x11008, .f32⟩
  | .hbm, ⟨12, _⟩ => ⟨S16384x11008, .f32⟩
  | .hbm, ⟨13, _⟩ => ⟨S_, .f32⟩
  | .hbm, ⟨14, _⟩ => ⟨S16384x11008, .f32⟩
  | .hbm, ⟨15, _⟩ => ⟨S16384x11008, .f32⟩
  | .hbm, ⟨16, _⟩ => ⟨S16384x11008, .f32⟩
  | .hbm, ⟨17, _⟩ => ⟨S16384x11008, .f32⟩
  | .hbm, ⟨18, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== FfnDown.lean ====
abbrev S16384x11008 : Shape := ⟨2, ![16384, 11008]⟩
abbrev S4x11008x4096 : Shape := ⟨3, ![4, 11008, 4096]⟩
abbrev S16384x4096 : Shape := ⟨2, ![16384, 4096]⟩
abbrev S512x11008 : Shape := ⟨2, ![512, 11008]⟩
abbrev S1x11008x512 : Shape := ⟨3, ![1, 11008, 512]⟩
abbrev S512x512 : Shape := ⟨2, ![512, 512]⟩
abbrev S11008x512 : Shape := ⟨2, ![11008, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x11008, .bf16⟩
  | .hbm, ⟨1, _⟩ => ⟨S4x11008x4096, .f32⟩
  | .hbm, ⟨2, _⟩ => ⟨S4x11008x4096, .bf16⟩
  | .hbm, ⟨3, _⟩ => ⟨S16384x4096, .bf16⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .bf16⟩
  | .local _ .vmem, ⟨5, _⟩ => ⟨S512x512, .bf16⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S16384x11008 : Shape := ⟨2, ![16384, 11008]⟩
abbrev S4x11008x4096 : Shape := ⟨3, ![4, 11008, 4096]⟩
abbrev S1x11008x4096 : Shape := ⟨3, ![1, 11008, 4096]⟩
abbrev S11008x4096 : Shape := ⟨2, ![11008, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S4x11008x4096, .f32⟩
  | .hbm, ⟨2, _⟩ => ⟨S16384x11008, .f32⟩
  | .hbm, ⟨3, _⟩ => ⟨S1x11008x4096, .f32⟩
  | .hbm, ⟨4, _⟩ => ⟨S11008x4096, .f32⟩
  | .hbm, ⟨5, _⟩ => ⟨S16384x4096, .f32⟩
  | .hbm, ⟨6, _⟩ => ⟨S16384x4096, .bf16⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ScIn.lean ====
abbrev S16384x4096 : Shape := ⟨2, ![16384, 4096]⟩
abbrev S2x4096x12288 : Shape := ⟨3, ![2, 4096, 12288]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 4
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S2x4096x12288, .f32⟩
  | .hbm, ⟨2, _⟩ => ⟨S16384x4096, .bf16⟩
  | .hbm, ⟨3, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x4096x256, .f32⟩
  | .local _ .vmem, ⟨7, _⟩ => ⟨S1x4096x256, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi arg1 c16_i32
  let c0_i32 : BitVec 32 := 0#32
  let c0_i32_0 : BitVec 32 := 0#32
  ![c0_i32.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi arg1 c32_i32
  let c0_i32 : BitVec 32 := 0#32
  let c0_i32_0 : BitVec 32 := 0#32
  ![c0_i32.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ScInRefIdeal.lean ====
abbrev S16384x4096 : Shape := ⟨2, ![16384, 4096]⟩
abbrev S2x4096x12288 : Shape := ⟨3, ![2, 4096, 12288]⟩
abbrev S1x4096x12288 : Shape := ⟨3, ![1, 4096, 12288]⟩
abbrev S4096x12288 : Shape := ⟨2, ![4096, 12288]⟩
abbrev S16384x12288 : Shape := ⟨2, ![16384, 12288]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x12288, .f32⟩
  | .hbm, ⟨2, _⟩ => ⟨S16384x4096, .f32⟩
  | .hbm, ⟨3, _⟩ => ⟨S1x4096x12288, .f32⟩
  | .hbm, ⟨4, _⟩ => ⟨S4096x12288, .f32⟩
  | .hbm, ⟨5, _⟩ => ⟨S16384x12288, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .bf16⟩
  | .hbm, ⟨11, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== ScOut.lean ====
abbrev S16384x4096 : Shape := ⟨2, ![16384, 4096]⟩
abbrev S2x3x4096 : Shape := ⟨3, ![2, 3, 4096]⟩
abbrev S2x4096x4096 : Shape := ⟨3, ![2, 4096, 4096]⟩
abbrev S1x3x4096 : Shape := ⟨3, ![1, 3, 4096]⟩
abbrev S3x4096 : Shape := ⟨2, ![3, 4096]⟩
abbrev S_ : Shape := ⟨0, ![]⟩
abbrev S5x4096 : Shape := ⟨2, ![5, 4096]⟩
abbrev S8x4096 : Shape := ⟨2, ![8, 4096]⟩
abbrev S512x4096 : Shape := ⟨2, ![512, 4096]⟩
abbrev S16x4096 : Shape := ⟨2, ![16, 4096]⟩
abbrev S1x4096x512 : Shape := ⟨3, ![1, 4096, 512]⟩
abbrev S512x512 : Shape := ⟨2, ![512, 512]⟩
abbrev S16x512 : Shape := ⟨2, ![16, 512]⟩
abbrev S1x512 : Shape := ⟨2, ![1, 512]⟩
abbrev S8x512 : Shape := ⟨2, ![8, 512]⟩
abbrev S504x512 : Shape := ⟨2, ![504, 512]⟩
abbrev S4096x512 : Shape := ⟨2, ![4096, 512]⟩

abbrev nBuf : Space → Nat
  | .hbm => 11
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S2x3x4096, .f32⟩
  | .hbm, ⟨3, _⟩ => ⟨S2x4096x4096, .f32⟩
  | .hbm, ⟨4, _⟩ => ⟨S1x3x4096, .f32⟩
  | .hbm, ⟨5, _⟩ => ⟨S3x4096, .f32⟩
  | .hbm, ⟨6, _⟩ => ⟨S2x4096x4096, .bf16⟩
  | .hbm, ⟨7, _⟩ => ⟨S_, .f32⟩
  | .hbm, ⟨8, _⟩ => ⟨S5x4096, .f32⟩
  | .hbm, ⟨9, _⟩ => ⟨S8x4096, .f32⟩
  | .hbm, ⟨10, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S16x4096, .bf16⟩
  | .local _ .vmem, ⟨5, _⟩ => ⟨S16x4096, .bf16⟩
  | .local _ .vmem, ⟨6, _⟩ => ⟨S16x4096, .bf16⟩
  | .local _ .vmem, ⟨7, _⟩ => ⟨S16x4096, .bf16⟩
  | .local _ .vmem, ⟨8, _⟩ => ⟨S8x4096, .f32⟩
  | .local _ .vmem, ⟨9, _⟩ => ⟨S1x4096x512, .bf16⟩
  | .local _ .vmem, ⟨10, _⟩ => ⟨S1x4096x512, .bf16⟩
  | .local _ .vmem, ⟨11, _⟩ => ⟨S512x512, .bf16⟩
  | .local _ .vmem, ⟨12, _⟩ => ⟨S512x512, .bf16⟩
  | .local _ .vmem, ⟨13, _⟩ => ⟨S512x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![32, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S16x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S16x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ScOutRefIdeal.lean ====
abbrev S16384x4096 : Shape := ⟨2, ![16384, 4096]⟩
abbrev S2x3x4096 : Shape := ⟨3, ![2, 3, 4096]⟩
abbrev S2x4096x4096 : Shape := ⟨3, ![2, 4096, 4096]⟩
abbrev S1x3x4096 : Shape := ⟨3, ![1, 3, 4096]⟩
abbrev S3x4096 : Shape := ⟨2, ![3, 4096]⟩
abbrev S_ : Shape := ⟨0, ![]⟩
abbrev S16386x4096 : Shape := ⟨2, ![16386, 4096]⟩
abbrev S1x4096 : Shape := ⟨2, ![1, 4096]⟩
abbrev S4096 : Shape := ⟨1, ![4096]⟩
abbrev S1x4096x4096 : Shape := ⟨3, ![1, 4096, 4096]⟩
abbrev S4096x4096 : Shape := ⟨2, ![4096, 4096]⟩

abbrev nBuf : Space → Nat
  | .hbm => 36
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S2x3x4096, .f32⟩
  | .hbm, ⟨3, _⟩ => ⟨S2x4096x4096, .f32⟩
  | .hbm, ⟨4, _⟩ => ⟨S1x3x4096, .f32⟩
  | .hbm, ⟨5, _⟩ => ⟨S3x4096, .f32⟩
  | .hbm, ⟨6, _⟩ => ⟨S16384x4096, .f32⟩
  | .hbm, ⟨7, _⟩ => ⟨S_, .i32⟩
  | .hbm, ⟨8, _⟩ => ⟨S_, .f32⟩
  | .hbm, ⟨9, _⟩ => ⟨S16386x4096, .f32⟩
  | .hbm, ⟨10, _⟩ => ⟨S1x4096, .f32⟩
  | .hbm, ⟨11, _⟩ => ⟨S4096, .f32⟩
  | .hbm, ⟨12, _⟩ => ⟨S16384x4096, .f32⟩
  | .hbm, ⟨13, _⟩ => ⟨S1x4096, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S4096, .f32⟩
  | .hbm, ⟨18, _⟩ => ⟨S16384x4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S1x4096, .f32⟩
  | .hbm, ⟨24, _⟩ => ⟨S4096, .f32⟩
  | .hbm, ⟨25, _⟩ => ⟨S16384x4096, .f32⟩
  | .hbm, ⟨26, _⟩ => ⟨S1x4096, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S1x4096x4096, .f32⟩
  | .hbm, ⟨33, _⟩ => ⟨S4096x4096, .f32⟩
  | .hbm, ⟨34, _⟩ => ⟨S16384x4096, .f32⟩
  | .hbm, ⟨35, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== HyIn.lean ====
abbrev S16384x4096 : Shape := ⟨2, ![16384, 4096]⟩
abbrev S1x4096x12288 : Shape := ⟨3, ![1, 4096, 12288]⟩
abbrev S16384x12288 : Shape := ⟨2, ![16384, 12288]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x12288, .f32⟩
  | .hbm, ⟨2, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HyInRefIdeal.lean ====
abbrev S16384x4096 : Shape := ⟨2, ![16384, 4096]⟩
abbrev S1x4096x12288 : Shape := ⟨3, ![1, 4096, 12288]⟩
abbrev S4096x12288 : Shape := ⟨2, ![4096, 12288]⟩
abbrev S16384x12288 : Shape := ⟨2, ![16384, 12288]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x12288, .f32⟩
  | .hbm, ⟨2, _⟩ => ⟨S16384x4096, .f32⟩
  | .hbm, ⟨3, _⟩ => ⟨S4096x12288, .f32⟩
  | .hbm, ⟨4, _⟩ => ⟨S16384x12288, .f32⟩
  | .hbm, ⟨5, _⟩ => ⟨S16384x12288, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== HyOut.lean ====
abbrev S16384x4096 : Shape := ⟨2, ![16384, 4096]⟩
abbrev S1x4096 : Shape := ⟨2, ![1, 4096]⟩
abbrev S1x4096x4096 : Shape := ⟨3, ![1, 4096, 4096]⟩
abbrev S4096 : Shape := ⟨1, ![4096]⟩
abbrev S16x4096 : Shape := ⟨2, ![16, 4096]⟩
abbrev S512x4096 : Shape := ⟨2, ![512, 4096]⟩
abbrev S1x4096x512 : Shape := ⟨3, ![1, 4096, 512]⟩
abbrev S512x512 : Shape := ⟨2, ![512, 512]⟩
abbrev S1x512 : Shape := ⟨2, ![1, 512]⟩
abbrev S4096x512 : Shape := ⟨2, ![4096, 512]⟩

abbrev nBuf : Space → Nat
  | .hbm => 11
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x4096, .bf16⟩
  | .hbm, ⟨3, _⟩ => ⟨S1x4096, .f32⟩
  | .hbm, ⟨4, _⟩ => ⟨S1x4096x4096, .f32⟩
  | .hbm, ⟨5, _⟩ => ⟨S4096, .f32⟩
  | .hbm, ⟨6, _⟩ => ⟨S1x4096x4096, .bf16⟩
  | .hbm, ⟨7, _⟩ => ⟨S1x4096, .f32⟩
  | .hbm, ⟨8, _⟩ => ⟨S1x4096, .bf16⟩
  | .hbm, ⟨9, _⟩ => ⟨S16x4096, .bf16⟩
  | .hbm, ⟨10, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S16x4096, .bf16⟩
  | .local _ .vmem, ⟨7, _⟩ => ⟨S1x4096x512, .bf16⟩
  | .local _ .vmem, ⟨8, _⟩ => ⟨S1x4096x512, .bf16⟩
  | .local _ .vmem, ⟨9, _⟩ => ⟨S512x512, .bf16⟩
  | .local _ .vmem, ⟨10, _⟩ => ⟨S512x512, .bf16⟩
  | .local _ .vmem, ⟨11, _⟩ => ⟨S512x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![32, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S16x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== HyOutRefIdeal.lean ====
abbrev S16384x4096 : Shape := ⟨2, ![16384, 4096]⟩
abbrev S1x4096 : Shape := ⟨2, ![1, 4096]⟩
abbrev S1x4096x4096 : Shape := ⟨3, ![1, 4096, 4096]⟩
abbrev S4096 : Shape := ⟨1, ![4096]⟩
abbrev S4096x4096 : Shape := ⟨2, ![4096, 4096]⟩

abbrev nBuf : Space → Nat
  | .hbm => 17
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x4096, .bf16⟩
  | .hbm, ⟨3, _⟩ => ⟨S1x4096, .f32⟩
  | .hbm, ⟨4, _⟩ => ⟨S1x4096x4096, .f32⟩
  | .hbm, ⟨5, _⟩ => ⟨S16384x4096, .f32⟩
  | .hbm, ⟨6, _⟩ => ⟨S16384x4096, .f32⟩
  | .hbm, ⟨7, _⟩ => ⟨S4096, .f32⟩
  | .hbm, ⟨8, _⟩ => ⟨S1x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S4096x4096, .f32⟩
  | .hbm, ⟨15, _⟩ => ⟨S16384x4096, .f32⟩
  | .hbm, ⟨16, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== MlaOut.lean ====
abbrev S16384x4096 : Shape := ⟨2, ![16384, 4096]⟩
abbrev S1x4096x4096 : Shape := ⟨3, ![1, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S1x4096x4096, .bf16⟩
  | .hbm, ⟨3, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaOutRefIdeal.lean ====
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S4096x4096, .f32⟩
  | .hbm, ⟨4, _⟩ => ⟨S16384x4096, .f32⟩
  | .hbm, ⟨5, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== QDown.lean ====
abbrev S16384x4096 : Shape := ⟨2, ![16384, 4096]⟩
abbrev S1x4096x1600 : Shape := ⟨3, ![1, 4096, 1600]⟩
abbrev S1x1024 : Shape := ⟨2, ![1, 1024]⟩
abbrev S4096x1600 : Shape := ⟨2, ![4096, 1600]⟩
abbrev S1024 : Shape := ⟨1, ![1024]⟩
abbrev S4096x1024 : Shape := ⟨2, ![4096, 1024]⟩
abbrev S16384x1024 : Shape := ⟨2, ![16384, 1024]⟩
abbrev S1024x4096 : Shape := ⟨2, ![1024, 4096]⟩
abbrev S1024x1024 : Shape := ⟨2, ![1024, 1024]⟩
abbrev S1024x1 : Shape := ⟨2, ![1024, 1]⟩

abbrev nBuf : Space → Nat
  | .hbm => 9
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x1600, .f32⟩
  | .hbm, ⟨2, _⟩ => ⟨S1x1024, .f32⟩
  | .hbm, ⟨3, _⟩ => ⟨S4096x1600, .f32⟩
  | .hbm, ⟨4, _⟩ => ⟨S1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S16384x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== QDownRefIdeal.lean ====
abbrev S16384x4096 : Shape := ⟨2, ![16384, 4096]⟩
abbrev S1x4096x1600 : Shape := ⟨3, ![1, 4096, 1600]⟩
abbrev S1x1024 : Shape := ⟨2, ![1, 1024]⟩
abbrev S4096x1600 : Shape := ⟨2, ![4096, 1600]⟩
abbrev S16384x1600 : Shape := ⟨2, ![16384, 1600]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x1600, .f32⟩
  | .hbm, ⟨2, _⟩ => ⟨S1x1024, .f32⟩
  | .hbm, ⟨3, _⟩ => ⟨S16384x4096, .f32⟩
  | .hbm, ⟨4, _⟩ => ⟨S4096x1600, .f32⟩
  | .hbm, ⟨5, _⟩ => ⟨S16384x1600, .f32⟩
  | .hbm, ⟨6, _⟩ => ⟨S16384x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== KvDown.lean ====
abbrev S16384x4096 : Shape := ⟨2, ![16384, 4096]⟩
abbrev S1x4096x1600 : Shape := ⟨3, ![1, 4096, 1600]⟩
abbrev S1x512 : Shape := ⟨2, ![1, 512]⟩
abbrev S16384x16 : Shape := ⟨2, ![16384, 16]⟩
abbrev S4096x1600 : Shape := ⟨2, ![4096, 1600]⟩
abbrev S512 : Shape := ⟨1, ![512]⟩
abbrev S16384x32 : Shape := ⟨2, ![16384, 32]⟩
abbrev S16384x128 : Shape := ⟨2, ![16384, 128]⟩
abbrev S4096x512 : Shape := ⟨2, ![4096, 512]⟩
abbrev S4096x64 : Shape := ⟨2, ![4096, 64]⟩
abbrev S4096x16 : Shape := ⟨2, ![4096, 16]⟩
abbrev S4096x32 : Shape := ⟨2, ![4096, 32]⟩
abbrev S4096x128 : Shape := ⟨2, ![4096, 128]⟩
abbrev S4096x640 : Shape := ⟨2, ![4096, 640]⟩
abbrev S16384x512 : Shape := ⟨2, ![16384, 512]⟩
abbrev S1024x4096 : Shape := ⟨2, ![1024, 4096]⟩
abbrev S1024x128 : Shape := ⟨2, ![1024, 128]⟩
abbrev S1024x512 : Shape := ⟨2, ![1024, 512]⟩
abbrev S1024x640 : Shape := ⟨2, ![1024, 640]⟩
abbrev S1024 : Shape := ⟨1, ![1024]⟩
abbrev S1024x1 : Shape := ⟨2, ![1024, 1]⟩

abbrev nBuf : Space → Nat
  | .hbm => 27
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S1x4096x1600, .f32⟩
  | .hbm, ⟨2, _⟩ => ⟨S1x512, .f32⟩
  | .hbm, ⟨3, _⟩ => ⟨S16384x16, .f32⟩
  | .hbm, ⟨4, _⟩ => ⟨S16384x16, .f32⟩
  | .hbm, ⟨5, _⟩ => ⟨S16384x16, .f32⟩
  | .hbm, ⟨6, _⟩ => ⟨S16384x16, .f32⟩
  | .hbm, ⟨7, _⟩ => ⟨S4096x1600, .f32⟩
  | .hbm, ⟨8, _⟩ => ⟨S512, .f32⟩
  | .hbm, ⟨9, _⟩ => ⟨S16384x32, .f32⟩
  | .hbm, ⟨10, _⟩ => ⟨S16384x32, .f32⟩
  | .hbm, ⟨11, _⟩ => ⟨S16384x32, .f32⟩
  | .hbm, ⟨12, _⟩ => ⟨S16384x128, .f32⟩
  | .hbm, ⟨13, _⟩ => ⟨S4096x512, .f32⟩
  | .hbm, ⟨14, _⟩ => ⟨S4096x64, .f32⟩
  | .hbm, ⟨15, _⟩ => ⟨S4096x16, .f32⟩
  | .hbm, ⟨16, _⟩ => ⟨S4096x16, .f32⟩
  | .hbm, ⟨17, _⟩ => ⟨S4096x32, .f32⟩
  | .hbm, ⟨18, _⟩ => ⟨S4096x16, .f32⟩
  | .hbm, ⟨19, _⟩ => ⟨S4096x16, .f32⟩
  | .hbm, ⟨20, _⟩ => ⟨S4096x32, .f32⟩
  | .hbm, ⟨21, _⟩ => ⟨S4096x128, .f32⟩
  | .hbm, ⟨22, _⟩ => ⟨S4096x640, .f32⟩
  | .hbm, ⟨23, _⟩ => ⟨S4096x640, .bf16⟩
  | .hbm, ⟨24, _⟩ => ⟨S1x512, .f32⟩
  | .hbm, ⟨25, _⟩ => ⟨S16384x512, .bf16⟩
  | .hbm, ⟨26, _⟩ => ⟨S16384x128, .bf16⟩
  | .local _ .vmem, ⟨0, _⟩ => ⟨S1024x4096, .bf16⟩
  | .local _ .vmem, ⟨1, _⟩ => ⟨S1024x4096, .bf16⟩
  | .local _ .vmem, ⟨2, _⟩ => ⟨S4096x640, .bf16⟩
  | .local _ .vmem, ⟨3, _⟩ => ⟨S1x512, .f32⟩
  | .local _ .vmem, ⟨4, _⟩ => ⟨S1024x128, .f32⟩
  | .local _ .vmem, ⟨5, _⟩ => ⟨S1024x128, .f32⟩
  | .local _ .vmem, ⟨6, _⟩ => ⟨S1024x512, .bf16⟩
  | .local _ .vmem, ⟨7, _⟩ => ⟨S1024x512, .bf16⟩
  | .local _ .vmem, ⟨8, _⟩ => ⟨S1024x128, .bf16⟩
  | .local _ .vmem, ⟨9, _⟩ => ⟨S1024x128, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== KvDownRefIdeal.lean ====
abbrev S16384x4096 : Shape := ⟨2, ![16384, 4096]⟩
abbrev S1x4096x1600 : Shape := ⟨3, ![1, 4096, 1600]⟩
abbrev S1x512 : Shape := ⟨2, ![1, 512]⟩
abbrev S16384x16 : Shape := ⟨2, ![16384, 16]⟩
abbrev S4096x1600 : Shape := ⟨2, ![4096, 1600]⟩
abbrev S16384x1600 : Shape := ⟨2, ![16384, 1600]⟩
abbrev S16384x576 : Shape := ⟨2, ![16384, 576]⟩
abbrev S16384x64 : Shape := ⟨2, ![16384, 64]⟩
abbrev S16384x32 : Shape := ⟨2, ![16384, 32]⟩
abbrev S16384x512 : Shape := ⟨2, ![16384, 512]⟩
abbrev S512 : Shape := ⟨1, ![512]⟩
abbrev S_ : Shape := ⟨0, ![]⟩
abbrev S16384 : Shape := ⟨1, ![16384]⟩
abbrev S16384x1 : Shape := ⟨2, ![16384, 1]⟩
abbrev S16384x128 : Shape := ⟨2, ![16384, 128]⟩

abbrev nBuf : Space → Nat
  | .hbm => 58
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x1600, .f32⟩
  | .hbm, ⟨2, _⟩ => ⟨S1x512, .f32⟩
  | .hbm, ⟨3, _⟩ => ⟨S16384x16, .f32⟩
  | .hbm, ⟨4, _⟩ => ⟨S16384x16, .f32⟩
  | .hbm, ⟨5, _⟩ => ⟨S16384x16, .f32⟩
  | .hbm, ⟨6, _⟩ => ⟨S16384x16, .f32⟩
  | .hbm, ⟨7, _⟩ => ⟨S16384x4096, .f32⟩
  | .hbm, ⟨8, _⟩ => ⟨S4096x1600, .f32⟩
  | .hbm, ⟨9, _⟩ => ⟨S16384x1600, .f32⟩
  | .hbm, ⟨10, _⟩ => ⟨S16384x576, .f32⟩
  | .hbm, ⟨11, _⟩ => ⟨S16384x64, .f32⟩
  | .hbm, ⟨12, _⟩ => ⟨S16384x32, .f32⟩
  | .hbm, ⟨13, _⟩ => ⟨S16384x32, .f32⟩
  | .hbm, ⟨14, _⟩ => ⟨S16384x16, .f32⟩
  | .hbm, ⟨15, _⟩ => ⟨S16384x16, .f32⟩
  | .hbm, ⟨16, _⟩ => ⟨S16384x16, .f32⟩
  | .hbm, ⟨17, _⟩ => ⟨S16384x16, .f32⟩
  | .hbm, ⟨18, _⟩ => ⟨S16384x16, .f32⟩
  | .hbm, ⟨19, _⟩ => ⟨S16384x16, .f32⟩
  | .hbm, ⟨20, _⟩ => ⟨S16384x16, .f32⟩
  | .hbm, ⟨21, _⟩ => ⟨S16384x16, .f32⟩
  | .hbm, ⟨22, _⟩ => ⟨S16384x32, .f32⟩
  | .hbm, ⟨23, _⟩ => ⟨S16384x16, .f32⟩
  | .hbm, ⟨24, _⟩ => ⟨S16384x16, .f32⟩
  | .hbm, ⟨25, _⟩ => ⟨S16384x16, .f32⟩
  | .hbm, ⟨26, _⟩ => ⟨S16384x16, .f32⟩
  | .hbm, ⟨27, _⟩ => ⟨S16384x16, .f32⟩
  | .hbm, ⟨28, _⟩ => ⟨S16384x16, .f32⟩
  | .hbm, ⟨29, _⟩ => ⟨S16384x16, .f32⟩
  | .hbm, ⟨30, _⟩ => ⟨S16384x16, .f32⟩
  | .hbm, ⟨31, _⟩ => ⟨S16384x16, .f32⟩
  | .hbm, ⟨32, _⟩ => ⟨S16384x16, .f32⟩
  | .hbm, ⟨33, _⟩ => ⟨S16384x32, .f32⟩
  | .hbm, ⟨34, _⟩ => ⟨S16384x16, .f32⟩
  | .hbm, ⟨35, _⟩ => ⟨S16384x16, .f32⟩
  | .hbm, ⟨36, _⟩ => ⟨S16384x64, .f32⟩
  | .hbm, ⟨37, _⟩ => ⟨S16384x512, .f32⟩
  | .hbm, ⟨38, _⟩ => ⟨S512, .f32⟩
  | .hbm, ⟨39, _⟩ => ⟨S16384x512, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x512, .f32⟩
  | .hbm, ⟨51, _⟩ => ⟨S16384x512, .f32⟩
  | .hbm, ⟨52, _⟩ => ⟨S1x512, .f32⟩
  | .hbm, ⟨53, _⟩ => ⟨S16384x512, .f32⟩
  | .hbm, ⟨54, _⟩ => ⟨S16384x512, .f32⟩
  | .hbm, ⟨55, _⟩ => ⟨S16384x128, .f32⟩
  | .hbm, ⟨56, _⟩ => ⟨S16384x512, .bf16⟩
  | .hbm, ⟨57, _⟩ => ⟨S16384x128, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst : Ref sig .tc := ⟨.hbm, 40, rfl⟩
abbrev main_v33 : Ref sig .tc := ⟨.hbm, 41, rfl⟩
abbrev main_v34 : Ref sig .tc := ⟨.hbm, 42, rfl⟩
abbrev main_cst_0 : Ref sig .tc := ⟨.hbm, 43, rfl⟩
abbrev main_v35 : Ref sig .tc := ⟨.hbm, 44, rfl⟩
abbrev main_v36 : Ref sig .tc := ⟨.hbm, 45, rfl⟩
abbrev main_cst_1 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== KUp.lean ====
abbrev S16640x512 : Shape := ⟨2, ![16640, 512]⟩
abbrev S16640x128 : Shape := ⟨2, ![16640, 128]⟩
abbrev S1x512x8192 : Shape := ⟨3, ![1, 512, 8192]⟩
abbrev S512x8192 : Shape := ⟨2, ![512, 8192]⟩
abbrev S512x32x256 : Shape := ⟨3, ![512, 32, 256]⟩
abbrev S512x32x128 : Shape := ⟨3, ![512, 32, 128]⟩
abbrev S512x4096 : Shape := ⟨2, ![512, 4096]⟩
abbrev S16640x8192 : Shape := ⟨2, ![16640, 8192]⟩
abbrev S1664x512 : Shape := ⟨2, ![1664, 512]⟩
abbrev S512x256 : Shape := ⟨2, ![512, 256]⟩
abbrev S1664x128 : Shape := ⟨2, ![1664, 128]⟩
abbrev S1664x256 : Shape := ⟨2, ![1664, 256]⟩

abbrev nBuf : Space → Nat
  | .hbm => 9
  | .vmem => 8
  | .smem => 0
  | _ => 0

abbrev bufTy : (tb : Table) → Fin (tcTables nBuf tb) → BufTy
  | .hbm, ⟨0, _⟩ => ⟨S16640x512, .bf16⟩
  | .hbm, ⟨1, _⟩ => ⟨S16640x128, .bf16⟩
  | .hbm, ⟨2, _⟩ => ⟨S1x512x8192, .f32⟩
  | .hbm, ⟨3, _⟩ => ⟨S512x8192, .f32⟩
  | .hbm, ⟨4, _⟩ => ⟨S512x32x256, .f32⟩
  | .hbm, ⟨5, _⟩ => ⟨S512x32x128, .f32⟩
  | .hbm, ⟨6, _⟩ => ⟨S512x4096, .f32⟩
  | .hbm, ⟨7, _⟩ => ⟨S512x4096, .bf16⟩
  | .hbm, ⟨8, _⟩ => ⟨S16640x8192, .bf16⟩
  | .local _ .vmem, ⟨0, _⟩ => ⟨S1664x512, .bf16⟩
  | .local _ .vmem, ⟨1, _⟩ => ⟨S1664x512, .bf16⟩
  | .local _ .vmem, ⟨2, _⟩ => ⟨S512x256, .bf16⟩
  | .local _ .vmem, ⟨3, _⟩ => ⟨S512x256, .bf16⟩
  | .local _ .vmem, ⟨4, _⟩ => ⟨S1664x128, .bf16⟩
  | .local _ .vmem, ⟨5, _⟩ => ⟨S1664x128, .bf16⟩
  | .local _ .vmem, ⟨6, _⟩ => ⟨S1664x512, .bf16⟩
  | .local _ .vmem, ⟨7, _⟩ => ⟨S1664x512, .bf16⟩
  | _, _ => ⟨S16640x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![10, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1664x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KUpRefIdeal.lean ====
abbrev S16640x512 : Shape := ⟨2, ![16640, 512]⟩
abbrev S16640x128 : Shape := ⟨2, ![16640, 128]⟩
abbrev S1x512x8192 : Shape := ⟨3, ![1, 512, 8192]⟩
abbrev S512x8192 : Shape := ⟨2, ![512, 8192]⟩
abbrev S16640x8192 : Shape := ⟨2, ![16640, 8192]⟩
abbrev S16640x32x256 : Shape := ⟨3, ![16640, 32, 256]⟩
abbrev S16640x1x128 : Shape := ⟨3, ![16640, 1, 128]⟩
abbrev S16640x32x128 : Shape := ⟨3, ![16640, 32, 128]⟩

abbrev nBuf : Space → Nat
  | .hbm => 14
  | .vmem => 0
  | .smem => 0
  | _ => 0

abbrev bufTy : (tb : Table) → Fin (tcTables nBuf tb) → BufTy
  | .hbm, ⟨0, _⟩ => ⟨S16640x512, .bf16⟩
  | .hbm, ⟨1, _⟩ => ⟨S16640x128, .bf16⟩
  | .hbm, ⟨2, _⟩ => ⟨S1x512x8192, .f32⟩
  | .hbm, ⟨3, _⟩ => ⟨S16640x512, .f32⟩
  | .hbm, ⟨4, _⟩ => ⟨S512x8192, .f32⟩
  | .hbm, ⟨5, _⟩ => ⟨S16640x8192, .f32⟩
  | .hbm, ⟨6, _⟩ => ⟨S16640x32x256, .f32⟩
  | .hbm, ⟨7, _⟩ => ⟨S16640x128, .f32⟩
  | .hbm, ⟨8, _⟩ => ⟨S16640x1x128, .f32⟩
  | .hbm, ⟨9, _⟩ => ⟨S16640x32x128, .f32⟩
  | .hbm, ⟨10, _⟩ => ⟨S16640x32x128, .f32⟩
  | .hbm, ⟨11, _⟩ => ⟨S16640x32x256, .f32⟩
  | .hbm, ⟨12, _⟩ => ⟨S16640x8192, .f32⟩
  | .hbm, ⟨13, _⟩ => ⟨S16640x8192, .bf16⟩
  | _, _ => ⟨S16640x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== VUp.lean ====
abbrev S16640x512 : Shape := ⟨2, ![16640, 512]⟩
abbrev S1x512x8192 : Shape := ⟨3, ![1, 512, 8192]⟩
abbrev S512x8192 : Shape := ⟨2, ![512, 8192]⟩
abbrev S512x32x256 : Shape := ⟨3, ![512, 32, 256]⟩
abbrev S512x32x128 : Shape := ⟨3, ![512, 32, 128]⟩
abbrev S512x4096 : Shape := ⟨2, ![512, 4096]⟩
abbrev S4096x512 : Shape := ⟨2, ![4096, 512]⟩
abbrev S4096x16640 : Shape := ⟨2, ![4096, 16640]⟩
abbrev S256x512 : Shape := ⟨2, ![256, 512]⟩
abbrev S3328x512 : Shape := ⟨2, ![3328, 512]⟩
abbrev S256x3328 : Shape := ⟨2, ![256, 3328]⟩

abbrev nBuf : Space → Nat
  | .hbm => 9
  | .vmem => 6
  | .smem => 0
  | _ => 0

abbrev bufTy : (tb : Table) → Fin (tcTables nBuf tb) → BufTy
  | .hbm, ⟨0, _⟩ => ⟨S16640x512, .bf16⟩
  | .hbm, ⟨1, _⟩ => ⟨S1x512x8192, .f32⟩
  | .hbm, ⟨2, _⟩ => ⟨S512x8192, .f32⟩
  | .hbm, ⟨3, _⟩ => ⟨S512x32x256, .f32⟩
  | .hbm, ⟨4, _⟩ => ⟨S512x32x128, .f32⟩
  | .hbm, ⟨5, _⟩ => ⟨S512x4096, .f32⟩
  | .hbm, ⟨6, _⟩ => ⟨S4096x512, .f32⟩
  | .hbm, ⟨7, _⟩ => ⟨S4096x512, .bf16⟩
  | .hbm, ⟨8, _⟩ => ⟨S4096x16640, .bf16⟩
  | .local _ .vmem, ⟨0, _⟩ => ⟨S256x512, .bf16⟩
  | .local _ .vmem, ⟨1, _⟩ => ⟨S256x512, .bf16⟩
  | .local _ .vmem, ⟨2, _⟩ => ⟨S3328x512, .bf16⟩
  | .local _ .vmem, ⟨3, _⟩ => ⟨S3328x512, .bf16⟩
  | .local _ .vmem, ⟨4, _⟩ => ⟨S256x3328, .bf16⟩
  | .local _ .vmem, ⟨5, _⟩ => ⟨S256x3328, .bf16⟩
  | _, _ => ⟨S16640x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3328x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x3328 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== VUpRefIdeal.lean ====
abbrev S16640x512 : Shape := ⟨2, ![16640, 512]⟩
abbrev S1x512x8192 : Shape := ⟨3, ![1, 512, 8192]⟩
abbrev S512x8192 : Shape := ⟨2, ![512, 8192]⟩
abbrev S16640x8192 : Shape := ⟨2, ![16640, 8192]⟩
abbrev S16640x32x256 : Shape := ⟨3, ![16640, 32, 256]⟩
abbrev S16640x32x128 : Shape := ⟨3, ![16640, 32, 128]⟩
abbrev S16640x4096 : Shape := ⟨2, ![16640, 4096]⟩
abbrev S4096x16640 : Shape := ⟨2, ![4096, 16640]⟩

abbrev nBuf : Space → Nat
  | .hbm => 10
  | .vmem => 0
  | .smem => 0
  | _ => 0

abbrev bufTy : (tb : Table) → Fin (tcTables nBuf tb) → BufTy
  | .hbm, ⟨0, _⟩ => ⟨S16640x512, .bf16⟩
  | .hbm, ⟨1, _⟩ => ⟨S1x512x8192, .f32⟩
  | .hbm, ⟨2, _⟩ => ⟨S16640x512, .f32⟩
  | .hbm, ⟨3, _⟩ => ⟨S512x8192, .f32⟩
  | .hbm, ⟨4, _⟩ => ⟨S16640x8192, .f32⟩
  | .hbm, ⟨5, _⟩ => ⟨S16640x32x256, .f32⟩
  | .hbm, ⟨6, _⟩ => ⟨S16640x32x128, .f32⟩
  | .hbm, ⟨7, _⟩ => ⟨S16640x4096, .f32⟩
  | .hbm, ⟨8, _⟩ => ⟨S4096x16640, .f32⟩
  | .hbm, ⟨9, _⟩ => ⟨S4096x16640, .bf16⟩
  | _, _ => ⟨S16640x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Norm.lean ====
abbrev S16384x4096 : Shape := ⟨2, ![16384, 4096]⟩
abbrev S4096 : Shape := ⟨1, ![4096]⟩
abbrev S1x4096 : Shape := ⟨2, ![1, 4096]⟩
abbrev S_ : Shape := ⟨0, ![]⟩
abbrev S8x4096 : Shape := ⟨2, ![8, 4096]⟩
abbrev S256x4096 : Shape := ⟨2, ![256, 4096]⟩
abbrev S256 : Shape := ⟨1, ![256]⟩
abbrev S256x1 : Shape := ⟨2, ![256, 1]⟩

abbrev nBuf : Space → Nat
  | .hbm => 17
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S_, .f32⟩
  | .hbm, ⟨13, _⟩ => ⟨S1x4096, .f32⟩
  | .hbm, ⟨14, _⟩ => ⟨S8x4096, .f32⟩
  | .hbm, ⟨15, _⟩ => ⟨S16384x4096, .f32⟩
  | .hbm, ⟨16, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S8x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .bf16⟩
  | .local _ .vmem, ⟨8, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 54
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x4096, .f32⟩
  | .hbm, ⟨20, _⟩ => ⟨S16384x4096, .f32⟩
  | .hbm, ⟨21, _⟩ => ⟨S1x4096, .f32⟩
  | .hbm, ⟨22, _⟩ => ⟨S16384x4096, .f32⟩
  | .hbm, ⟨23, _⟩ => ⟨S16384x4096, .f32⟩
  | .hbm, ⟨24, _⟩ => ⟨S1x4096, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x4096, .f32⟩
  | .hbm, ⟨40, _⟩ => ⟨S16384x4096, .f32⟩
  | .hbm, ⟨41, _⟩ => ⟨S1x4096, .f32⟩
  | .hbm, ⟨42, _⟩ => ⟨S16384x4096, .f32⟩
  | .hbm, ⟨43, _⟩ => ⟨S16384x4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S1x4096, .f32⟩
  | .hbm, ⟨48, _⟩ => ⟨S16384x4096, .f32⟩
  | .hbm, ⟨49, _⟩ => ⟨S16384x4096, .f32⟩
  | .hbm, ⟨50, _⟩ => ⟨S1x4096, .f32⟩
  | .hbm, ⟨51, _⟩ => ⟨S16384x4096, .f32⟩
  | .hbm, ⟨52, _⟩ => ⟨S16384x4096, .f32⟩
  | .hbm, ⟨53, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proof.AttentionStep.lean ====
/-
  One step of the attention kernel: what a grid point leaves in its three running arrays (each query's largest score so far,
  the sum of the powers of two, the weighted sum of the values) and in its output block, from the point's blocks of the
  queries, keys and values and from what the arrays held before.
-/
module

public import proofs.«01_k».proof.Defs
public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.RefValue

open Cert.KernelIdeal Cert.KernelIdeal.Gen Idealize.ShloMosaic Idealize.ShloMosaic.TcCoe Idealize.SL.Sem

/-- The score of the block's key `k` and query `q`: the sum over the 256 features of the products. -/
def score (x0 : FVec Ideal S256x2048 .bf16) (x1 : FVec Ideal S3328x256 .bf16) (k : Fin 3328) (q : Fin 2048) : EReal :=
  ∑ d : Fin 256, x1 (ix2 k d) * x0 (ix2 d q)

/-- The largest score of query `q` after the block's first 1536 keys, from the largest before, `t`. -/
def top1 (x0 : FVec Ideal S256x2048 .bf16) (x1 : FVec Ideal S3328x256 .bf16) (q : Fin 2048) (t : EReal) : EReal :=
  max t (Finset.univ.fold max ⊥ fun k : Fin 1536 => score x0 x1 ⟨k, by omega⟩ q)

/-- The largest score of query `q` after the whole block. -/
def top2 (x0 : FVec Ideal S256x2048 .bf16) (x1 : FVec Ideal S3328x256 .bf16) (q : Fin 2048) (t : EReal) : EReal :=
  max (top1 x0 x1 q t) (Finset.univ.fold max ⊥ fun k : Fin 1792 => score x0 x1 ⟨1536 + k, by omega⟩ q)

/-- The sum of the powers of query `q` after the first 1536 keys, from the largest score before, `t`, and the sum before, `s`. -/
def den1 (x0 : FVec Ideal S256x2048 .bf16) (x1 : FVec Ideal S3328x256 .bf16) (q : Fin 2048) (t s : EReal) : EReal :=
  Ideal.exp2 (t - top1 x0 x1 q t) * s + ∑ k : Fin 1536, Ideal.exp2 (score x0 x1 ⟨k, by omega⟩ q - top1 x0 x1 q t)

/-- The sum of the powers of query `q` after the whole block. -/
def den2 (x0 : FVec Ideal S256x2048 .bf16) (x1 : FVec Ideal S3328x256 .bf16) (q : Fin 2048) (t s : EReal) : EReal :=
  Ideal.exp2 (top1 x0 x1 q t - top2 x0 x1 q t) * den1 x0 x1 q t s
    + ∑ k : Fin 1792, Ideal.exp2 (score x0 x1 ⟨1536 + k, by omega⟩ q - top2 x0 x1 q t)

/-- The weighted sum of the values' feature `d` for query `q` after the first 1536 keys, from the weighted sum before, `a`. -/
def num1 (x0 : FVec Ideal S256x2048 .bf16) (x1 : FVec Ideal S3328x256 .bf16) (x2 : FVec Ideal S128x3328 .bf16) (d : Fin 128)
    (q : Fin 2048) (t a : EReal) : EReal :=
  Ideal.exp2 (t - top1 x0 x1 q t) * a
    + ∑ k : Fin 1536, x2 (ix2 d ⟨k, by omega⟩) * Ideal.exp2 (score x0 x1 ⟨k, by omega⟩ q - top1 x0 x1 q t)

/-- The weighted sum after the whole block. -/
def num2 (x0 : FVec Ideal S256x2048 .bf16) (x1 : FVec Ideal S3328x256 .bf16) (x2 : FVec Ideal S128x3328 .bf16) (d : Fin 128)
    (q : Fin 2048) (t a : EReal) : EReal :=
  Ideal.exp2 (top1 x0 x1 q t - top2 x0 x1 q t) * num1 x0 x1 x2 d q t a
    + ∑ k : Fin 1792, x2 (ix2 d ⟨1536 + k, by omega⟩) * Ideal.exp2 (score x0 x1 ⟨1536 + k, by omega⟩ q - top2 x0 x1 q t)

/-- Where the later stores cover an index, the earlier stores don't show there. -/
theorem canon_append_cover {Val : EltTy → Type} [∀ e, Nonempty (Val e)] {s : Shape} {e : EltTy} (L' : List (View.Piece Val s e)) :
    ∀ (L : List (View.Piece Val s e)) (y : s.Idx), (∃ p ∈ L, y ∈ p.1.set) → View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append]
      exact (View.canon_cons_emb p.1 p.2 _ x).trans (View.canon_cons_emb p.1 p.2 _ x).symm
    · rw [List.cons_append, View.canon_cons_of_not_mem _ _ hm, View.canon_cons_of_not_mem _ _ hm]
      refine canon_append_cover L' L y ?_
      obtain ⟨q, hq, hy⟩ := hy
      rcases List.mem_cons.1 hq with rfl | hq
      · exact absurd hy hm
      · exact ⟨q, hq, hy⟩

/-- The kernel's first "largest score" is minus infinity. -/
theorem bot : Ideal.ofBits .f32 4286578688#32 = (⊥ : EReal) := by simp [Ideal.ofBits, Ideal.ieee]

/-- The kernel's power of two is the extended reals'. -/
theorem exp2_eq (x : EReal) : FloatOps.exp2 (F := Ideal) (φ := .f32) x = Ideal.exp2 x := rfl

/-- The kernel's zero is 0. -/
theorem zero32 : Ideal.ofBits .f32 0#32 = (0 : EReal) := by simp [Ideal.ofBits, Ideal.ieee]

/-- The kernel's one is 1. -/
theorem one32 : Ideal.ofBits .f32 1065353216#32 = (1 : EReal) := by
  simp [Ideal.ofBits, Ideal.ieee, -EReal.coe_mul]; norm_num

end Cert.KernelIdeal.RefValue

end
-- ==== Proof.AttentionFirst.lean ====
/-
  The attention kernel's first point of a query block: the three running arrays after it.
-/
module

public import proofs.«01_k».proof.Proof.AttentionStep
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.RefValue

open Cert.KernelIdeal Cert.KernelIdeal.Gen Idealize.ShloMosaic Idealize.ShloMosaic.TcCoe Idealize.SL.Sem

section
variable (c : Dev nD) (i : grid0.Coords) (arg3 : Memref sig .tc .vmem S256x2048 .bf16) (harg3 : arg3.IsWhole)
  (arg4 : Memref sig .tc .vmem S3328x256 .bf16) (harg4 : arg4.IsWhole) (arg5 : Memref sig .tc .vmem S128x3328 .bf16)
  (harg5 : arg5.IsWhole) (arg6 : Memref sig .tc .vmem S2048x128 .bf16) (harg6 : arg6.IsWhole)
  (arg7 : Memref sig .tc .vmem S1x2048 .f32) (harg7 : arg7.IsWhole) (arg8 : Memref sig .tc .vmem S1x2048 .f32)
  (harg8 : arg8.IsWhole) (arg9 : Memref sig .tc .vmem S128x2048 .f32) (harg9 : arg9.IsWhole)
  (x0 : Vec Ideal S256x2048 .bf16) (x1 : Vec Ideal S3328x256 .bf16) (x2 : Vec Ideal S128x3328 .bf16)
  (xs0 xs1 : Vec Ideal S1x2048 .f32) (xs2 : Vec Ideal S128x2048 .f32)

/-- A block's first point starts from nothing: the largest score. -/
theorem first_top (hc0 : cond0_0 i) (hc1 : ¬cond0_1 i) (y : S1x2048.Idx) :
    sout0_A_0 (F := Ideal) c i arg3 harg3 arg4 harg4 arg5 harg5 arg6 harg6 arg7 harg7 arg8 harg8 arg9 harg9 hc0 hc1 x0 x1 x2 y
      = top2 x0 x1 (y 1) ⊥ := by
  frame_open
  simp (disch := decide) only [↓ View.readCov_skip, ↓ View.readCov_cons_toLoadRect, ↓ View.readCov_fill]
  frame_out
  obtain ⟨y0, y1, rfl⟩ : ∃ (a : Fin 1) (b : Fin 2048), y = ix2 a b := ⟨y 0, y 1, by funext a; fin_cases a <;> rfl⟩
  refine (canon_append_cover [_] [_, _, _, _] _ (View.cover_of_tiledL _ ![1, 512] rfl _)).trans ?_
  canon_tiles x h
  all_goals
    obtain ⟨v, hv⟩ := y1
    obtain ⟨u, hu⟩ := y0
    dsimp only [ix2_0, ix2_1] at h0 h1
    subst h0 h1
    unfold_payloads
    pointwise [bot, exp2_eq, top2, top1, score, zero32]

/-- A block's first point starts from nothing: the sum of powers. -/
theorem first_den (hc0 : cond0_0 i) (hc1 : ¬cond0_1 i) (y : S1x2048.Idx) :
    sout0_A_1 (F := Ideal) c i arg3 harg3 arg4 harg4 arg5 harg5 arg6 harg6 arg7 harg7 arg8 harg8 arg9 harg9 hc0 hc1 x0 x1 x2 y
      = den2 x0 x1 (y 1) ⊥ 0 := by
  frame_open
  simp (disch := decide) only [↓ View.readCov_skip, ↓ View.readCov_cons_toLoadRect, ↓ View.readCov_fill]
  frame_out
  obtain ⟨y0, y1, rfl⟩ : ∃ (a : Fin 1) (b : Fin 2048), y = ix2 a b := ⟨y 0, y 1, by funext a; fin_cases a <;> rfl⟩
  refine (canon_append_cover [_] [_, _, _, _] _ (View.cover_of_tiledL _ ![1, 512] rfl _)).trans ?_
  canon_tiles x h
  all_goals
    obtain ⟨v, hv⟩ := y1
    obtain ⟨u, hu⟩ := y0
    dsimp only [ix2_0, ix2_1] at h0 h1
    subst h0 h1
    unfold_payloads
    pointwise [bot, exp2_eq, den2, den1, top2, top1, score, zero32]

/-- A block's first point starts from nothing: the weighted sum. -/
theorem first_num (hc0 : cond0_0 i) (hc1 : ¬cond0_1 i) (y : S128x2048.Idx) :
    sout0_A_2 (F := Ideal) c i arg3 harg3 arg4 harg4 arg5 harg5 arg6 harg6 arg7 harg7 arg8 harg8 arg9 harg9 hc0 hc1 x0 x1 x2 y
      = num2 x0 x1 x2 (y 0) (y 1) ⊥ 0 := by
  frame_open
  simp (disch := decide) only [↓ View.readCov_skip, ↓ View.readCov_cons_toLoadRect, ↓ View.readCov_fill]
  frame_out
  obtain ⟨y0, y1, rfl⟩ : ∃ (a : Fin 128) (b : Fin 2048), y = ix2 a b := ⟨y 0, y 1, by funext a; fin_cases a <;> rfl⟩
  refine (canon_append_cover [_] [_, _, _, _] _ (View.cover_of_tiledL _ ![128, 512] rfl _)).trans ?_
  canon_tiles x h
  all_goals
    obtain ⟨v, hv⟩ := y1
    obtain ⟨u, hu⟩ := y0
    dsimp only [ix2_0, ix2_1] at h0 h1
    subst h0 h1
    unfold_payloads
    pointwise [bot, exp2_eq, num2, num1, top2, top1, score, zero32]

end
end Cert.KernelIdeal.RefValue

end
-- ==== Proof.AttentionMiddle.lean ====
/-
  The attention kernel's middle points of a query block: the three running arrays after each.
-/
module

public import proofs.«01_k».proof.Proof.AttentionStep
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.RefValue

open Cert.KernelIdeal Cert.KernelIdeal.Gen Idealize.ShloMosaic Idealize.ShloMosaic.TcCoe Idealize.SL.Sem

section
variable (c : Dev nD) (i : grid0.Coords) (arg3 : Memref sig .tc .vmem S256x2048 .bf16) (harg3 : arg3.IsWhole)
  (arg4 : Memref sig .tc .vmem S3328x256 .bf16) (harg4 : arg4.IsWhole) (arg5 : Memref sig .tc .vmem S128x3328 .bf16)
  (harg5 : arg5.IsWhole) (arg6 : Memref sig .tc .vmem S2048x128 .bf16) (harg6 : arg6.IsWhole)
  (arg7 : Memref sig .tc .vmem S1x2048 .f32) (harg7 : arg7.IsWhole) (arg8 : Memref sig .tc .vmem S1x2048 .f32)
  (harg8 : arg8.IsWhole) (arg9 : Memref sig .tc .vmem S128x2048 .f32) (harg9 : arg9.IsWhole)
  (x0 : Vec Ideal S256x2048 .bf16) (x1 : Vec Ideal S3328x256 .bf16) (x2 : Vec Ideal S128x3328 .bf16)
  (xs0 xs1 : Vec Ideal S1x2048 .f32) (xs2 : Vec Ideal S128x2048 .f32)

/-- After a middle point: the largest score. -/
theorem middle_top (hc0 : ¬cond0_0 i) (hc1 : ¬cond0_1 i) (y : S1x2048.Idx) :
    sout0_B_0 (F := Ideal) c i arg3 harg3 arg4 harg4 arg5 harg5 arg6 harg6 arg7 harg7 arg8 harg8 arg9 harg9 hc0 hc1 x0 x1 x2 xs0 xs1 xs2 y
      = top2 x0 x1 (y 1) (xs0 (ix2 0 (y 1))) := by
  frame_out
  obtain ⟨y0, y1, rfl⟩ : ∃ (a : Fin 1) (b : Fin 2048), y = ix2 a b := ⟨y 0, y 1, by funext a; fin_cases a <;> rfl⟩
  canon_tiles x h
  all_goals
    obtain ⟨v, hv⟩ := y1
    obtain ⟨u, hu⟩ := y0
    dsimp only [ix2_0, ix2_1] at h0 h1
    subst h0 h1
    unfold_payloads
    pointwise [bot, exp2_eq, top2, top1, score]

/-- After a middle point: the sum of powers. -/
theorem middle_den (hc0 : ¬cond0_0 i) (hc1 : ¬cond0_1 i) (y : S1x2048.Idx) :
    sout0_B_1 (F := Ideal) c i arg3 harg3 arg4 harg4 arg5 harg5 arg6 harg6 arg7 harg7 arg8 harg8 arg9 harg9 hc0 hc1 x0 x1 x2 xs0 xs1 xs2 y
      = den2 x0 x1 (y 1) (xs0 (ix2 0 (y 1))) (xs1 (ix2 0 (y 1))) := by
  frame_out
  obtain ⟨y0, y1, rfl⟩ : ∃ (a : Fin 1) (b : Fin 2048), y = ix2 a b := ⟨y 0, y 1, by funext a; fin_cases a <;> rfl⟩
  canon_tiles x h
  all_goals
    obtain ⟨v, hv⟩ := y1
    obtain ⟨u, hu⟩ := y0
    dsimp only [ix2_0, ix2_1] at h0 h1
    subst h0 h1
    unfold_payloads
    pointwise [bot, exp2_eq, den2, den1, top2, top1, score]

/-- After a middle point: the weighted sum. -/
theorem middle_num (hc0 : ¬cond0_0 i) (hc1 : ¬cond0_1 i) (y : S128x2048.Idx) :
    sout0_B_2 (F := Ideal) c i arg3 harg3 arg4 harg4 arg5 harg5 arg6 harg6 arg7 harg7 arg8 harg8 arg9 harg9 hc0 hc1 x0 x1 x2 xs0 xs1 xs2 y
      = num2 x0 x1 x2 (y 0) (y 1) (xs0 (ix2 0 (y 1))) (xs2 y) := by
  frame_out
  obtain ⟨y0, y1, rfl⟩ : ∃ (a : Fin 128) (b : Fin 2048), y = ix2 a b := ⟨y 0, y 1, by funext a; fin_cases a <;> rfl⟩
  canon_tiles x h
  all_goals
    obtain ⟨v, hv⟩ := y1
    obtain ⟨u, hu⟩ := y0
    dsimp only [ix2_0, ix2_1] at h0 h1
    subst h0 h1
    unfold_payloads
    pointwise [bot, exp2_eq, num2, num1, top2, top1, score]

end
end Cert.KernelIdeal.RefValue

end
-- ==== Proof.AttentionLast.lean ====
/-
  The attention kernel's last point of a query block: the block of the result it writes.
-/
module

public import proofs.«01_k».proof.Proof.AttentionStep
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.RefValue

open Cert.KernelIdeal Cert.KernelIdeal.Gen Idealize.ShloMosaic Idealize.ShloMosaic.TcCoe Idealize.SL.Sem

section
variable (c : Dev nD) (i : grid0.Coords) (arg3 : Memref sig .tc .vmem S256x2048 .bf16) (harg3 : arg3.IsWhole)
  (arg4 : Memref sig .tc .vmem S3328x256 .bf16) (harg4 : arg4.IsWhole) (arg5 : Memref sig .tc .vmem S128x3328 .bf16)
  (harg5 : arg5.IsWhole) (arg6 : Memref sig .tc .vmem S2048x128 .bf16) (harg6 : arg6.IsWhole)
  (arg7 : Memref sig .tc .vmem S1x2048 .f32) (harg7 : arg7.IsWhole) (arg8 : Memref sig .tc .vmem S1x2048 .f32)
  (harg8 : arg8.IsWhole) (arg9 : Memref sig .tc .vmem S128x2048 .f32) (harg9 : arg9.IsWhole)
  (x0 : Vec Ideal S256x2048 .bf16) (x1 : Vec Ideal S3328x256 .bf16) (x2 : Vec Ideal S128x3328 .bf16)
  (xs0 xs1 : Vec Ideal S1x2048 .f32) (xs2 : Vec Ideal S128x2048 .f32)

/-- What a query block's last point writes out: the weighted sum over the sum of powers. -/
theorem last_out (hc0 : ¬cond0_0 i) (hc1 : cond0_1 i) (y : S2048x128.Idx) :
    out0_C_3 (F := Ideal) c i arg3 harg3 arg4 harg4 arg5 harg5 arg6 harg6 arg7 harg7 arg8 harg8 arg9 harg9 hc0 hc1 x0 x1 x2 xs0 xs1 xs2 y
      = num2 x0 x1 x2 (y 1) (y 0) (xs0 (ix2 0 (y 0))) (xs2 (ix2 (y 1) (y 0)))
        * Ideal.div 1 (den2 x0 x1 (y 0) (xs0 (ix2 0 (y 0))) (xs1 (ix2 0 (y 0)))) := by
  frame_open
  simp (disch := decide) only [↓ View.readCov_skip, ↓ View.readCov_cons_toLoadRect, ↓ View.readCov_fill]
  frame_out
  obtain ⟨y0, y1, rfl⟩ : ∃ (a : Fin 2048) (b : Fin 128), y = ix2 a b := ⟨y 0, y 1, by funext a; fin_cases a <;> rfl⟩
  canon_tiles x h
  all_goals
    obtain ⟨v, hv⟩ := y1
    obtain ⟨u, hu⟩ := y0
    dsimp only [ix2_0, ix2_1] at h0 h1
    subst h0 h1
    unfold_payloads
    pointwise [bot, exp2_eq, one32, num2, num1, den2, den1, top2, top1, score]

end
end Cert.KernelIdeal.RefValue

end
-- ==== Proof.Softmax.lean ====
/-
  A softmax taken chunk by chunk, over the extended reals. The scores `r k` are real numbers, the values `v k` extended reals.
  After the first `N` keys: the largest score, the sum of the powers of two of the scores less the largest, and the sum of
  the values weighted by these powers; how a further chunk of keys changes each; and that, over all the keys, the weighted sum
  divided by the sum of the powers is the softmax of the scores times `ln 2`, applied to the values.
-/
module

public import Idealize.ShloMosaic.PureOps.Ideal
public import Mathlib.Algebra.BigOperators.Intervals
public import Mathlib.Algebra.BigOperators.Fin
public import Mathlib.Analysis.SpecialFunctions.Pow.Real
public import Mathlib.Data.EReal.Inv
public import Mathlib.Data.EReal.Operations

@[expose] public section

noncomputable section

namespace Cert.Softmax

open Idealize.ShloMosaic

/-! ## Sums of extended reals times a nonnegative real -/

/-- A nonnegative real times a sum of extended reals is the sum of the products. -/
theorem mul_sum {ι : Type} (A : Finset ι) (f : ι → EReal) {c : ℝ} (hc : 0 ≤ c) :
    (c : EReal) * ∑ k ∈ A, f k = ∑ k ∈ A, (c : EReal) * f k := by
  classical
  induction A using Finset.induction_on with
  | empty => simp
  | insert a A ha ih =>
    rw [Finset.sum_insert ha, Finset.sum_insert ha,
      EReal.left_distrib_of_nonneg_of_ne_top (by exact_mod_cast hc) (EReal.coe_ne_top c), ih]

/-- A sum of extended reals that are real numbers is the real sum. -/
theorem sum_coe {ι : Type} (A : Finset ι) (f : ι → ℝ) : ∑ k ∈ A, (f k : EReal) = ((∑ k ∈ A, f k : ℝ) : EReal) := by
  classical
  induction A using Finset.induction_on with
  | empty => simp
  | insert a A ha ih => rw [Finset.sum_insert ha, Finset.sum_insert ha, ih, EReal.coe_add]

/-! ## The three quantities after `N` keys -/

variable (r : ℕ → ℝ) (v : ℕ → EReal)

/-- The largest of the first `N` scores (minus infinity for none). -/
def top (N : ℕ) : EReal := (Finset.range N).sup fun k => (r k : EReal)

/-- The sum over the first `N` keys of the powers of two of the scores less the largest. -/
def den (N : ℕ) : EReal := ∑ k ∈ Finset.range N, Ideal.exp2 ((r k : EReal) - top r N)

/-- The sum over the first `N` keys of the values times these powers. -/
def num (N : ℕ) : EReal := ∑ k ∈ Finset.range N, v k * Ideal.exp2 ((r k : EReal) - top r N)

/-- Before any key the largest score is minus infinity. -/
theorem top_zero : top r 0 = ⊥ := by simp [top]
/-- Before any key the sum of the powers is zero. -/
theorem den_zero : den r 0 = 0 := by simp [den]
/-- Before any key the weighted sum is zero. -/
theorem num_zero : num r v 0 = 0 := by simp [num]

/-- After at least one key the largest score is one of the scores, and no score is larger. -/
theorem top_mem {N : ℕ} (hN : 0 < N) : ∃ k₀ < N, top r N = (r k₀ : EReal) ∧ ∀ k < N, r k ≤ r k₀ := by
  obtain ⟨k₀, h₀, hk⟩ := Finset.exists_max_image (Finset.range N) r ⟨0, Finset.mem_range.2 hN⟩
  refine ⟨k₀, Finset.mem_range.1 h₀, le_antisymm ?_ ?_, fun k h => hk k (Finset.mem_range.2 h)⟩
  · exact Finset.sup_le fun k h => by exact_mod_cast hk k h
  · exact Finset.le_sup (f := fun k => (r k : EReal)) h₀

/-- A power of two of a difference of real numbers, as a real number. -/
theorem exp2_sub (a b : ℝ) : Ideal.exp2 ((a : EReal) - (b : EReal)) = (((2 : ℝ) ^ (a - b) : ℝ) : EReal) := by
  rw [← EReal.coe_sub, Ideal.exp2_coe]
  rfl

/-! ## A further chunk of `n` keys -/

/-- The chunk's largest score against the largest so far. -/
theorem top_add (N n : ℕ) :
    top r (N + n) = max (top r N) (Finset.univ.fold max ⊥ fun k : Fin n => (r (N + k) : EReal)) := by
  apply le_antisymm
  · refine Finset.sup_le fun k h => ?_
    have hk := Finset.mem_range.1 h
    by_cases hN : k < N
    · exact le_max_of_le_left (Finset.le_sup (f := fun k => (r k : EReal)) (Finset.mem_range.2 hN))
    · refine le_max_of_le_right ?_
      rw [Finset.le_fold_max]
      refine .inr ⟨⟨k - N, by omega⟩, Finset.mem_univ _, ?_⟩
      simp only [Nat.add_sub_cancel' (not_lt.1 hN)]; rfl
  · refine max_le (Finset.sup_mono (Finset.range_mono (by omega))) ?_
    rw [Finset.fold_max_le]
    exact ⟨bot_le, fun k _ => Finset.le_sup (f := fun k => (r k : EReal)) (Finset.mem_range.2 (by omega))⟩

/-- The powers of the scores against the largest so far, rescaled, are the powers against the new largest. -/
theorem rescale {N n k : ℕ} (hk : k < N) :
    Ideal.exp2 (top r N - top r (N + n)) * Ideal.exp2 ((r k : EReal) - top r N)
      = Ideal.exp2 ((r k : EReal) - top r (N + n)) := by
  obtain ⟨a, -, ha, -⟩ := top_mem r (show 0 < N by omega)
  obtain ⟨b, -, hb, -⟩ := top_mem r (show 0 < N + n by omega)
  rw [ha, hb, exp2_sub, exp2_sub, exp2_sub, ← EReal.coe_mul, ← Real.rpow_add (by norm_num)]
  congr 2; ring

/-- The rescaling factor is a nonnegative real number. -/
theorem factor {N n : ℕ} (hn : 0 < n) : ∃ c : ℝ, 0 ≤ c ∧ Ideal.exp2 (top r N - top r (N + n)) = (c : EReal) := by
  obtain ⟨b, -, hb, -⟩ := top_mem r (show 0 < N + n by omega)
  rcases Nat.eq_zero_or_pos N with rfl | hN
  · refine ⟨0, le_refl _, ?_⟩
    rw [top_zero, EReal.bot_sub, Ideal.exp2_bot]; rfl
  · obtain ⟨a, -, ha, -⟩ := top_mem r hN
    exact ⟨(2 : ℝ) ^ (r a - r b), by positivity, by rw [ha, hb, exp2_sub]⟩

/-- The sum of the powers: the sum so far, rescaled, plus the chunk's powers. -/
theorem den_add {N n : ℕ} (hn : 0 < n) :
    den r (N + n) = Ideal.exp2 (top r N - top r (N + n)) * den r N
      + ∑ k : Fin n, Ideal.exp2 ((r (N + k) : EReal) - top r (N + n)) := by
  obtain ⟨c, hc, e⟩ := factor r (N := N) hn
  rw [den, Finset.sum_range_add, Finset.sum_range (fun k => Ideal.exp2 ((r (N + k) : EReal) - top r (N + n))), den, e,
    mul_sum _ _ hc]
  congr 1
  refine Finset.sum_congr rfl fun k hk => ?_
  rw [← e, rescale r (Finset.mem_range.1 hk)]

/-- The weighted sum: the sum so far, rescaled, plus the chunk's values times their powers. -/
theorem num_add {N n : ℕ} (hn : 0 < n) :
    num r v (N + n) = Ideal.exp2 (top r N - top r (N + n)) * num r v N
      + ∑ k : Fin n, v (N + k) * Ideal.exp2 ((r (N + k) : EReal) - top r (N + n)) := by
  obtain ⟨c, hc, e⟩ := factor r (N := N) hn
  rw [num, Finset.sum_range_add, Finset.sum_range (fun k => v (N + k) * Ideal.exp2 ((r (N + k) : EReal) - top r (N + n))), num,
    e, mul_sum _ _ hc]
  congr 1
  refine Finset.sum_congr rfl fun k hk => ?_
  rw [mul_left_comm, ← e, rescale r (Finset.mem_range.1 hk)]

/-! ## Over all the keys -/

/-- The sum of the powers is a positive real number. -/
theorem den_pos {N : ℕ} (hN : 0 < N) : ∃ c : ℝ, 0 < c ∧ den r N = (c : EReal) := by
  obtain ⟨a, ha, e, -⟩ := top_mem r hN
  refine ⟨∑ k ∈ Finset.range N, (2 : ℝ) ^ (r k - r a), ?_, ?_⟩
  · exact Finset.sum_pos (fun k _ => by positivity) ⟨0, Finset.mem_range.2 hN⟩
  · rw [den, ← sum_coe]
    exact Finset.sum_congr rfl fun k _ => by rw [e, exp2_sub]

/-- The largest of the scores times `ln 2` is the largest score times `ln 2`. -/
theorem fold_mul_log {N : ℕ} (hN : 0 < N) {a : ℕ} (ha : a < N) (h : ∀ k < N, r k ≤ r a) :
    Finset.univ.fold max ⊥ (fun k : Fin N => (r k : EReal) * (Real.log 2 : EReal)) = ((r a * Real.log 2 : ℝ) : EReal) := by
  have hl : 0 ≤ Real.log 2 := Real.log_nonneg (by norm_num)
  apply le_antisymm
  · rw [Finset.fold_max_le]
    refine ⟨bot_le, fun k _ => ?_⟩
    rw [← EReal.coe_mul]
    exact_mod_cast mul_le_mul_of_nonneg_right (h k k.isLt) hl
  · rw [Finset.le_fold_max]
    exact .inr ⟨⟨a, ha⟩, Finset.mem_univ _, by rw [← EReal.coe_mul]⟩

/-- A power of e of scores times `ln 2`, less the largest times `ln 2`, is the power of two of the scores less the largest. -/
theorem exp_mul_log (x y : ℝ) :
    Ideal.exp ((x : EReal) * (Real.log 2 : EReal) - ((y * Real.log 2 : ℝ) : EReal)) = Ideal.exp2 ((x : EReal) - (y : EReal)) := by
  rw [exp2_sub, ← EReal.coe_mul, ← EReal.coe_sub, Ideal.exp_coe, Real.rpow_def_of_pos (by norm_num)]
  congr 2; ring

/-- A product with one over the sum of the powers, distributed over a weighted sum. -/
theorem sum_div {N : ℕ} (hN : 0 < N) (w : ℕ → EReal) :
    (∑ k ∈ Finset.range N, v k * w k) * Ideal.div 1 (den r N) = ∑ k ∈ Finset.range N, v k * Ideal.div (w k) (den r N) := by
  obtain ⟨c, hc, e⟩ := den_pos r hN
  rw [e, Ideal.div_coe hc.ne', one_mul, mul_comm, mul_sum _ _ (by positivity)]
  refine Finset.sum_congr rfl fun k _ => ?_
  rw [Ideal.div_coe hc.ne', mul_left_comm, mul_comm (w k)]

/-- The weighted sum over the sum of the powers is the softmax of the scores times `ln 2`, applied to the values: the
    largest scaled score subtracted, the powers of e, their sum, each power over the sum, and the sum of the values times these. -/
theorem softmax {N : ℕ} (hN : 0 < N) :
    num r v N * Ideal.div 1 (den r N)
      = ∑ k : Fin N, v k * Ideal.div
          (Ideal.exp ((r k : EReal) * (Real.log 2 : EReal)
            - Finset.univ.fold max ⊥ fun j : Fin N => (r j : EReal) * (Real.log 2 : EReal)))
          (∑ i : Fin N, Ideal.exp ((r i : EReal) * (Real.log 2 : EReal)
            - Finset.univ.fold max ⊥ fun j : Fin N => (r j : EReal) * (Real.log 2 : EReal))) := by
  obtain ⟨a, ha, e, hm⟩ := top_mem r hN
  simp only [fold_mul_log r hN ha hm, exp_mul_log]
  rw [num, sum_div r v hN, Finset.sum_range (fun k => v k * Ideal.div (Ideal.exp2 ((r k : EReal) - top r N)) (den r N)), den,
    Finset.sum_range (fun k => Ideal.exp2 ((r k : EReal) - top r N)), e]

end Cert.Softmax

end
-- ==== Proof.AttentionValue.lean ====
/-
  The attention kernel's result: per head and query, the softmax of the scores times ln 2 applied to the values, by the running
  largest score, sum of powers and weighted sum that the five key blocks' points carry.
-/
module

public import proofs.«01_k».proof.Proof.AttentionFirst
public import proofs.«01_k».proof.Proof.AttentionMiddle
public import proofs.«01_k».proof.Proof.AttentionLast
public import proofs.«01_k».proof.Proof.Softmax
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.RefValue

open Cert.KernelIdeal Cert.KernelIdeal.Gen Idealize.ShloMosaic Idealize.ShloMosaic.TcCoe Idealize.SL.Sem
open Idealize.ShloMosaic.Pipeline (Dat)
open Cert.Softmax (top den num)

/-! ## One block of keys -/

section
variable {x0 : FVec Ideal S256x2048 .bf16} {x1 : FVec Ideal S3328x256 .bf16} {x2 : FVec Ideal S128x3328 .bf16} {q : Fin 2048}
  {d : Fin 128} {r : ℕ → ℝ} {v : ℕ → EReal} {N : ℕ}

/-- The block's keys in its two chunks. -/
theorem keys_split : N + 3328 = N + 1536 + 1792 := by omega

/-- The scores of the first chunk. -/
theorem score1 (hs : ∀ k : Fin 3328, score x0 x1 k q = (r (N + k) : EReal)) (k : Fin 1536) :
    score x0 x1 ⟨k, by omega⟩ q = (r (N + k) : EReal) := hs _

/-- The scores of the second chunk. -/
theorem score2 (hs : ∀ k : Fin 3328, score x0 x1 k q = (r (N + k) : EReal)) (k : Fin 1792) :
    score x0 x1 ⟨1536 + k, by omega⟩ q = (r (N + 1536 + k) : EReal) := by rw [hs, add_assoc]

/-- The values of the first chunk. -/
theorem value1 (hv : ∀ k : Fin 3328, x2 (ix2 d k) = v (N + k)) (k : Fin 1536) : x2 (ix2 d ⟨k, by omega⟩) = v (N + k) := hv _

/-- The values of the second chunk. -/
theorem value2 (hv : ∀ k : Fin 3328, x2 (ix2 d k) = v (N + k)) (k : Fin 1792) :
    x2 (ix2 d ⟨1536 + k, by omega⟩) = v (N + 1536 + k) := by rw [hv, add_assoc]

/-- The largest score after the block's first chunk. -/
theorem top1_eq (hs : ∀ k : Fin 3328, score x0 x1 k q = (r (N + k) : EReal)) : top1 x0 x1 q (top r N) = top r (N + 1536) := by
  simp only [top1, score1 hs, Softmax.top_add r N 1536]

/-- The largest score after the block. -/
theorem top2_eq (hs : ∀ k : Fin 3328, score x0 x1 k q = (r (N + k) : EReal)) : top2 x0 x1 q (top r N) = top r (N + 1536 + 1792) := by
  simp only [top2, top1_eq hs, score2 hs, Softmax.top_add r (N + 1536) 1792]

/-- The sum of powers after the block's first chunk. -/
theorem den1_eq (hs : ∀ k : Fin 3328, score x0 x1 k q = (r (N + k) : EReal)) :
    den1 x0 x1 q (top r N) (den r N) = den r (N + 1536) := by
  simp only [den1, top1_eq hs, score1 hs, Softmax.den_add r (N := N) (by decide : 0 < 1536)]

/-- The sum of powers after the block. -/
theorem den2_eq (hs : ∀ k : Fin 3328, score x0 x1 k q = (r (N + k) : EReal)) :
    den2 x0 x1 q (top r N) (den r N) = den r (N + 1536 + 1792) := by
  simp only [den2, den1_eq hs, top1_eq hs, top2_eq hs, score2 hs, Softmax.den_add r (N := N + 1536) (by decide : 0 < 1792)]

/-- The weighted sum after the block's first chunk. -/
theorem num1_eq (hs : ∀ k : Fin 3328, score x0 x1 k q = (r (N + k) : EReal)) (hv : ∀ k : Fin 3328, x2 (ix2 d k) = v (N + k)) :
    num1 x0 x1 x2 d q (top r N) (num r v N) = num r v (N + 1536) := by
  simp only [num1, top1_eq hs, score1 hs, value1 hv, Softmax.num_add r v (N := N) (by decide : 0 < 1536)]

/-- The weighted sum after the block. -/
theorem num2_eq (hs : ∀ k : Fin 3328, score x0 x1 k q = (r (N + k) : EReal)) (hv : ∀ k : Fin 3328, x2 (ix2 d k) = v (N + k)) :
    num2 x0 x1 x2 d q (top r N) (num r v N) = num r v (N + 1536 + 1792) := by
  simp only [num2, num1_eq hs hv, top1_eq hs, top2_eq hs, score2 hs, value2 hv,
    Softmax.num_add r v (N := N + 1536) (by decide : 0 < 1792)]

end

/-! ## The whole attention -/

/-- Head `h`'s score of key `k` and query `q`. -/
def scoreAt (Q : FVec Ideal S8192x16384 .bf16) (K : FVec Ideal S16640x8192 .bf16) (h : Fin 32) (q : Fin 16384) (k : Fin 16640) : EReal :=
  ∑ d : Fin 256, K (ix2 k ⟨256 * h + d, by omega⟩) * Q (ix2 ⟨256 * h + d, by omega⟩ q)

/-- Head `h`'s largest score of query `q`, times ln 2. -/
def largest (Q : FVec Ideal S8192x16384 .bf16) (K : FVec Ideal S16640x8192 .bf16) (h : Fin 32) (q : Fin 16384) : EReal :=
  Finset.univ.fold max ⊥ fun k : Fin 16640 => scoreAt Q K h q k * (Real.log 2 : EReal)

/-- Head `h`'s power of e for key `k` and query `q`. -/
def power (Q : FVec Ideal S8192x16384 .bf16) (K : FVec Ideal S16640x8192 .bf16) (h : Fin 32) (q : Fin 16384) (k : Fin 16640) : EReal :=
  Ideal.exp (scoreAt Q K h q k * (Real.log 2 : EReal) - largest Q K h q)

/-- The attention: feature `j % 128` of head `j / 128` at query `i` is the sum over the keys of the value times its power over
    the powers' sum. -/
def attention (Q : FVec Ideal S8192x16384 .bf16) (K : FVec Ideal S16640x8192 .bf16) (W : FVec Ideal S4096x16640 .bf16) :
    FVec Ideal S16384x4096 .bf16 := fun i =>
  ∑ k : Fin 16640, W (ix2 (n0 := 4096) (i 1) k)
    * Ideal.div (power Q K ⟨(i 1).val / 128, by have := (i 1).isLt; simp at this; omega⟩ (i 0) k)
      (∑ k : Fin 16640, power Q K ⟨(i 1).val / 128, by have := (i 1).isLt; simp at this; omega⟩ (i 0) k)

/-- An array of real numbers: no element is infinite. -/
def IsReal {s : Shape} (x : FVec Ideal s .bf16) : Prop := ∀ i, ∃ a : ℝ, x i = (a : EReal)

/-- The score of key number `n` as a real number. -/
def realScore (Q : FVec Ideal S8192x16384 .bf16) (K : FVec Ideal S16640x8192 .bf16) (h q n : ℕ) : ℝ :=
  if hb : h < 32 ∧ q < 16384 ∧ n < 16640 then (scoreAt Q K ⟨h, hb.1⟩ ⟨q, hb.2.1⟩ ⟨n, hb.2.2⟩).toReal else 0

/-- Feature `j` of the value of key number `n`. -/
def valueAt (W : FVec Ideal S4096x16640 .bf16) (j n : ℕ) : EReal :=
  if hb : j < 4096 ∧ n < 16640 then W (ix2 ⟨j, hb.1⟩ ⟨n, hb.2⟩) else 0

/-- With real queries and keys every score is real. -/
theorem realScore_eq {Q : FVec Ideal S8192x16384 .bf16} {K : FVec Ideal S16640x8192 .bf16} (hQ : IsReal Q) (hK : IsReal K)
    {h q n : ℕ} (hh : h < 32) (hq : q < 16384) (hn : n < 16640) :
    (realScore Q K h q n : EReal) = scoreAt Q K ⟨h, hh⟩ ⟨q, hq⟩ ⟨n, hn⟩ := by
  rw [realScore, dif_pos ⟨hh, hq, hn⟩]
  choose a ha using hQ
  choose b hb using hK
  have e : scoreAt Q K ⟨h, hh⟩ ⟨q, hq⟩ ⟨n, hn⟩
      = ((∑ d : Fin 256, b (ix2 ⟨n, hn⟩ ⟨256 * h + d, by omega⟩) * a (ix2 ⟨256 * h + d, by omega⟩ ⟨q, hq⟩) : ℝ) : EReal) := by
    rw [← Softmax.sum_coe, scoreAt]
    exact Finset.sum_congr rfl fun d _ => by rw [ha, hb, EReal.coe_mul]
  rw [e, EReal.toReal_coe]

/-- The weighted sum over the sum of powers, after all keys, is the attention. -/
theorem attention_eq {Q : FVec Ideal S8192x16384 .bf16} {K : FVec Ideal S16640x8192 .bf16} (hQ : IsReal Q) (hK : IsReal K)
    (W : FVec Ideal S4096x16640 .bf16) (i : S16384x4096.Idx) :
    num (realScore Q K ((i 1).val / 128) (i 0).val) (valueAt W (i 1).val) 16640
        * Ideal.div 1 (den (realScore Q K ((i 1).val / 128) (i 0).val) 16640)
      = attention Q K W i := by
  have h0 : (i 0).val < 16384 := (i 0).isLt
  have h1 : (i 1).val < 4096 := (i 1).isLt
  rw [Softmax.softmax _ _ (by decide : 0 < 16640), attention]
  have es : ∀ k : Fin 16640, (realScore Q K ((i 1).val / 128) (i 0).val k : EReal)
      = scoreAt Q K ⟨(i 1).val / 128, by omega⟩ (i 0) k := fun k => realScore_eq hQ hK (by omega) h0 k.isLt
  have ev : ∀ k : Fin 16640, valueAt W (i 1).val k = W (ix2 (n0 := 4096) (i 1) k) := fun k => by
    rw [valueAt, dif_pos ⟨h1, k.isLt⟩]; rfl
  simp only [es, ev, power, largest]

/-! ## The grid's points -/

variable (m : (ℓ : Loc nD τ sig) → Buf (Elt Ideal) ℓ) (c : Dev nD)

/-- Which block each window stages at grid point `t`: head `t / 40`, query block `t / 5 % 8`, key block `t % 5`. -/
theorem index_at : ∀ t : Fin grid0.N,
    win0_0.index t = ![t.val / 40, t.val / 5 % 8] ∧ win0_1.index t = ![t.val % 5, t.val / 40]
      ∧ win0_2.index t = ![t.val / 40, t.val % 5] ∧ win0_3.index t = ![t.val / 5 % 8, t.val / 40] := by decide +kernel

/-- The queries, the keys and the values as the run starts. -/
abbrev queries : FVec Ideal S8192x16384 .bf16 := m ((c : Thread nD τ).loc main_arg0)
abbrev keys : FVec Ideal S16640x8192 .bf16 := m ((c : Thread nD τ).loc main_arg1)
abbrev values : FVec Ideal S4096x16640 .bf16 := m ((c : Thread nD τ).loc main_arg2)

/-- The grid has 1280 points. -/
theorem points (t : Fin cfg0.N) : t.val < 1280 := lt_of_lt_of_eq t.isLt (show cfg0.N = 1280 from N_0)

/-- A point's scores are the whole attention's, at the point's head, queries and keys. -/
theorem score_at (hQ : IsReal (queries m c)) (hK : IsReal (keys m c)) (t : Fin cfg0.N) (q : Fin 2048) (k : Fin 3328) :
    score (iblk m c 0 t) (iblk m c 1 t) k q
      = (realScore (queries m c) (keys m c) (t.val / 40) (2048 * (t.val / 5 % 8) + q) (3328 * (t.val % 5) + k) : EReal) := by
  have := points t
  rw [realScore_eq hQ hK (by omega) (by omega) (by omega)]
  pointwise [score, scoreAt, queries, keys]
  blk_point [iblk, V, index_at t]

/-- A point's values are the whole attention's. -/
theorem value_at (t : Fin cfg0.N) (d : Fin 128) (k : Fin 3328) :
    iblk m c 2 t (ix2 d k) = valueAt (values m c) (128 * (t.val / 40) + d) (3328 * (t.val % 5) + k) := by
  have := points t
  rw [valueAt, dif_pos ⟨by omega, by omega⟩]
  blk_point [iblk, V, index_at t]

end Cert.KernelIdeal.RefValue

end
-- ==== Proof.AttentionRun.lean ====
/-
  The attention kernel's run over its grid: what the three running arrays hold after each point of a query block, and the result array.
-/
module

public import proofs.«01_k».proof.Proof.AttentionValue

@[expose] public section

set_option maxRecDepth 16384

noncomputable section

namespace Cert.KernelIdeal.RefValue

open Cert.KernelIdeal Cert.KernelIdeal.Gen Idealize.ShloMosaic Idealize.ShloMosaic.TcCoe Idealize.SL.Sem
open Idealize.ShloMosaic.Pipeline (Dat)
open Cert.Softmax (top den num)

variable (m : (ℓ : Loc nD τ sig) → Buf (Elt Ideal) ℓ) (c : Dev nD)

/-- The real scores of the query `q` of point `n`'s block, by key. -/
abbrev scores (n : ℕ) (q : Fin 2048) : ℕ → ℝ := realScore (queries m c) (keys m c) (n / 40) (2048 * (n / 5 % 8) + q)

/-- The values' feature `d` of point `n`'s head, by key. -/
abbrev feature (n : ℕ) (d : Fin 128) : ℕ → EReal := valueAt (values m c) (128 * (n / 40) + d)

/-- What the three running arrays hold after point `n`: the largest score, the sum of powers and the weighted sum over the keys
    of the blocks up to the point's. -/
def Held (n : ℕ) (o : Vec Ideal S2048x128 .bf16 × Vec Ideal S1x2048 .f32 × Vec Ideal S1x2048 .f32 × Vec Ideal S128x2048 .f32) : Prop :=
  ∀ q : Fin 2048, o.2.1 (ix2 0 q) = top (scores m c n q) (3328 * (n % 5) + 1536 + 1792)
    ∧ o.2.2.1 (ix2 0 q) = den (scores m c n q) (3328 * (n % 5) + 1536 + 1792)
    ∧ ∀ d : Fin 128, o.2.2.2 (ix2 d q) = num (scores m c n q) (feature m c n d) (3328 * (n % 5) + 1536 + 1792)

set_option maxHeartbeats 1600000 in
/-- A query block's first point. -/
theorem held_first (hQ : IsReal (queries m c)) (hK : IsReal (keys m c)) (t : Fin cfg0.N) (h0 : t.val % 5 = 0) :
    Held m c t.val (outsAt0 m c t.val t.isLt) := by
  have h1 : ¬t.val % 5 = 4 := by omega
  intro q
  have hs := score_at m c hQ hK t q
  have hv := fun d => value_at m c t d
  have e0 : 3328 * (t.val % 5) = 0 := by rw [h0]
  have zt : top (scores m c t.val q) (3328 * (t.val % 5)) = ⊥ := by rw [e0, Softmax.top_zero]
  have zd : den (scores m c t.val q) (3328 * (t.val % 5)) = 0 := by rw [e0, Softmax.den_zero]
  have zn : ∀ d, num (scores m c t.val q) (feature m c t.val d) (3328 * (t.val % 5)) = 0 := fun d => by rw [e0, Softmax.num_zero]
  have et := top2_eq hs
  have ed := den2_eq hs
  have en := fun d => num2_eq hs (hv d)
  rw [zt] at et ed
  rw [zd] at ed
  simp only [zt, zn] at en
  rw [outsAt0_A m c t h0 h1]
  dsimp only
  refine ⟨?_, ?_, fun d => ?_⟩
  · have e := first_top c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h)) (ix2 0 q)
    simp only [ix2_1] at e
    exact e.trans et
  · have e := first_den c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h)) (ix2 0 q)
    simp only [ix2_1] at e
    exact e.trans ed
  · have e := first_num c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h)) (ix2 d q)
    simp only [ix2_0, ix2_1] at e
    exact e.trans (en d)

/-- The keys, head and queries of the point before, within a query block. -/
theorem before {n : ℕ} (h0 : ¬n % 5 = 0) :
    3328 * ((n - 1) % 5) + 1536 + 1792 = 3328 * (n % 5) ∧ (n - 1) / 40 = n / 40 ∧ (n - 1) / 5 % 8 = n / 5 % 8 := by
  refine ⟨by omega, by omega, by omega⟩

/-- What the point before left, at the keys of this point. -/
theorem held_before {n : ℕ} (h0 : ¬n % 5 = 0) {o} (h : Held m c (n - 1) o) (q : Fin 2048) :
    o.2.1 (ix2 0 q) = top (scores m c n q) (3328 * (n % 5)) ∧ o.2.2.1 (ix2 0 q) = den (scores m c n q) (3328 * (n % 5))
      ∧ ∀ d : Fin 128, o.2.2.2 (ix2 d q) = num (scores m c n q) (feature m c n d) (3328 * (n % 5)) := by
  obtain ⟨e, e1, e2⟩ := before h0
  have := h q
  simp only [scores, feature, e, e1, e2] at this
  exact this

set_option maxHeartbeats 1600000 in
/-- A query block's middle points. -/
theorem held_middle (hQ : IsReal (queries m c)) (hK : IsReal (keys m c)) (t : Fin cfg0.N) (h0 : ¬t.val % 5 = 0) (h1 : ¬t.val % 5 = 4)
    (h : Held m c (t.val - 1) (outsAt0 m c (t.val - 1) (Nat.lt_of_le_of_lt (Nat.sub_le _ _) t.isLt))) :
    Held m c t.val (outsAt0 m c t.val t.isLt) := by
  intro q
  have hs := score_at m c hQ hK t q
  have hv := fun d => value_at m c t d
  obtain ⟨ht, hd, hn⟩ := held_before m c h0 h q
  have et := top2_eq hs
  have ed := den2_eq hs
  have en := fun d => num2_eq hs (hv d)
  rw [← ht] at et
  rw [← ht, ← hd] at ed
  simp only [← ht, ← hn] at en
  rw [outsAt0_B m c t h0 h1]
  dsimp only
  refine ⟨?_, ?_, fun d => ?_⟩
  · have e := middle_top c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) (ix2 0 q)
    simp only [ix2_1] at e
    exact e.trans et
  · have e := middle_den c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) (ix2 0 q)
    simp only [ix2_1] at e
    exact e.trans ed
  · have e := middle_num c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) (ix2 d q)
    simp only [ix2_0, ix2_1] at e
    exact e.trans (en d)

/-- After every point of a query block but its last, the running arrays hold what `Held` says. -/
theorem held (hQ : IsReal (queries m c)) (hK : IsReal (keys m c)) : ∀ (n : ℕ) (hn : n < cfg0.N), ¬n % 5 = 4 →
    Held m c n (outsAt0 m c n hn) := by
  intro n
  induction n using Nat.strong_induction_on with
  | _ n ih =>
    intro hn h4
    by_cases h0 : n % 5 = 0
    · exact held_first m c hQ hK ⟨n, hn⟩ h0
    · exact held_middle m c hQ hK ⟨n, hn⟩ h0 h4 (ih (n - 1) (by omega) _ (by omega))

/-- A query block's last point writes the block's attention. -/
theorem written (hQ : IsReal (queries m c)) (hK : IsReal (keys m c)) (t : Fin cfg0.N) (h1 : t.val % 5 = 4) (q : Fin 2048)
    (d : Fin 128) : (outsAt0 m c t.val t.isLt).1 (ix2 q d)
      = num (scores m c t.val q) (feature m c t.val d) 16640 * Ideal.div 1 (den (scores m c t.val q) 16640) := by
  have h0 : ¬t.val % 5 = 0 := by omega
  have hs := score_at m c hQ hK t q
  have hv := value_at m c t d
  obtain ⟨ht, hd, hn⟩ := held_before m c h0 (held m c hQ hK (t.val - 1) (Nat.lt_of_le_of_lt (Nat.sub_le _ _) t.isLt) (by omega)) q
  have ed := den2_eq hs
  have en := num2_eq hs hv
  rw [← ht, ← hd] at ed
  rw [← ht, ← hn] at en
  have e : 3328 * (t.val % 5) + 1536 + 1792 = 16640 := by omega
  rw [e] at ed en
  rw [outsAt0_C m c t h0 h1]
  exact (last_out c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1) _).trans (congrArg₂ (fun a b : EReal => a * Ideal.div 1 b) en ed)

/-- Every block of the result is some point's. -/
theorem covers : (cfg0.win 3).Covers :=
  (cfg0.win 3).covers_of_index_surj rfl (by decide) fun β => by
    have h0 : (β (0 : Fin 2)).val < 8 := lt_of_lt_of_eq (β (0 : Fin 2)).isLt (by decide : (cfg0.win 3).nblk (0 : Fin 2) = 8)
    have h1 : (β (1 : Fin 2)).val < 32 := lt_of_lt_of_eq (β (1 : Fin 2)).isLt (by decide : (cfg0.win 3).nblk (1 : Fin 2) = 32)
    refine ⟨⟨40 * (β (1 : Fin 2)).val + 5 * (β (0 : Fin 2)).val, lt_of_lt_of_eq (by omega) (show 1280 = cfg0.N from N_0.symm)⟩, fun a => ?_⟩
    refine (congrFun (index_at _).2.2.2 a).trans ?_
    match a with
    | (0 : Fin 2) => show (40 * (β (1 : Fin 2)).val + 5 * (β (0 : Fin 2)).val) / 5 % 8 = _; omega
    | (1 : Fin 2) => show (40 * (β (1 : Fin 2)).val + 5 * (β (0 : Fin 2)).val) / 40 = _; omega

/-- The kernel's result array ends holding the attention. -/
theorem final (hQ : IsReal (queries m c)) (hK : IsReal (keys m c)) : (dats m 0 c).arrAt 3 cfg0.N
    = attention (queries m c) (keys m c) (values m c) := by
  refine (dats m 0 c).arrAt_eq_of_covers 3 _ covers fun t hf y => ?_
  have ht := points t
  obtain ⟨q, d, rfl⟩ : ∃ (a : Fin 2048) (b : Fin 128), y = ix2 a b := ⟨y 0, y 1, by funext a; fin_cases a <;> rfl⟩
  rw [after0_3]
  refine (written m c hQ hK t ((flush0_3 t).mp hf) q d).trans ?_
  rw [← attention_eq hQ hK]
  have e0 : (((((cfg0.win 3).blk t).view.emb (ix2 q d)) 0 : Fin _) : ℕ) = 2048 * (t.val / 5 % 8) + q := by
    blk_simp [index_at t]
    omega
  have e1 : (((((cfg0.win 3).blk t).view.emb (ix2 q d)) 1 : Fin _) : ℕ) = 128 * (t.val / 40) + d := by
    blk_simp [index_at t]
    omega
  rw [e0, e1, show (128 * (t.val / 40) + d.val) / 128 = t.val / 40 by omega]

end Cert.KernelIdeal.RefValue

end
-- ==== Proof.AttentionReference.lean ====
/-
  The reference's result is the attention.
-/
module

public import proofs.«01_k».proof.Proof.AttentionValue
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.ReferenceIdeal.RefValue

open Cert.ReferenceIdeal Cert.ReferenceIdeal.Gen Idealize.ShloMosaic Idealize.ShloMosaic.TcCoe Idealize.SL.Sem
open Cert.KernelIdeal.RefValue (scoreAt largest power attention)

variable (Q : FVec Ideal S8192x16384 .bf16) (K : FVec Ideal S16640x8192 .bf16) (W : FVec Ideal S4096x16640 .bf16)

/-- The kernel's two and minus infinity. -/
theorem two32 : Ideal.ofBits .f32 1073741824#32 = ((2 : ℝ) : EReal) := by
  simp [Ideal.ofBits, Ideal.ieee, -EReal.coe_mul]; norm_num

/-- The logarithm of the constant two. -/
theorem log_two (i : S_.Idx) : Read.val_main_v7 (F := Ideal) i = (Real.log 2 : EReal) := by
  show Ideal.log (Ideal.ofBits .f32 1073741824#32) = _
  rw [two32]
  exact if_neg (by norm_num)

/-- The scaled scores. -/
theorem scaled (h : Fin 32) (q : Fin 16384) (k : Fin 16640) :
    Read.val_main_v9 (F := Ideal) Q K (ix3 h q k) = scoreAt Q K h q k * (Real.log 2 : EReal) := by
  pointwise [Read.val_main_v9, Read.val_main_v8, log_two, Read.val_main_v6, Read.val_main_v3, Read.val_main_v2, Read.val_main_v1,
    Read.val_main_v0, scoreAt]
  refine congrArg (fun x : EReal => x * (Real.log 2 : EReal)) (Finset.sum_congr rfl fun d _ => ?_)
  have e : (⟨h.val * 256 + d.val, by omega⟩ : Fin 8192) = ⟨256 * h.val + d.val, by omega⟩ := Fin.ext (by
    show h.val * 256 + d.val = 256 * h.val + d.val
    omega)
  rw [e, mul_comm]

/-- The maximum over the keys. -/
theorem reduce_max (y : FVec Ideal S32x16384x16640 .f32) (z : FVec Ideal S_ .f32) (h : Fin 32) (q : Fin 16384) :
    Host.reduce FloatOps.maximumf y z reducesTo_S32x16384x16640_S32x16384_d2 h_S_ (ix2 h q)
      = Finset.univ.fold max (z (Shape.Idx.first h_S_)) fun k : Fin 16640 => y (ix3 h q k) := by
  pointwise

/-- Minus infinity. -/
theorem bot32 : Ideal.ofBits .f32 4286578688#32 = ⊥ := by simp [Ideal.ofBits, Ideal.ieee]

/-- The largest score. -/
theorem largest_eq (h : Fin 32) (q : Fin 16384) : Read.val_main_v12 (F := Ideal) Q K (ix2 h q) = largest Q K h q := by
  rw [Read.val_main_v12_apply, Read.val_main_v11_apply, Read.val_main_cst_1_apply, Read.val_main_v10, reduce_max,
    Read.val_main_cst_0_apply]
  simp only [scaled]
  show max (Ideal.ofBits .f32 4286578688#32) (Finset.univ.fold max (Ideal.ofBits .f32 4286578688#32) _) = _
  rw [bot32]
  exact max_eq_right bot_le

/-- The powers of e. -/
theorem power_eq (h : Fin 32) (q : Fin 16384) (k : Fin 16640) :
    Read.val_main_v16 (F := Ideal) Q K (ix3 h q k) = power Q K h q k := by
  pointwise [Read.val_main_v16, Read.val_main_v15, scaled, Read.val_main_v14, Read.val_main_v13, largest_eq, power]

/-- The sums of the powers. -/
theorem total_eq (h : Fin 32) (q : Fin 16384) : Read.val_main_v17 (F := Ideal) Q K (ix2 h q) = ∑ k, power Q K h q k := by
  pointwise [Read.val_main_v17, power_eq]
  exact (congrArg (· + _) (show Read.val_main_cst_2 (F := Ideal) _ = (0 : EReal) by simp [Read.val_main_cst_2_apply])).trans (zero_add _)

/-- The weights. -/
theorem weight_eq (h : Fin 32) (q : Fin 16384) (k : Fin 16640) :
    Read.val_main_v20 (F := Ideal) Q K (ix3 h q k) = Ideal.div (power Q K h q k) (∑ k, power Q K h q k) := by
  pointwise [Read.val_main_v20, Read.val_main_v19, Read.val_main_v18, total_eq, power_eq]

/-- The reference's result. -/
theorem result : Read.val_main_v24 (F := Ideal) Q K W = attention Q K W := by
  funext i
  pointwise [Read.val_main_v24, Read.val_main_v23, Read.val_main_v22, Read.val_main_v21, Read.val_main_v5, Read.val_main_v4, weight_eq, attention]

end Cert.ReferenceIdeal.RefValue

end
-- ==== Proof.Attention.lean ====
/-
  The attention kernel and its reference end with the same result where the queries and the keys are finite numbers.
-/
module

public import proofs.«01_k».proof.Proof.AttentionRun
public import proofs.«01_k».proof.Proof.AttentionReference
public import proofs.«01_k».proof.Proof.Gen.KernelIdeal.Value
public import proofs.«01_k».proof.Proof.Gen.Pre_finite
public import proofs.«01_k».proof.Defs

@[expose] public section

set_option maxRecDepth 16384

noncomputable section

namespace Cert.Pre_finite.RefValue

open Idealize.ShloMosaic
open Cert.KernelIdeal.RefValue (IsReal)

/-- The f32 pattern of plus infinity. -/
theorem top32 : Ideal.ofBits .f32 0x7F800000#32 = ⊤ := by simp [Ideal.ofBits, Ideal.ieee]

/-- A number whose absolute value is below plus infinity is real. -/
theorem real_of_lt : ∀ {x : EReal}, max x (-x) < ⊤ → ∃ a : ℝ, x = (a : EReal)
  | ⊥, h => absurd h (by simp)
  | ⊤, h => absurd h (by simp)
  | (a : ℝ), _ => ⟨a, rfl⟩

/-- An array whose comparison `|x| < +∞` is all ones holds real numbers only. -/
theorem isReal {s : Shape} (x : FVec Ideal s .bf16) (b : FVec Ideal s .f32) (hb : ∀ i, b i = ⊤)
    (h : cmpf .olt (Host.absf (extf .f32 x (by decide))) b = fun _ => 1#1) : IsReal x := by
  intro i
  have hi : Ideal.cmp .olt (max (x i) (-x i)) (b i) = 1#1 := congrFun h i
  refine real_of_lt ?_
  rw [← hb i]
  by_contra hn
  simp [Ideal.cmp, hn] at hi

end Cert.Pre_finite.RefValue

namespace Cert.ReferenceIdeal.RefValue

open Cert.ReferenceIdeal Cert.ReferenceIdeal.Gen Idealize.ShloMosaic Idealize.ShloMosaic.TcCoe Idealize.SL.Sem

/-- From memories that agree on the arguments, with finite queries and keys, the kernel's run and the reference's end with the same
    result array, the attention of the arguments, and leave the arguments as they were. -/
theorem equation : Cert.algebraic_KernelIdeal_ReferenceIdeal_pre_finite (hKernelIdeal := Cert.KernelIdeal.Gen.facts)
    (hReferenceIdeal := Gen.facts) (hPre_finite := Cert.Pre_finite.Gen.facts) := by
  intro m g m' g' hp hm
  have hQ := fun c => Cert.Pre_finite.RefValue.isReal _ _ (fun _ => Cert.Pre_finite.RefValue.top32) (hp c).1
  have hK := fun c => Cert.Pre_finite.RefValue.isReal _ _ (fun _ => Cert.Pre_finite.RefValue.top32) (hp c).2
  refine ⟨fun c => Cert.KernelIdeal.RefValue.attention (Cert.KernelIdeal.RefValue.queries m c) (Cert.KernelIdeal.RefValue.keys m c)
      (Cert.KernelIdeal.RefValue.values m c),
    (θ_run _ _ _).mono (fun r h c => ⟨(h c).1.trans (Cert.KernelIdeal.RefValue.final m c (hQ c) (hK c)), (h c).2⟩)
      (Cert.KernelIdeal.Value.run_blocks m g),
    (θ_run _ _ _).mono (fun r h c => ⟨(h c).1.trans ((Read.val_main_v24_eq _ _ _).trans ?_), (h c).2⟩) (Value.run m' g')⟩
  rw [result, (hm c).1, (hm c).2.1, (hm c).2.2]

end Cert.ReferenceIdeal.RefValue

end
-- ==== Proof.FfnUp.lean ====
/-
  The gated projection that begins the feed-forward block (`silu(h @ w_gate) * (h @ w_up)`): what the kernel's result
  array holds after its run, what the reference's holds, and that they are one array, element for element, over the
  extended reals.
-/
module

public import proofs.«01_k».proof.Defs
public import proofs.«01_k».proof.Proof.Gen.FfnUpIdeal.Value
public import proofs.«01_k».proof.Proof.Gen.FfnUpRefIdeal.Run
public import proofs.«01_k».proof.Proof.Gen.FfnUpRefIdeal.Read
public import Idealize.ShloMosaic.Lib.Pipeline.ValueKit
public import Idealize.ShloMosaic.Lib.Pointwise

@[expose] public section

set_option maxRecDepth 16384

noncomputable section

namespace Cert.FfnUpIdeal.RefValue

open Cert.FfnUpIdeal Cert.FfnUpIdeal.Gen Idealize.ShloMosaic Idealize.ShloMosaic.TcCoe Idealize.SL.Sem
open Idealize.ShloMosaic.Pipeline (Dat)

variable (m : (ℓ : Loc nD τ sig) → Buf (Elt Ideal) ℓ)

/-- Column `l` of the product with the first layer's weights at row `r`: the sum over `k` of `x (r, k) * w (0, k, l)`. -/
def column (x : FVec Ideal S16384x4096 .bf16) (w : FVec Ideal S4x4096x22016 .f32) (r : Fin 16384) (l : Fin 22016) : EReal :=
  ∑ k : Fin 4096, x (ix2 r k) * w (ix3 0 k l)

/-- The gated product: element `(r, l)` is `g * (1 / (1 + exp (-g))) * u` for `g` the product's column `l` and `u` its
    column `11008 + l`. -/
def gated (x : FVec Ideal S16384x4096 .bf16) (w : FVec Ideal S4x4096x22016 .f32) : FVec Ideal S16384x11008 .bf16 :=
  fun i =>
    let g := column x w (i 0) ⟨(i 1).val, by have := (i 1).isLt; simp at this; omega⟩
    g * Ideal.logistic g * column x w (i 0) ⟨11008 + (i 1).val, by have := (i 1).isLt; simp at this; omega⟩

/-- Which block each window stages at grid point `t`: the rows' block, the gate's columns, the second factor's columns 43
    blocks further on, and the result's rows and columns. -/
theorem index_at : ∀ t : Fin grid0.N,
    win0_0.index t = ![(grid0.coords t 0).val, 0] ∧ win0_1.index t = ![0, 0, (grid0.coords t 1).val]
      ∧ win0_2.index t = ![0, 0, (grid0.coords t 1).val + 43]
      ∧ win0_3.index t = ![(grid0.coords t 0).val, (grid0.coords t 1).val] := by decide +kernel

/-- The kernel's result array ends holding the gated product of its arguments. -/
theorem final (c : Dev nD) : (dats m 0 c).arrAt 3 cfg0.N
    = gated (m ((c : Thread nD τ).loc main_arg0)) (m ((c : Thread nD τ).loc main_arg1)) := by
  refine (dats m 0 c).arrAt_eq_of_covers 3 _ (by decide +kernel) fun t hf y => ?_
  blk_simp
  rw [after0_3]
  frame_out
  idx_vars y
  pointwise [k0_pay1, gated, column, Ideal.logistic, zero_sub]
  blk_point [iblk, V, index_at t]

end Cert.FfnUpIdeal.RefValue

namespace Cert.FfnUpRefIdeal.RefValue

open Cert.FfnUpRefIdeal Cert.FfnUpRefIdeal.Gen Idealize.ShloMosaic Idealize.ShloMosaic.TcCoe Idealize.SL.Sem

/-- The reference's result is the gated product of its arguments. -/
theorem result (x : FVec Ideal S16384x4096 .bf16) (w : FVec Ideal S4x4096x22016 .f32) :
    Read.val_main_v8 (F := Ideal) x w = Cert.FfnUpIdeal.RefValue.gated x w := by
  funext i
  idx_vars i
  pointwise [Read.val_main_v8, Read.val_main_v7, Read.val_main_v6, Read.val_main_call0_v5, Read.val_main_call0_v4,
    Read.val_main_call0_v3, Read.val_main_call0_v2, Read.val_main_call0_v1, Read.val_main_call0_v0, Read.val_main_call0_cst,
    Read.val_main_call0_cst_0, Read.val_main_v5, Read.val_main_v4, Read.val_main_v3, Read.val_main_v2, Read.val_main_v1,
    Read.val_main_v0, Cert.FfnUpIdeal.RefValue.gated, Cert.FfnUpIdeal.RefValue.column, Ideal.logistic]

/-- From memories that agree on the arguments, the kernel's run and the reference's end with the same result array, the gated hidden features
    of the arguments, and leave the arguments as they were. -/
theorem equation : Cert.algebraic_FfnUpIdeal_FfnUpRefIdeal (hFfnUpIdeal := Cert.FfnUpIdeal.Gen.facts) (hFfnUpRefIdeal := Gen.facts) := by
  intro m g m' g' _ hm
  refine ⟨fun c => Cert.FfnUpIdeal.RefValue.gated (m ((c : Thread Cert.FfnUpIdeal.nD Cert.FfnUpIdeal.τ).loc Cert.FfnUpIdeal.main_arg0))
      (m ((c : Thread Cert.FfnUpIdeal.nD Cert.FfnUpIdeal.τ).loc Cert.FfnUpIdeal.main_arg1)),
    (θ_run _ _ _).mono (fun r h c => ⟨(h c).1.trans (Cert.FfnUpIdeal.RefValue.final m c), (h c).2⟩) (Cert.FfnUpIdeal.Value.run_blocks m g),
    (θ_run _ _ _).mono (fun r h c => ⟨(h c).1.trans ((Read.val_main_v8_eq _ _).trans ?_), (h c).2⟩) (Value.run m' g')⟩
  rw [result, (hm c).1, (hm c).2]

end Cert.FfnUpRefIdeal.RefValue

end
-- ==== Proof.FfnDown.lean ====
/-
  The projection that ends the feed-forward block (`a @ w_down`): what the kernel's result array holds after its run, what
  the reference's holds, and that they are one array, element for element, over the extended reals.
-/
module

public import proofs.«01_k».proof.Defs
public import proofs.«01_k».proof.Proof.Gen.FfnDownIdeal.Value
public import proofs.«01_k».proof.Proof.Gen.FfnDownRefIdeal.Run
public import proofs.«01_k».proof.Proof.Gen.FfnDownRefIdeal.Read
public import Idealize.ShloMosaic.Lib.Pipeline.ValueKit
public import Idealize.ShloMosaic.Lib.Pointwise

@[expose] public section

set_option maxRecDepth 16384

noncomputable section

namespace Cert.FfnDownIdeal.RefValue

open Cert.FfnDownIdeal Cert.FfnDownIdeal.Gen Idealize.ShloMosaic Idealize.ShloMosaic.TcCoe Idealize.SL.Sem
open Idealize.ShloMosaic.Pipeline (Dat)

variable (m : (ℓ : Loc nD τ sig) → Buf (Elt Ideal) ℓ)

/-- The product with the first layer's weights: element `(r, l)` is the sum over `k` of `x (r, k) * w (0, k, l)`. -/
def product (x : FVec Ideal S16384x11008 .bf16) (w : FVec Ideal S4x11008x4096 .f32) : FVec Ideal S16384x4096 .bf16 :=
  fun i => ∑ k : Fin 11008, x (ix2 (i 0) k) * w (ix3 0 k (i 1))

/-- Which block each window stages at grid point `t`: the rows' block, the columns' block and both. -/
theorem index_at : ∀ t : Fin grid0.N,
    win0_0.index t = ![(grid0.coords t 0).val, 0] ∧ win0_1.index t = ![0, 0, (grid0.coords t 1).val]
      ∧ win0_2.index t = ![(grid0.coords t 0).val, (grid0.coords t 1).val] := by decide +kernel

/-- The kernel's result array ends holding the product of its arguments. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, product]
  blk_point [iblk, V, index_at t]

end Cert.FfnDownIdeal.RefValue

namespace Cert.FfnDownRefIdeal.RefValue

open Cert.FfnDownRefIdeal Cert.FfnDownRefIdeal.Gen Idealize.ShloMosaic Idealize.ShloMosaic.TcCoe Idealize.SL.Sem

/-- The reference's result is the product of its arguments. -/
theorem result (x : FVec Ideal S16384x11008 .bf16) (w : FVec Ideal S4x11008x4096 .f32) :
    Read.val_main_v4 (F := Ideal) x w = Cert.FfnDownIdeal.RefValue.product x w := by
  funext i
  idx_vars i
  pointwise [Read.val_main_v4, Read.val_main_v3, Read.val_main_v2, Read.val_main_v1, Read.val_main_v0,
    Cert.FfnDownIdeal.RefValue.product]

/-- From memories that agree on the arguments, the kernel's run and the reference's end with the same result array, the product
    of the arguments, and leave the arguments as they were. -/
theorem equation : Cert.algebraic_FfnDownIdeal_FfnDownRefIdeal (hFfnDownIdeal := Cert.FfnDownIdeal.Gen.facts) (hFfnDownRefIdeal := Gen.facts) := by
  intro m g m' g' _ hm
  refine ⟨fun c => Cert.FfnDownIdeal.RefValue.product (m ((c : Thread Cert.FfnDownIdeal.nD Cert.FfnDownIdeal.τ).loc Cert.FfnDownIdeal.main_arg0))
      (m ((c : Thread Cert.FfnDownIdeal.nD Cert.FfnDownIdeal.τ).loc Cert.FfnDownIdeal.main_arg1)),
    (θ_run _ _ _).mono (fun r h c => ⟨(h c).1.trans (Cert.FfnDownIdeal.RefValue.final m c), (h c).2⟩) (Cert.FfnDownIdeal.Value.run_blocks m g),
    (θ_run _ _ _).mono (fun r h c => ⟨(h c).1.trans ((Read.val_main_v4_eq _ _).trans ?_), (h c).2⟩) (Value.run m' g')⟩
  rw [result, (hm c).1, (hm c).2]

end Cert.FfnDownRefIdeal.RefValue

end
-- ==== Proof.ScIn.lean ====
/-
  The projection that begins the short-convolution layer (`h @ w_in` in three parts, the last two multiplied): what the
  kernel's two result arrays hold after its run, what the reference's hold, and that they are the same arrays, element for
  element, over the extended reals.
-/
module

public import proofs.«01_k».proof.Defs
public import proofs.«01_k».proof.Proof.Gen.ScInIdeal.Value
public import proofs.«01_k».proof.Proof.Gen.ScInRefIdeal.Run
public import proofs.«01_k».proof.Proof.Gen.ScInRefIdeal.Read
public import Idealize.ShloMosaic.Lib.Pipeline.ValueKit
public import Idealize.ShloMosaic.Lib.Pointwise

@[expose] public section

set_option maxRecDepth 16384

noncomputable section

namespace Cert.ScInIdeal.RefValue

open Cert.ScInIdeal Cert.ScInIdeal.Gen Idealize.ShloMosaic Idealize.ShloMosaic.TcCoe Idealize.SL.Sem
open Idealize.ShloMosaic.Pipeline (Dat)

variable (m : (ℓ : Loc nD τ sig) → Buf (Elt Ideal) ℓ)

/-- Column `l` of the product with the first layer's weights at row `r`: the sum over `k` of `x (r, k) * w (0, k, l)`. -/
def column (x : FVec Ideal S16384x4096 .bf16) (w : FVec Ideal S2x4096x12288 .f32) (r : Fin 16384) (l : Fin 12288) : EReal :=
  ∑ k : Fin 4096, x (ix2 r k) * w (ix3 0 k l)

/-- The gate: the product's first 4096 columns. -/
def gate (x : FVec Ideal S16384x4096 .bf16) (w : FVec Ideal S2x4096x12288 .f32) : FVec Ideal S16384x4096 .bf16 :=
  fun i => column x w (i 0) ⟨(i 1).val, by have := (i 1).isLt; simp at this; omega⟩

/-- The gated input: the product's second 4096 columns times its third. -/
def gatedInput (x : FVec Ideal S16384x4096 .bf16) (w : FVec Ideal S2x4096x12288 .f32) : FVec Ideal S16384x4096 .bf16 :=
  fun i => column x w (i 0) ⟨4096 + (i 1).val, by have := (i 1).isLt; simp at this; omega⟩
    * column x w (i 0) ⟨8192 + (i 1).val, by have := (i 1).isLt; simp at this; omega⟩

/-- Which block each window stages at grid point `t`: the rows' block, the three parts' columns, and the results' rows and
    columns. -/
theorem index_at : ∀ t : Fin grid0.N,
    win0_0.index t = ![(grid0.coords t 0).val, 0] ∧ win0_1.index t = ![0, 0, (grid0.coords t 1).val]
      ∧ win0_2.index t = ![0, 0, (grid0.coords t 1).val + 16]
      ∧ win0_3.index t = ![0, 0, (grid0.coords t 1).val + 32]
      ∧ win0_4.index t = ![(grid0.coords t 0).val, (grid0.coords t 1).val]
      ∧ win0_5.index t = ![(grid0.coords t 0).val, (grid0.coords t 1).val] := by decide +kernel

/-- The kernel's first result array ends holding the gate. -/
theorem final_gate (c : Dev nD) : (dats m 0 c).arrAt 4 cfg0.N
    = gate (m ((c : Thread nD τ).loc main_arg0)) (m ((c : Thread nD τ).loc main_arg1)) := by
  refine (dats m 0 c).arrAt_eq_of_covers 4 _ (by decide +kernel) fun t hf y => ?_
  blk_simp
  rw [after0_4]
  frame_out
  idx_vars y
  unfold_payloads
  pointwise [gate, column]
  blk_point [iblk, V, index_at t]

/-- The kernel's second result array ends holding the gated input. -/
theorem final_gatedInput (c : Dev nD) : (dats m 0 c).arrAt 5 cfg0.N
    = gatedInput (m ((c : Thread nD τ).loc main_arg0)) (m ((c : Thread nD τ).loc main_arg1)) := by
  refine (dats m 0 c).arrAt_eq_of_covers 5 _ (by decide +kernel) fun t hf y => ?_
  blk_simp
  rw [after0_5]
  frame_out
  idx_vars y
  unfold_payloads
  pointwise [gatedInput, column]
  blk_point [iblk, V, index_at t]

end Cert.ScInIdeal.RefValue

namespace Cert.ScInRefIdeal.RefValue

open Cert.ScInRefIdeal Cert.ScInRefIdeal.Gen Idealize.ShloMosaic Idealize.ShloMosaic.TcCoe Idealize.SL.Sem

/-- The reference's first result is the gate. -/
theorem result_gate (x : FVec Ideal S16384x4096 .bf16) (w : FVec Ideal S2x4096x12288 .f32) :
    Read.val_main_v8 (F := Ideal) x w = Cert.ScInIdeal.RefValue.gate x w := by
  funext i
  idx_vars i
  pointwise [Read.val_main_v8, Read.val_main_v4, Read.val_main_v3, Read.val_main_v2, Read.val_main_v1, Read.val_main_v0,
    Cert.ScInIdeal.RefValue.gate, Cert.ScInIdeal.RefValue.column]

/-- The reference's second result is the gated input. -/
theorem result_gatedInput (x : FVec Ideal S16384x4096 .bf16) (w : FVec Ideal S2x4096x12288 .f32) :
    Read.val_main_v9 (F := Ideal) x w = Cert.ScInIdeal.RefValue.gatedInput x w := by
  funext i
  idx_vars i
  pointwise [Read.val_main_v9, Read.val_main_v7, Read.val_main_v6, Read.val_main_v5, Read.val_main_v3, Read.val_main_v2,
    Read.val_main_v1, Read.val_main_v0, Cert.ScInIdeal.RefValue.gatedInput, Cert.ScInIdeal.RefValue.column]

/-- From memories that agree on the arguments, the kernel's run and the reference's end with the same two result arrays, the
    gate and the gated input, and leave the arguments as they were. -/
theorem equation : Cert.algebraic_ScInIdeal_ScInRefIdeal (hScInIdeal := Cert.ScInIdeal.Gen.facts) (hScInRefIdeal := Gen.facts) := by
  intro m g m' g' _ hm
  refine ⟨fun c => Cert.ScInIdeal.RefValue.gate (m ((c : Thread Cert.ScInIdeal.nD Cert.ScInIdeal.τ).loc Cert.ScInIdeal.main_arg0))
      (m ((c : Thread Cert.ScInIdeal.nD Cert.ScInIdeal.τ).loc Cert.ScInIdeal.main_arg1)),
    fun c => Cert.ScInIdeal.RefValue.gatedInput (m ((c : Thread Cert.ScInIdeal.nD Cert.ScInIdeal.τ).loc Cert.ScInIdeal.main_arg0))
      (m ((c : Thread Cert.ScInIdeal.nD Cert.ScInIdeal.τ).loc Cert.ScInIdeal.main_arg1)),
    (θ_run _ _ _).mono (fun r h c => ⟨(h c).1.trans (Cert.ScInIdeal.RefValue.final_gate m c),
      (h c).2.1.trans (Cert.ScInIdeal.RefValue.final_gatedInput m c), (h c).2.2⟩) (Cert.ScInIdeal.Value.run_blocks m g),
    (θ_run _ _ _).mono (fun r h c => ⟨(h c).1.trans ((Read.val_main_v8_eq _ _).trans ?_),
      (h c).2.1.trans ((Read.val_main_v9_eq _ _).trans ?_), (h c).2.2⟩) (Value.run m' g')⟩
  · rw [result_gate, (hm c).1, (hm c).2]
  · rw [result_gatedInput, (hm c).1, (hm c).2]

end Cert.ScInRefIdeal.RefValue

end
-- ==== Proof.HyIn.lean ====
/-
  The projection that begins the Hyena layer (`h @ w_in`): what the kernel's result array holds after its run, what the
  reference's holds, and that they are one array, element for element, over the extended reals.
-/
module

public import proofs.«01_k».proof.Defs
public import proofs.«01_k».proof.Proof.Gen.HyInIdeal.Value
public import proofs.«01_k».proof.Proof.Gen.HyInRefIdeal.Run
public import proofs.«01_k».proof.Proof.Gen.HyInRefIdeal.Read
public import Idealize.ShloMosaic.Lib.Pipeline.ValueKit
public import Idealize.ShloMosaic.Lib.Pointwise

@[expose] public section

set_option maxRecDepth 16384

noncomputable section

namespace Cert.HyInIdeal.RefValue

open Cert.HyInIdeal Cert.HyInIdeal.Gen Idealize.ShloMosaic Idealize.ShloMosaic.TcCoe Idealize.SL.Sem
open Idealize.ShloMosaic.Pipeline (Dat)

variable (m : (ℓ : Loc nD τ sig) → Buf (Elt Ideal) ℓ)

/-- The product: element `(r, l)` is the sum over `k` of `x (r, k) * w (0, k, l)`. -/
def product (x : FVec Ideal S16384x4096 .bf16) (w : FVec Ideal S1x4096x12288 .f32) : FVec Ideal S16384x12288 .bf16 :=
  fun i => ∑ k : Fin 4096, x (ix2 (i 0) k) * w (ix3 0 k (i 1))

/-- Which block each window stages at grid point `t`: the rows' block, the columns' block and both. -/
theorem index_at : ∀ t : Fin grid0.N,
    win0_0.index t = ![(grid0.coords t 0).val, 0] ∧ win0_1.index t = ![0, 0, (grid0.coords t 1).val]
      ∧ win0_2.index t = ![(grid0.coords t 0).val, (grid0.coords t 1).val] := by decide +kernel

/-- The kernel's result array ends holding the product of its arguments. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, product]
  blk_point [iblk, V, index_at t]

end Cert.HyInIdeal.RefValue

namespace Cert.HyInRefIdeal.RefValue

open Cert.HyInRefIdeal Cert.HyInRefIdeal.Gen Idealize.ShloMosaic Idealize.ShloMosaic.TcCoe Idealize.SL.Sem

/-- The reference's result is the product of its arguments. -/
theorem result (x : FVec Ideal S16384x4096 .bf16) (w : FVec Ideal S1x4096x12288 .f32) :
    Read.val_main_v3 (F := Ideal) x w = Cert.HyInIdeal.RefValue.product x w := by
  funext i
  idx_vars i
  pointwise [Read.val_main_v3, Read.val_main_v2, Read.val_main_v1, Read.val_main_v0, Cert.HyInIdeal.RefValue.product]

/-- From memories that agree on the arguments, the kernel's run and the reference's end with the same result array, the product
    of the arguments, and leave the arguments as they were. -/
theorem equation : Cert.algebraic_HyInIdeal_HyInRefIdeal (hHyInIdeal := Cert.HyInIdeal.Gen.facts) (hHyInRefIdeal := Gen.facts) := by
  intro m g m' g' _ hm
  refine ⟨fun c => Cert.HyInIdeal.RefValue.product (m ((c : Thread Cert.HyInIdeal.nD Cert.HyInIdeal.τ).loc Cert.HyInIdeal.main_arg0))
      (m ((c : Thread Cert.HyInIdeal.nD Cert.HyInIdeal.τ).loc Cert.HyInIdeal.main_arg1)),
    (θ_run _ _ _).mono (fun r h c => ⟨(h c).1.trans (Cert.HyInIdeal.RefValue.final m c), (h c).2⟩) (Cert.HyInIdeal.Value.run_blocks m g),
    (θ_run _ _ _).mono (fun r h c => ⟨(h c).1.trans ((Read.val_main_v3_eq _ _).trans ?_), (h c).2⟩) (Value.run m' g')⟩
  rw [result, (hm c).1, (hm c).2]

end Cert.HyInRefIdeal.RefValue

end
-- ==== Proof.MlaOut.lean ====
/-
  The projection that ends the attention layer (`o @ w_out`): what the kernel's result array holds after its run, what
  the reference's holds, and that they are one array, element for element, over the extended reals.
-/
module

public import proofs.«01_k».proof.Defs
public import proofs.«01_k».proof.Proof.Gen.MlaOutIdeal.Value
public import proofs.«01_k».proof.Proof.Gen.MlaOutRefIdeal.Run
public import proofs.«01_k».proof.Proof.Gen.MlaOutRefIdeal.Read
public import Idealize.ShloMosaic.Lib.Pipeline.ValueKit
public import Idealize.ShloMosaic.Lib.Pointwise

@[expose] public section

set_option maxRecDepth 16384

noncomputable section

namespace Cert.MlaOutIdeal.RefValue

open Cert.MlaOutIdeal Cert.MlaOutIdeal.Gen Idealize.ShloMosaic Idealize.ShloMosaic.TcCoe Idealize.SL.Sem
open Idealize.ShloMosaic.Pipeline (Dat)

variable (m : (ℓ : Loc nD τ sig) → Buf (Elt Ideal) ℓ)

/-- The product: element `(r, l)` is the sum over `k` of `x (r, k) * w (0, k, l)`. -/
def product (x : FVec Ideal S16384x4096 .bf16) (w : FVec Ideal S1x4096x4096 .f32) : FVec Ideal S16384x4096 .bf16 :=
  fun i => ∑ k : Fin 4096, x (ix2 (i 0) k) * w (ix3 0 k (i 1))

/-- Which block each window stages at grid point `t`: the rows' block, the columns' block and both. -/
theorem index_at : ∀ t : Fin grid0.N,
    win0_0.index t = ![(grid0.coords t 0).val, 0] ∧ win0_1.index t = ![0, 0, (grid0.coords t 1).val]
      ∧ win0_2.index t = ![(grid0.coords t 0).val, (grid0.coords t 1).val] := by decide +kernel

/-- The kernel's result array ends holding the product of its arguments. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, product]
  blk_point [iblk, V, index_at t]

end Cert.MlaOutIdeal.RefValue

namespace Cert.MlaOutRefIdeal.RefValue

open Cert.MlaOutRefIdeal Cert.MlaOutRefIdeal.Gen Idealize.ShloMosaic Idealize.ShloMosaic.TcCoe Idealize.SL.Sem

/-- The reference's result is the product of its arguments. -/
theorem result (x : FVec Ideal S16384x4096 .bf16) (w : FVec Ideal S1x4096x4096 .f32) :
    Read.val_main_v3 (F := Ideal) x w = Cert.MlaOutIdeal.RefValue.product x w := by
  funext i
  idx_vars i
  pointwise [Read.val_main_v3, Read.val_main_v2, Read.val_main_v1, Read.val_main_v0, Cert.MlaOutIdeal.RefValue.product]

/-- From memories that agree on the arguments, the kernel's run and the reference's end with the same result array, the product
    of the arguments, and leave the arguments as they were. -/
theorem equation : Cert.algebraic_MlaOutIdeal_MlaOutRefIdeal (hMlaOutIdeal := Cert.MlaOutIdeal.Gen.facts) (hMlaOutRefIdeal := Gen.facts) := by
  intro m g m' g' _ hm
  refine ⟨fun c => Cert.MlaOutIdeal.RefValue.product (m ((c : Thread Cert.MlaOutIdeal.nD Cert.MlaOutIdeal.τ).loc Cert.MlaOutIdeal.main_arg0))
      (m ((c : Thread Cert.MlaOutIdeal.nD Cert.MlaOutIdeal.τ).loc Cert.MlaOutIdeal.main_arg1)),
    (θ_run _ _ _).mono (fun r h c => ⟨(h c).1.trans (Cert.MlaOutIdeal.RefValue.final m c), (h c).2⟩) (Cert.MlaOutIdeal.Value.run_blocks m g),
    (θ_run _ _ _).mono (fun r h c => ⟨(h c).1.trans ((Read.val_main_v3_eq _ _).trans ?_), (h c).2⟩) (Value.run m' g')⟩
  rw [result, (hm c).1, (hm c).2]

end Cert.MlaOutRefIdeal.RefValue

end
-- ==== Proof.ScOutStep.lean ====
/-
  The gated rows of one piece of a row block: the convolution over three rows, with the rows just outside the block, times the gate.
-/
module

public import proofs.«01_k».proof.Defs
public import proofs.«01_k».proof.Proof.Gen.ScOutIdeal.Value
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.ScOutIdeal.RefValue

open Cert.ScOutIdeal Cert.ScOutIdeal.Gen Idealize.ShloMosaic Idealize.ShloMosaic.TcCoe Idealize.SL.Sem

/-- Choosing by whether two small numbers are equal. -/
theorem select_number {α : Type} (a b : ℕ) (ha : a < 512) (hb : b < 512) (x y : α) :
    Scalar.select (IntOp.cmpi .eq (BitVec.ofNat 32 a) (BitVec.ofNat 32 b)) x y = if a = b then x else y := by
  have e : (BitVec.ofNat 32 a = BitVec.ofNat 32 b) ↔ a = b := by
    constructor
    · intro h
      have := congrArg BitVec.toNat h
      simp only [BitVec.toNat_ofNat] at this
      omega
    · rintro rfl; rfl
  rw [WordCmp.cmpi_eq_eq, Scalar.select_decide]
  simp only [e]

/-- The row above row `r` of a block: in the block, or the last row of the block above, which counts as zero where `f` is set. -/
def above (f : BitVec 1) (u : Vec Ideal S512x512 .bf16) (p : Vec Ideal S16x512 .bf16) (r k : Fin 512) : EReal :=
  if h : r.val = 0 then Scalar.select f 0 (p (ix2 15 k)) else u (ix2 ⟨r.val - 1, by omega⟩ k)

/-- The row below row `r` of a block: in the block, or the first row of the block below, which counts as zero where `l` is set. -/
def below (l : BitVec 1) (u : Vec Ideal S512x512 .bf16) (n : Vec Ideal S16x512 .bf16) (r k : Fin 512) : EReal :=
  if h : r.val = 511 then Scalar.select l 0 (n (ix2 0 k)) else u (ix2 ⟨r.val + 1, by omega⟩ k)

/-- The kernel's rows moved down by one are the rows above. -/
theorem above_at (f : BitVec 1) (u : Vec Ideal S512x512 .bf16) (p : Vec Ideal S16x512 .bf16) (r k : Fin 512) :
    k0_pay33 (F := Ideal) f u p (ix2 r k) = above f u p r k := by
  unfold above
  pointwise [k0_pay33, k0_pay32]
  by_cases h0 : r.val = 0
  · rw [dif_pos (show r.val < 8 by omega), dif_pos h0, select_number r.val 0 r.isLt (by omega), if_pos h0]
  · rw [dif_neg h0]
    by_cases h8 : r.val < 8
    · rw [dif_pos h8, select_number r.val 0 r.isLt (by omega), if_neg h0]
      exact congrArg (fun i : Fin 512 => u (ix2 i k)) (Fin.ext (show (r.val + 512 - 1) % 512 = r.val - 1 by omega))
    · rw [dif_neg h8]
      exact congrArg (fun i : Fin 512 => u (ix2 i k)) (Fin.ext (show (8 + (r.val - 8) + 512 - 1) % 512 = r.val - 1 by omega))

/-- The kernel's rows moved up by one are the rows below. -/
theorem below_at (l : BitVec 1) (u : Vec Ideal S512x512 .bf16) (n : Vec Ideal S16x512 .bf16) (r k : Fin 512) :
    k0_pay34 (F := Ideal) l u n (ix2 r k) = below l u n r k := by
  unfold below
  pointwise [k0_pay34, k0_pay32]
  by_cases h0 : r.val = 511
  · rw [dif_neg (show ¬r.val < 504 by omega), dif_pos h0, select_number (r.val - 504) 7 (by omega) (by omega),
      if_pos (show r.val - 504 = 7 by omega)]
  · rw [dif_neg h0]
    by_cases h8 : r.val < 504
    · rw [dif_pos h8]
      exact congrArg (fun i : Fin 512 => u (ix2 i k)) (Fin.ext (show (r.val + 512 - 511) % 512 = r.val + 1 by omega))
    · rw [dif_neg h8, select_number (r.val - 504) 7 (by omega) (by omega), if_neg (show ¬r.val - 504 = 7 by omega)]
      exact congrArg (fun i : Fin 512 => u (ix2 i k)) (Fin.ext (show (504 + (r.val - 504) + 512 - 511) % 512 = r.val + 1 by omega))

/-- A piece of the gated rows, as the kernel's operations give it. -/
def gatedPiece (f l : BitVec 1) (u : Vec Ideal S512x512 .bf16) (p n : Vec Ideal S16x512 .bf16) (w0 w1 w2 : Vec Ideal S1x512 .f32)
    (b : Vec Ideal S512x512 .bf16) : FVec Ideal S512x512 .bf16 :=
  k0_pay36 (F := Ideal) (k0_pay30 w1) (k0_pay31 w2) (k0_pay32 u) (k0_pay33 f u p) (k0_pay34 l u n) (k0_pay35 w0) b

/-- An element of a piece: the gate times the three rows' weighted sum. -/
theorem gatedPiece_at (f l : BitVec 1) (u : Vec Ideal S512x512 .bf16) (p n : Vec Ideal S16x512 .bf16)
    (w0 w1 w2 : Vec Ideal S1x512 .f32) (b : Vec Ideal S512x512 .bf16) (r k : Fin 512) :
    gatedPiece f l u p n w0 w1 w2 b (ix2 r k)
      = b (ix2 r k) * (w0 (ix2 0 k) * above f u p r k + w1 (ix2 0 k) * u (ix2 r k) + w2 (ix2 0 k) * below l u n r k) := by
  rw [← above_at, ← below_at]
  unfold gatedPiece
  pointwise [k0_pay36, k0_pay30, k0_pay31, k0_pay32, k0_pay35]

section
variable (c : Dev nD) (i : grid0.Coords) (arg3 : Memref sig .tc .vmem S512x4096 .bf16) (harg3 : arg3.IsWhole)
  (arg4 : Memref sig .tc .vmem S512x4096 .bf16) (harg4 : arg4.IsWhole) (arg5 : Memref sig .tc .vmem S16x4096 .bf16)
  (harg5 : arg5.IsWhole) (arg6 : Memref sig .tc .vmem S16x4096 .bf16) (harg6 : arg6.IsWhole)
  (arg7 : Memref sig .tc .vmem S8x4096 .f32) (harg7 : arg7.IsWhole) (arg8 : Memref sig .tc .vmem S1x4096x512 .bf16)
  (harg8 : arg8.IsWhole) (arg9 : Memref sig .tc .vmem S512x512 .bf16) (harg9 : arg9.IsWhole)
  (arg10 : Memref sig .tc .vmem S512x4096 .bf16) (harg10 : arg10.IsWhole)
  (x0 x1 : Vec Ideal S512x4096 .bf16) (x2 x3 : Vec Ideal S16x4096 .bf16) (x4 : Vec Ideal S8x4096 .f32) (x5 : Vec Ideal S1x4096x512 .bf16)
  (xs0 : Vec Ideal S512x4096 .bf16)

/-- A block's gated rows: the gate times the weighted sum of three rows, where the row above the array and the row below it are zero. -/
def gatedBlock (y : S512x4096.Idx) : EReal :=
  x0 y * (x4 (ix2 0 (y 1)) * (if h : (y 0).val = 0 then Scalar.select (Scalar.cmpi .eq (BitVec.ofNat 32 (i 0).val) 0#32) 0 (x2 (ix2 15 (y 1)))
        else x1 (ix2 ⟨(y 0).val - 1, lt_of_le_of_lt (Nat.sub_le _ _) (y 0).isLt⟩ (y 1)))
    + x4 (ix2 1 (y 1)) * x1 y
    + x4 (ix2 2 (y 1)) * (if h : (y 0).val = 511 then Scalar.select (Scalar.cmpi .eq (BitVec.ofNat 32 (i 0).val) 31#32) 0 (x3 (ix2 0 (y 1)))
        else x1 (ix2 ⟨(y 0).val + 1, by have : (y 0).val < 512 := (y 0).isLt; omega⟩ (y 1))))

/-- The piece of the columns from `o` on is that part of the block's gated rows. -/
theorem slice_at (o : ℕ) (ho : o + 512 ≤ 4096) (h1 : ∀ a, (![0, o] : Fin 2 → Nat) a + S512x512.size a ≤ S512x4096.size a)
    (h2 : ∀ a, (![0, o] : Fin 2 → Nat) a + S16x512.size a ≤ S16x4096.size a) (hw0 : ∀ a, (![0, o] : Fin 2 → Nat) a + S1x512.size a ≤ S8x4096.size a)
    (hw1 : ∀ a, (![1, o] : Fin 2 → Nat) a + S1x512.size a ≤ S8x4096.size a) (hw2 : ∀ a, (![2, o] : Fin 2 → Nat) a + S1x512.size a ≤ S8x4096.size a) (x : S512x512.Idx) :
    gatedPiece (Scalar.cmpi .eq (BitVec.ofNat 32 (i 0).val) 0#32) (Scalar.cmpi .eq (BitVec.ofNat 32 (i 0).val) 31#32)
        (View.ld x1 (Rect.unit ![0, o] S512x512.size h1)) (View.ld x2 (Rect.unit ![0, o] S16x512.size h2))
        (View.ld x3 (Rect.unit ![0, o] S16x512.size h2)) (View.ld x4 (Rect.unit ![0, o] S1x512.size hw0))
        (View.ld x4 (Rect.unit ![1, o] S1x512.size hw1)) (View.ld x4 (Rect.unit ![2, o] S1x512.size hw2))
        (View.ld x0 (Rect.unit ![0, o] S512x512.size h1)) x
      = gatedBlock i x0 x1 x2 x3 x4 (ix2 ⟨(x 0).val, (x 0).isLt⟩ ⟨o + (x 1).val, by have : (x 1).val < 512 := (x 1).isLt; omega⟩) := by
  obtain ⟨r, k, rfl⟩ : ∃ (a : Fin 512) (b : Fin 512), x = ix2 a b := ⟨x 0, x 1, by funext a; fin_cases a <;> rfl⟩
  refine (gatedPiece_at _ _ _ _ _ _ _ _ _ r k).trans ?_
  pointwise [gatedBlock, above, below]

/-- The first point of a row block leaves the gated rows in scratch. -/
theorem stored (hc0 : cond0_0 i) (y : S512x4096.Idx) :
    sout0_A_0 (F := Ideal) c i arg3 harg3 arg4 harg4 arg5 harg5 arg6 harg6 arg7 harg7 arg8 harg8 arg9 harg9 arg10 harg10 hc0 x0 x1 x2 x3 x4 x5 y
      = gatedBlock i x0 x1 x2 x3 x4 y := by
  frame_out
  obtain ⟨y0, y1, rfl⟩ : ∃ (a : Fin 512) (b : Fin 4096), y = ix2 a b := ⟨y 0, y 1, by funext a; fin_cases a <;> rfl⟩
  canon_tiles x h
  all_goals
    obtain ⟨v, hv⟩ := y1
    obtain ⟨u, hu⟩ := y0
    dsimp only [ix2_0, ix2_1] at h0 h1
    subst h0 h1
  · exact slice_at i x0 x1 x2 x3 x4 3584 (by omega) _ _ _ _ _ x
  · exact slice_at i x0 x1 x2 x3 x4 3072 (by omega) _ _ _ _ _ x
  · exact slice_at i x0 x1 x2 x3 x4 2560 (by omega) _ _ _ _ _ x
  · exact slice_at i x0 x1 x2 x3 x4 2048 (by omega) _ _ _ _ _ x
  · exact slice_at i x0 x1 x2 x3 x4 1536 (by omega) _ _ _ _ _ x
  · exact slice_at i x0 x1 x2 x3 x4 1024 (by omega) _ _ _ _ _ x
  · exact slice_at i x0 x1 x2 x3 x4 512 (by omega) _ _ _ _ _ x
  · exact (slice_at i x0 x1 x2 x3 x4 0 (by omega) _ _ _ _ _ x).trans
      (congrArg (fun k : Fin 4096 => gatedBlock i x0 x1 x2 x3 x4 (ix2 ⟨(x 0).val, hu⟩ k)) (Fin.ext (Nat.zero_add _)))

/-- The payload stored in the result's block is the product of what is read from scratch and the columns. -/
theorem pay_product (Z : Vec Ideal S512x4096 .bf16) (x5 : Vec Ideal S1x4096x512 .bf16) (y : S512x512.Idx) :
    k0_pay2 (F := Ideal) (fun j => Z ((Rect.unit (s := S512x4096) ![0, 0] S512x4096.size inb_S512x4096_S512x4096_0_0).toLoadRect.idx j)) x5 y
      = ∑ k : Fin 4096, Z (ix2 (y 0) k) * x5 (ix3 0 k (y 1)) := by
  obtain ⟨y0, y1, rfl⟩ : ∃ (a : Fin 512) (b : Fin 512), y = ix2 a b := ⟨y 0, y 1, by funext a; fin_cases a <;> rfl⟩
  pointwise [k0_pay2]

/-- The first point of a row block writes the product of the gated rows. -/
theorem out_first (hc0 : cond0_0 i) (y : S512x512.Idx) :
    out0_A_6 (F := Ideal) c i arg3 harg3 arg4 harg4 arg5 harg5 arg6 harg6 arg7 harg7 arg8 harg8 arg9 harg9 arg10 harg10 hc0 x0 x1 x2 x3 x4 x5 y
      = ∑ k : Fin 4096, gatedBlock i x0 x1 x2 x3 x4 (ix2 (y 0) k) * x5 (ix3 0 k (y 1)) := by
  have e := fun k : Fin 4096 =>
    stored c i arg3 harg3 arg4 harg4 arg5 harg5 arg6 harg6 arg7 harg7 arg8 harg8 arg9 harg9 arg10 harg10 x0 x1 x2 x3 x4 x5 hc0 (ix2 (y 0) k)
  simp only [← e]
  clear e
  frame_out
  rw [View.readCov_eq_canon']
  exact pay_product _ x5 y

/-- The other points write the product of the rows they find in scratch. -/
theorem out_next (hc0 : ¬cond0_0 i) (y : S512x512.Idx) :
    out0_B_6 (F := Ideal) c i arg3 harg3 arg4 harg4 arg5 harg5 arg6 harg6 arg7 harg7 arg8 harg8 arg9 harg9 arg10 harg10 hc0 x0 x1 x2 x3 x4 x5 xs0 y
      = ∑ k : Fin 4096, xs0 (ix2 (y 0) k) * x5 (ix3 0 k (y 1)) := by
  frame_out
  obtain ⟨y0, y1, rfl⟩ : ∃ (a : Fin 512) (b : Fin 512), y = ix2 a b := ⟨y 0, y 1, by funext a; fin_cases a <;> rfl⟩
  pointwise [k0_pay2]

end

end Cert.ScOutIdeal.RefValue

end
-- ==== Proof.ScOut.lean ====
/-
  The product that ends the short convolution layer: its left operand, the gate times a convolution over three rows, kept in scratch
  over the column blocks of a row block.
-/
module

public import proofs.«01_k».proof.Defs
public import proofs.«01_k».proof.Proof.Gen.ScOutIdeal.Value
public import proofs.«01_k».proof.Proof.Gen.ScOutRefIdeal.Run
public import proofs.«01_k».proof.Proof.Gen.ScOutRefIdeal.Read
public import proofs.«01_k».proof.Proof.ScOutStep
public import Idealize.ShloMosaic.Lib.Pipeline.ValueKit
public import Idealize.ShloMosaic.Lib.Pipeline.ValueKit.Held
public import Idealize.ShloMosaic.Lib.Pipeline.Covers
public import Idealize.ShloMosaic.Lib.Pointwise

@[expose] public section

set_option maxRecDepth 16384

noncomputable section

namespace Cert.ScOutIdeal.RefValue

open Cert.ScOutIdeal Cert.ScOutIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The row before row `r`, zero before the first. -/
def previous (u : FVec Ideal S16384x4096 .bf16) (r : Fin 16384) (k : Fin 4096) : EReal :=
  if h : r.val = 0 then 0 else u (ix2 ⟨r.val - 1, by omega⟩ k)

/-- The row after row `r`, zero after the last. -/
def next (u : FVec Ideal S16384x4096 .bf16) (r : Fin 16384) (k : Fin 4096) : EReal :=
  if h : r.val = 16383 then 0 else u (ix2 ⟨r.val + 1, by omega⟩ k)

/-- The gated rows: `b` times the weighted sum of the row before, the row itself and the row after. -/
def gatedRows (b u : FVec Ideal S16384x4096 .bf16) (w : FVec Ideal S2x3x4096 .f32) (r : Fin 16384) (k : Fin 4096) : EReal :=
  b (ix2 r k) * (w (ix3 0 0 k) * previous u r k + w (ix3 0 1 k) * u (ix2 r k) + w (ix3 0 2 k) * next u r k)

/-- The product of the gated rows: element `(r, l)` is the sum over `k` of the gated rows at `(r, k)` times `v (0, k, l)`. -/
def product (b u : FVec Ideal S16384x4096 .bf16) (w : FVec Ideal S2x3x4096 .f32) (v : FVec Ideal S2x4096x4096 .f32) :
    FVec Ideal S16384x4096 .bf16 :=
  fun i => ∑ k : Fin 4096, gatedRows b u w (i 0) k * v (ix3 0 k (i 1))

/-- Which block each window stages at grid point `t`. -/
theorem index_at : ∀ t : Fin grid0.N,
    win0_0.index t = ![t.val / 8, 0] ∧ win0_1.index t = ![t.val / 8, 0] ∧ win0_2.index t = ![t.val / 8 * 32 - 1, 0]
      ∧ win0_3.index t = ![min ((t.val / 8 + 1) * 32) 1023, 0] ∧ win0_4.index t = ![0, 0]
      ∧ win0_5.index t = ![0, 0, t.val % 8] ∧ win0_6.index t = ![t.val / 8, t.val % 8] := by
  decide +kernel

/-- The first grid coordinate is the row block. -/
theorem block_at : ∀ t : Fin grid0.N, (grid0.coords t 0).val = t.val / 8 := by
  decide +kernel

/-- The grid has 256 points. -/
theorem points (t : Fin cfg0.N) : t.val < 256 := lt_of_lt_of_eq t.isLt (show cfg0.N = 256 from N_0)

/-- The gated rows of point `t`'s block. -/
def rows (t : Fin cfg0.N) : S512x4096.Idx → EReal :=
  gatedBlock (grid0.coords t) (iblk m c 0 t) (iblk m c 1 t) (iblk m c 2 t) (iblk m c 3 t) (iblk m c 4 t)

/-- The row above row `r` of point `t`'s block, from the block before at the block's first row, is the array's. -/
theorem previous_at (t : Fin cfg0.N) (r : Fin 512) (k : Fin 4096) :
    (if h : r.val = 0 then Scalar.select (Scalar.cmpi .eq (BitVec.ofNat 32 (grid0.coords t 0).val) 0#32) (0 : EReal) (iblk m c 2 t (ix2 15 k))
      else iblk m c 1 t (ix2 ⟨r.val - 1, lt_of_le_of_lt (Nat.sub_le _ _) r.isLt⟩ k))
      = previous (m ((c : Thread nD τ).loc main_arg1)) ⟨512 * (t.val / 8) + r, by have := points t; omega⟩ k := by
  have ht := points t
  unfold previous
  rw [block_at t]
  have e := select_number (t.val / 8) 0 (by omega) (by omega) (0 : EReal) (iblk m c 2 t (ix2 15 k))
  by_cases h0 : r.val = 0
  · rw [dif_pos h0]
    refine e.trans ?_
    by_cases h1 : t.val / 8 = 0
    · rw [if_pos h1, dif_pos (show 512 * (t.val / 8) + r.val = 0 by omega)]
    · rw [if_neg h1, dif_neg (show ¬512 * (t.val / 8) + r.val = 0 by omega)]
      blk_point [iblk, V, index_at t]
  · rw [dif_neg h0, dif_neg (show ¬512 * (t.val / 8) + r.val = 0 by omega)]
    blk_point [iblk, V, index_at t]

/-- The row below row `r` of point `t`'s block, from the block after at the block's last row, is the array's. -/
theorem next_at (t : Fin cfg0.N) (r : Fin 512) (k : Fin 4096) :
    (if h : r.val = 511 then Scalar.select (Scalar.cmpi .eq (BitVec.ofNat 32 (grid0.coords t 0).val) 31#32) (0 : EReal) (iblk m c 3 t (ix2 0 k))
      else iblk m c 1 t (ix2 ⟨r.val + 1, by have := r.isLt; omega⟩ k))
      = next (m ((c : Thread nD τ).loc main_arg1)) ⟨512 * (t.val / 8) + r, by have := points t; omega⟩ k := by
  have ht := points t
  unfold next
  rw [block_at t]
  have e := select_number (t.val / 8) 31 (by omega) (by omega) (0 : EReal) (iblk m c 3 t (ix2 0 k))
  by_cases h0 : r.val = 511
  · rw [dif_pos h0]
    refine e.trans ?_
    by_cases h1 : t.val / 8 = 31
    · rw [if_pos h1, dif_pos (show 512 * (t.val / 8) + r.val = 16383 by omega)]
    · rw [if_neg h1, dif_neg (show ¬512 * (t.val / 8) + r.val = 16383 by omega)]
      blk_point [iblk, V, index_at t]
  · rw [dif_neg h0, dif_neg (show ¬512 * (t.val / 8) + r.val = 16383 by omega)]
    blk_point [iblk, V, index_at t]

/-- The gated rows of a point's block are those of the arrays. -/
theorem rows_at (t : Fin cfg0.N) (r : Fin 512) (k : Fin 4096) :
    rows m c t (ix2 r k) = gatedRows (m ((c : Thread nD τ).loc main_arg0)) (m ((c : Thread nD τ).loc main_arg1)) (m ((c : Thread nD τ).loc main_arg2))
      ⟨512 * (t.val / 8) + r, by have := points t; omega⟩ k := by
  have ht := points t
  unfold gatedRows
  rw [← previous_at m c t r k, ← next_at m c t r k]
  unfold rows gatedBlock
  dsimp only [ix2_0, ix2_1]
  have e0 : iblk m c 0 t (ix2 r k) = m ((c : Thread nD τ).loc main_arg0) (ix2 ⟨512 * (t.val / 8) + r, by omega⟩ k) := by
    blk_point [iblk, V, index_at t]
  have e1 : iblk m c 1 t (ix2 r k) = m ((c : Thread nD τ).loc main_arg1) (ix2 ⟨512 * (t.val / 8) + r, by omega⟩ k) := by
    blk_point [iblk, V, index_at t]
  have w0 : iblk m c 4 t (ix2 0 k) = m ((c : Thread nD τ).loc main_arg2) (ix3 0 0 k) := by
    blk_simp [iblk, V, index_at t]
    entry_read
    pointwise
    refine (dif_pos (show ((0 : Fin 8) : ℕ) < 3 by decide)).trans ?_
    blk_point [index_at t]
  have w1 : iblk m c 4 t (ix2 1 k) = m ((c : Thread nD τ).loc main_arg2) (ix3 0 1 k) := by
    blk_simp [iblk, V, index_at t]
    entry_read
    pointwise
    refine (dif_pos (show ((1 : Fin 8) : ℕ) < 3 by decide)).trans ?_
    blk_point [index_at t]
  have w2 : iblk m c 4 t (ix2 2 k) = m ((c : Thread nD τ).loc main_arg2) (ix3 0 2 k) := by
    blk_simp [iblk, V, index_at t]
    entry_read
    pointwise
    refine (dif_pos (show ((2 : Fin 8) : ℕ) < 3 by decide)).trans ?_
    blk_point [index_at t]
  rw [e0, e1, w0, w1, w2]
  rfl

/-- After every point the scratch holds the gated rows of the first point of its row block. -/
theorem kept (t : Fin cfg0.N) (y : S512x4096.Idx) :
    (outsAt0 m c t.val t.isLt).2 y = rows m c ⟨8 * (t.val / 8), Pipeline.run_start_lt t⟩ y :=
  Pipeline.eq_of_write_hold_apply (fun n h => (outsAt0 m c n h).2) 8 (rows m c)
    (fun t h0 y => by
      rw [outsAt0_A m c t h0]
      dsimp only
      exact stored c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) ((hcond0_0 t).mpr h0) y)
    (fun t h0 y => by
      rw [outsAt0_B m c t h0]
      dsimp only
      exact rfl) t y

/-- Every point writes its block of the product. -/
theorem written (t : Fin cfg0.N) (y : S512x512.Idx) : (outsAt0 m c t.val t.isLt).1 y
    = ∑ k : Fin 4096, rows m c ⟨8 * (t.val / 8), Pipeline.run_start_lt t⟩ (ix2 (y 0) k) * iblk m c 5 t (ix3 0 k (y 1)) := by
  by_cases h0 : t.val % 8 = 0
  · have e : (⟨8 * (t.val / 8), Pipeline.run_start_lt t⟩ : Fin cfg0.N) = t := Fin.ext (show 8 * (t.val / 8) = t.val by omega)
    rw [e, outsAt0_A m c t h0]
    dsimp only
    exact out_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) ((hcond0_0 t).mpr h0) y
  · have e : (⟨8 * (t.val / 8), Pipeline.run_start_lt t⟩ : Fin cfg0.N)
        = ⟨8 * ((t.val - 1) / 8), Pipeline.run_start_lt (⟨t.val - 1, Nat.lt_of_le_of_lt (Nat.sub_le _ _) t.isLt⟩ : Fin cfg0.N)⟩ :=
      Fin.ext (show 8 * (t.val / 8) = 8 * ((t.val - 1) / 8) by omega)
    rw [e]
    simp only [← kept m c (⟨t.val - 1, Nat.lt_of_le_of_lt (Nat.sub_le _ _) t.isLt⟩ : Fin cfg0.N)]
    rw [outsAt0_B m c t h0]
    dsimp only
    exact out_next c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2 (fun h => h0 ((hcond0_0 t).mp h)) y

/-- Every block of the result is some point's. -/
theorem covers : (cfg0.win 6).Covers :=
  (cfg0.win 6).covers_of_index_surj rfl (by decide) fun β => by
    have h0 : (β (0 : Fin 2)).val < 32 := lt_of_lt_of_eq (β (0 : Fin 2)).isLt (by decide : (cfg0.win 6).nblk (0 : Fin 2) = 32)
    have h1 : (β (1 : Fin 2)).val < 8 := lt_of_lt_of_eq (β (1 : Fin 2)).isLt (by decide : (cfg0.win 6).nblk (1 : Fin 2) = 8)
    refine ⟨⟨8 * (β (0 : Fin 2)).val + (β (1 : Fin 2)).val, lt_of_lt_of_eq (by omega) (show 256 = cfg0.N from N_0.symm)⟩, fun a => ?_⟩
    refine (congrFun (index_at _).2.2.2.2.2.2 a).trans ?_
    match a with
    | (0 : Fin 2) => show (8 * (β (0 : Fin 2)).val + (β (1 : Fin 2)).val) / 8 = _; omega
    | (1 : Fin 2) => show (8 * (β (0 : Fin 2)).val + (β (1 : Fin 2)).val) % 8 = _; omega

/-- The kernel's result array ends holding the product of the gated rows. -/
theorem final : (dats m 0 c).arrAt 6 cfg0.N
    = product (m ((c : Thread nD τ).loc main_arg0)) (m ((c : Thread nD τ).loc main_arg1)) (m ((c : Thread nD τ).loc main_arg2)) (m ((c : Thread nD τ).loc main_arg3)) := by
  refine (dats m 0 c).arrAt_eq_of_covers 6 _ covers fun t hf y => ?_
  have ht := points t
  obtain ⟨r, l, rfl⟩ : ∃ (a : Fin 512) (b : Fin 512), y = ix2 a b := ⟨y 0, y 1, by funext a; fin_cases a <;> rfl⟩
  rw [after0_6]
  refine (written m c t (ix2 r l)).trans ?_
  have e : ∀ k : Fin 4096, rows m c ⟨8 * (t.val / 8), Pipeline.run_start_lt t⟩ (ix2 r k)
      = gatedRows (m ((c : Thread nD τ).loc main_arg0)) (m ((c : Thread nD τ).loc main_arg1)) (m ((c : Thread nD τ).loc main_arg2)) ((((cfg0.win 6).blk t).view.emb (ix2 r l)) 0) k := fun k =>
    (rows_at m c ⟨8 * (t.val / 8), Pipeline.run_start_lt t⟩ r k).trans
      (congrArg (fun i : Fin 16384 => gatedRows (m ((c : Thread nD τ).loc main_arg0)) (m ((c : Thread nD τ).loc main_arg1)) (m ((c : Thread nD τ).loc main_arg2)) i k)
        (Fin.ext ((show 512 * (8 * (t.val / 8) / 8) + r.val = 512 * (t.val / 8) + r.val by omega).trans
          (by blk_simp [index_at t]; omega))))
  refine (Finset.sum_congr rfl fun k _ => congrArg (· * _) (e k)).trans ?_
  pointwise [product]
  blk_point [iblk, V, index_at t]

end Cert.ScOutIdeal.RefValue

namespace Cert.ScOutRefIdeal.RefValue

open Cert.ScOutRefIdeal Cert.ScOutRefIdeal.Gen Idealize.ShloMosaic Idealize.ShloMosaic.TcCoe Idealize.SL.Sem
open Cert.ScOutIdeal.RefValue (previous next gatedRows product)

/-- The padded array: row `r + 1` is row `r` of `u`, and the first and last rows are zero. -/
theorem padded (u : FVec Ideal S16384x4096 .bf16) (r : Fin 16386) (k : Fin 4096) :
    Read.val_main_v3 (F := Ideal) u (ix2 r k)
      = if h : 1 ≤ r.val ∧ r.val - 1 < 16384 then u (ix2 ⟨r.val - 1, h.2⟩ k) else 0 := by
  pointwise [Read.val_main_v3, Read.val_main_v2, Read.val_main_call0_v0, Read.val_main_c]
  have z : (FloatOps.sitofp (F := Ideal) .f32 (0#32) : EReal) = 0 := by
    show (((0#32 : BitVec 32).toInt : ℝ) : EReal) = 0
    simp
  rw [z]

/-- The reference's left operand is the gated rows. -/
theorem gated (b u : FVec Ideal S16384x4096 .bf16) (w : FVec Ideal S2x3x4096 .f32) (r : Fin 16384) (k : Fin 4096) :
    Read.val_main_v25 (F := Ideal) b u w (ix2 r k) = gatedRows b u w r k := by
  pointwise [Read.val_main_v25, Read.val_main_v24, Read.val_main_v23, Read.val_main_v22, Read.val_main_v21, Read.val_main_v20,
    Read.val_main_v19, Read.val_main_v18, Read.val_main_v17, Read.val_main_v16, Read.val_main_v15, Read.val_main_v14,
    Read.val_main_v13, Read.val_main_v12, Read.val_main_v11, Read.val_main_v10, Read.val_main_v9, Read.val_main_v8,
    Read.val_main_v7, Read.val_main_v6, Read.val_main_v5, Read.val_main_v4, Read.val_main_v1, Read.val_main_v0,
    gatedRows]
  have e0 : Read.val_main_v3 (F := Ideal) u (ix2 ⟨r.val, by omega⟩ k) = previous u r k := by
    refine (padded u _ k).trans ?_
    unfold previous
    by_cases h : r.val = 0
    · rw [dif_pos h, dif_neg (fun e => absurd e.1 (by dsimp only; omega))]
    · rw [dif_neg h, dif_pos (⟨by omega, by omega⟩ : 1 ≤ r.val ∧ r.val - 1 < 16384)]
  have e1 : Read.val_main_v3 (F := Ideal) u (ix2 ⟨1 + r.val, by omega⟩ k) = u (ix2 r k) := by
    refine (padded u _ k).trans ((dif_pos (⟨by omega, by omega⟩ : 1 ≤ 1 + r.val ∧ 1 + r.val - 1 < 16384)).trans ?_)
    exact congrArg (fun i : Fin 16384 => u (ix2 i k)) (Fin.ext (show 1 + r.val - 1 = r.val by omega))
  have e2 : Read.val_main_v3 (F := Ideal) u (ix2 ⟨2 + r.val, by omega⟩ k) = next u r k := by
    refine (padded u _ k).trans ?_
    unfold next
    by_cases h : r.val = 16383
    · rw [dif_pos h, dif_neg (fun e => absurd e.2 (by dsimp only; omega))]
    · rw [dif_neg h]
      refine (dif_pos (⟨by omega, by omega⟩ : 1 ≤ 2 + r.val ∧ 2 + r.val - 1 < 16384)).trans ?_
      exact congrArg (fun i : Fin 16384 => u (ix2 i k)) (Fin.ext (show 2 + r.val - 1 = r.val + 1 by omega))
  rw [← e0, ← e1, ← e2]

/-- The reference's result is the product of the gated rows. -/
theorem result (b u : FVec Ideal S16384x4096 .bf16) (w : FVec Ideal S2x3x4096 .f32) (v : FVec Ideal S2x4096x4096 .f32) :
    Read.val_main_v29 (F := Ideal) b u w v = product b u w v := by
  funext i
  idx_vars i
  show _ = ∑ k : Fin 4096, gatedRows b u w i0 k * v (ix3 0 k i1)
  simp only [← gated]
  pointwise [Read.val_main_v29, Read.val_main_v28, Read.val_main_v27, Read.val_main_v26]

/-- From memories that agree on the arguments, the kernel's run and the reference's end with the same result array, the product
    of the gated rows, and leave the arguments as they were. -/
theorem equation : Cert.algebraic_ScOutIdeal_ScOutRefIdeal (hScOutIdeal := Cert.ScOutIdeal.Gen.facts) (hScOutRefIdeal := Gen.facts) := by
  intro m g m' g' _ hm
  refine ⟨fun c => product (m ((c : Thread Cert.ScOutIdeal.nD Cert.ScOutIdeal.τ).loc Cert.ScOutIdeal.main_arg0))
      (m ((c : Thread Cert.ScOutIdeal.nD Cert.ScOutIdeal.τ).loc Cert.ScOutIdeal.main_arg1))
      (m ((c : Thread Cert.ScOutIdeal.nD Cert.ScOutIdeal.τ).loc Cert.ScOutIdeal.main_arg2))
      (m ((c : Thread Cert.ScOutIdeal.nD Cert.ScOutIdeal.τ).loc Cert.ScOutIdeal.main_arg3)),
    (θ_run _ _ _).mono (fun r h c => ⟨(h c).1.trans (Cert.ScOutIdeal.RefValue.final m c), (h c).2⟩) (Cert.ScOutIdeal.Value.run_blocks m g),
    (θ_run _ _ _).mono (fun r h c => ⟨(h c).1.trans ((Read.val_main_v29_eq _ _ _ _).trans ?_), (h c).2⟩) (Value.run m' g')⟩
  rw [result, (hm c).1, (hm c).2.1, (hm c).2.2.1, (hm c).2.2.2]

end Cert.ScOutRefIdeal.RefValue

end
-- ==== Proof.HyOut.lean ====
/-
  The product that ends the Hyena layer: its left operand `x0 * (y + v * skip)`, kept in scratch over the column blocks of a row block.
-/
module

public import proofs.«01_k».proof.Defs
public import proofs.«01_k».proof.Proof.Gen.HyOutIdeal.Value
public import proofs.«01_k».proof.Proof.Gen.HyOutRefIdeal.Run
public import proofs.«01_k».proof.Proof.Gen.HyOutRefIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pipeline.Covers
public import Idealize.ShloMosaic.Lib.Pointwise

@[expose] public section

set_option maxRecDepth 16384

noncomputable section

namespace Cert.HyOutIdeal.RefValue

open Cert.HyOutIdeal Cert.HyOutIdeal.Gen Idealize.ShloMosaic Idealize.ShloMosaic.TcCoe Idealize.SL.Sem
open Idealize.ShloMosaic.Pipeline (Dat)

section
variable (c : Dev nD) (i : grid0.Coords) (arg3 : Memref sig .tc .vmem S512x4096 .bf16) (harg3 : arg3.IsWhole)
  (arg4 : Memref sig .tc .vmem S512x4096 .bf16) (harg4 : arg4.IsWhole) (arg5 : Memref sig .tc .vmem S512x4096 .bf16)
  (harg5 : arg5.IsWhole) (arg6 : Memref sig .tc .vmem S16x4096 .bf16) (harg6 : arg6.IsWhole)
  (arg7 : Memref sig .tc .vmem S1x4096x512 .bf16) (harg7 : arg7.IsWhole) (arg8 : Memref sig .tc .vmem S512x512 .bf16)
  (harg8 : arg8.IsWhole) (arg9 : Memref sig .tc .vmem S512x4096 .bf16) (harg9 : arg9.IsWhole)
  (x0 x1 x2 : Vec Ideal S512x4096 .bf16) (x3 : Vec Ideal S16x4096 .bf16) (x4 : Vec Ideal S1x4096x512 .bf16)
  (xs0 : Vec Ideal S512x4096 .bf16)

/-- A block's gated rows. -/
def gatedBlock (y : S512x4096.Idx) : EReal := x0 y * (x1 y + x2 y * x3 (ix2 0 (y 1)))

/-- The first point of a row block leaves the gated rows in scratch. -/
theorem stored (hc0 : cond0_0 i) (y : S512x4096.Idx) :
    sout0_A_0 (F := Ideal) c i arg3 harg3 arg4 harg4 arg5 harg5 arg6 harg6 arg7 harg7 arg8 harg8 arg9 harg9 hc0 x0 x1 x2 x3 x4 y
      = gatedBlock x0 x1 x2 x3 y := by
  frame_out
  obtain ⟨y0, y1, rfl⟩ : ∃ (a : Fin 512) (b : Fin 4096), y = ix2 a b := ⟨y 0, y 1, by funext a; fin_cases a <;> rfl⟩
  canon_tiles x h
  all_goals
    obtain ⟨v, hv⟩ := y1
    obtain ⟨u, hu⟩ := y0
    dsimp only [ix2_0, ix2_1] at h0 h1
    subst h0 h1
    unfold_payloads
    pointwise [gatedBlock]

/-- The payload stored in the result's block is the product of what is read from scratch and the columns. -/
theorem pay_product (Z : Vec Ideal S512x4096 .bf16) (x4 : Vec Ideal S1x4096x512 .bf16) (y : S512x512.Idx) :
    k0_pay2 (F := Ideal) (fun j => Z ((Rect.unit (s := S512x4096) ![0, 0] S512x4096.size inb_S512x4096_S512x4096_0_0).toLoadRect.idx j)) x4 y
      = ∑ k : Fin 4096, Z (ix2 (y 0) k) * x4 (ix3 0 k (y 1)) := by
  obtain ⟨y0, y1, rfl⟩ : ∃ (a : Fin 512) (b : Fin 512), y = ix2 a b := ⟨y 0, y 1, by funext a; fin_cases a <;> rfl⟩
  pointwise [k0_pay2]

/-- The first point of a row block writes the product of the gated rows. -/
theorem out_first (hc0 : cond0_0 i) (y : S512x512.Idx) :
    out0_A_5 (F := Ideal) c i arg3 harg3 arg4 harg4 arg5 harg5 arg6 harg6 arg7 harg7 arg8 harg8 arg9 harg9 hc0 x0 x1 x2 x3 x4 y
      = ∑ k : Fin 4096, gatedBlock x0 x1 x2 x3 (ix2 (y 0) k) * x4 (ix3 0 k (y 1)) := by
  have e := fun k : Fin 4096 =>
    stored c i arg3 harg3 arg4 harg4 arg5 harg5 arg6 harg6 arg7 harg7 arg8 harg8 arg9 harg9 x0 x1 x2 x3 x4 hc0 (ix2 (y 0) k)
  simp only [← e]
  clear e
  frame_out
  rw [View.readCov_eq_canon']
  exact pay_product _ x4 y

/-- The other points write the product of the rows they find in scratch. -/
theorem out_next (hc0 : ¬cond0_0 i) (y : S512x512.Idx) :
    out0_B_5 (F := Ideal) c i arg3 harg3 arg4 harg4 arg5 harg5 arg6 harg6 arg7 harg7 arg8 harg8 arg9 harg9 hc0 x0 x1 x2 x3 x4 xs0 y
      = ∑ k : Fin 4096, xs0 (ix2 (y 0) k) * x4 (ix3 0 k (y 1)) := by
  frame_out
  obtain ⟨y0, y1, rfl⟩ : ∃ (a : Fin 512) (b : Fin 512), y = ix2 a b := ⟨y 0, y 1, by funext a; fin_cases a <;> rfl⟩
  pointwise [k0_pay2]

end

variable (m : (ℓ : Loc nD τ sig) → Buf (Elt Ideal) ℓ) (c : Dev nD)

/-- The gated rows: `x0 * (y + v * skip)`. -/
def gatedRows (x0 y v : FVec Ideal S16384x4096 .bf16) (s : FVec Ideal S1x4096 .f32) (i : S16384x4096.Idx) : EReal :=
  x0 i * (y i + v i * s (ix2 0 (i 1)))

/-- The product of the gated rows: element `(r, l)` is the sum over `k` of `x0 * (y + v * skip)` at `(r, k)` times `w (0, k, l)`. -/
def product (x0 y v : FVec Ideal S16384x4096 .bf16) (s : FVec Ideal S1x4096 .f32) (w : FVec Ideal S1x4096x4096 .f32) :
    FVec Ideal S16384x4096 .bf16 :=
  fun i => ∑ k : Fin 4096, gatedRows x0 y v s (ix2 (i 0) k) * w (ix3 0 k (i 1))

/-- Which block each window stages at grid point `t`. -/
theorem index_at : ∀ t : Fin grid0.N,
    win0_0.index t = ![t.val / 8, 0] ∧ win0_1.index t = ![t.val / 8, 0] ∧ win0_2.index t = ![t.val / 8, 0]
      ∧ win0_3.index t = ![0, 0] ∧ win0_4.index t = ![0, 0, t.val % 8] ∧ win0_5.index t = ![t.val / 8, t.val % 8] := by
  decide +kernel

/-- The grid has 256 points. -/
theorem points (t : Fin cfg0.N) : t.val < 256 := lt_of_lt_of_eq t.isLt (show cfg0.N = 256 from N_0)

/-- The gated rows of point `t`'s block. -/
def rows (t : Fin cfg0.N) : S512x4096.Idx → EReal :=
  gatedBlock (iblk m c 0 t) (iblk m c 1 t) (iblk m c 2 t) (iblk m c 3 t)

/-- The gated rows of a point's block are those of the arrays. -/
theorem rows_at (t : Fin cfg0.N) (r : Fin 512) (k : Fin 4096) :
    rows m c t (ix2 r k) = gatedRows (m ((c : Thread nD τ).loc main_arg0)) (m ((c : Thread nD τ).loc main_arg1))
      (m ((c : Thread nD τ).loc main_arg2)) (m ((c : Thread nD τ).loc main_arg3))
      (ix2 ⟨512 * (t.val / 8) + r, by have := points t; omega⟩ k) := by
  have := points t
  pointwise [rows, gatedBlock, gatedRows]
  blk_point [iblk, V, index_at t]

/-- After every point the scratch holds the gated rows of the first point of its row block. -/
theorem kept (t : Fin cfg0.N) (y : S512x4096.Idx) :
    (outsAt0 m c t.val t.isLt).2 y = rows m c ⟨8 * (t.val / 8), Pipeline.run_start_lt t⟩ y :=
  Pipeline.eq_of_write_hold_apply (fun n h => (outsAt0 m c n h).2) 8 (rows m c)
    (fun t h0 y => by
      rw [outsAt0_A m c t h0]
      dsimp only
      exact stored c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) ((hcond0_0 t).mpr h0) y)
    (fun t h0 y => by
      rw [outsAt0_B m c t h0]
      dsimp only
      exact rfl) t y

/-- Every point writes its block of the product. -/
theorem written (t : Fin cfg0.N) (y : S512x512.Idx) : (outsAt0 m c t.val t.isLt).1 y
    = ∑ k : Fin 4096, rows m c ⟨8 * (t.val / 8), Pipeline.run_start_lt t⟩ (ix2 (y 0) k) * iblk m c 4 t (ix3 0 k (y 1)) := by
  by_cases h0 : t.val % 8 = 0
  · have e : (⟨8 * (t.val / 8), Pipeline.run_start_lt t⟩ : Fin cfg0.N) = t := Fin.ext (show 8 * (t.val / 8) = t.val by omega)
    rw [e, outsAt0_A m c t h0]
    dsimp only
    exact out_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) ((hcond0_0 t).mpr h0) y
  · have e : (⟨8 * (t.val / 8), Pipeline.run_start_lt t⟩ : Fin cfg0.N)
        = ⟨8 * ((t.val - 1) / 8), Pipeline.run_start_lt (⟨t.val - 1, Nat.lt_of_le_of_lt (Nat.sub_le _ _) t.isLt⟩ : Fin cfg0.N)⟩ :=
      Fin.ext (show 8 * (t.val / 8) = 8 * ((t.val - 1) / 8) by omega)
    rw [e]
    simp only [← kept m c (⟨t.val - 1, Nat.lt_of_le_of_lt (Nat.sub_le _ _) t.isLt⟩ : Fin cfg0.N)]
    rw [outsAt0_B m c t h0]
    dsimp only
    exact out_next c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (outsAt0 m c (t.val - 1) (Nat.lt_of_le_of_lt (Nat.sub_le _ _) t.isLt)).2 (fun h => h0 ((hcond0_0 t).mp h)) y

/-- Every block of the result is some point's. -/
theorem covers : (cfg0.win 5).Covers :=
  (cfg0.win 5).covers_of_index_surj rfl (by decide) fun β => by
    have h0 : (β (0 : Fin 2)).val < 32 := lt_of_lt_of_eq (β (0 : Fin 2)).isLt (by decide : (cfg0.win 5).nblk (0 : Fin 2) = 32)
    have h1 : (β (1 : Fin 2)).val < 8 := lt_of_lt_of_eq (β (1 : Fin 2)).isLt (by decide : (cfg0.win 5).nblk (1 : Fin 2) = 8)
    refine ⟨⟨8 * (β (0 : Fin 2)).val + (β (1 : Fin 2)).val, lt_of_lt_of_eq (by omega) (show 256 = cfg0.N from N_0.symm)⟩, fun a => ?_⟩
    refine (congrFun (index_at _).2.2.2.2.2 a).trans ?_
    match a with
    | (0 : Fin 2) => show (8 * (β (0 : Fin 2)).val + (β (1 : Fin 2)).val) / 8 = _; omega
    | (1 : Fin 2) => show (8 * (β (0 : Fin 2)).val + (β (1 : Fin 2)).val) % 8 = _; omega

/-- The kernel's result array ends holding the product of the gated rows. -/
theorem final : (dats m 0 c).arrAt 5 cfg0.N
    = product (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ covers fun t hf y => ?_
  have ht := points t
  obtain ⟨r, l, rfl⟩ : ∃ (a : Fin 512) (b : Fin 512), y = ix2 a b := ⟨y 0, y 1, by funext a; fin_cases a <;> rfl⟩
  rw [after0_5]
  refine (written m c t (ix2 r l)).trans ?_
  have e : ∀ k : Fin 4096, rows m c ⟨8 * (t.val / 8), Pipeline.run_start_lt t⟩ (ix2 r k)
      = gatedRows (m ((c : Thread nD τ).loc main_arg0)) (m ((c : Thread nD τ).loc main_arg1))
        (m ((c : Thread nD τ).loc main_arg2)) (m ((c : Thread nD τ).loc main_arg3))
        (ix2 ⟨512 * (t.val / 8) + r, by omega⟩ k) := fun k =>
    (rows_at m c ⟨8 * (t.val / 8), Pipeline.run_start_lt t⟩ r k).trans
      (congrArg (fun i : Fin 16384 => gatedRows (m ((c : Thread nD τ).loc main_arg0)) (m ((c : Thread nD τ).loc main_arg1))
        (m ((c : Thread nD τ).loc main_arg2)) (m ((c : Thread nD τ).loc main_arg3)) (ix2 i k))
        (Fin.ext (show 512 * (8 * (t.val / 8) / 8) + r.val = 512 * (t.val / 8) + r.val by omega)))
  refine (Finset.sum_congr rfl fun k _ => congrArg (· * _) (e k)).trans ?_
  pointwise [product, gatedRows]
  blk_point [iblk, V, index_at t]

end Cert.HyOutIdeal.RefValue

namespace Cert.HyOutRefIdeal.RefValue

open Cert.HyOutRefIdeal Cert.HyOutRefIdeal.Gen Idealize.ShloMosaic Idealize.ShloMosaic.TcCoe Idealize.SL.Sem

/-- The reference's result is the product of the gated rows. -/
theorem result (x0 y v : FVec Ideal S16384x4096 .bf16) (s : FVec Ideal S1x4096 .f32) (w : FVec Ideal S1x4096x4096 .f32) :
    Read.val_main_v11 (F := Ideal) x0 y v s w = Cert.HyOutIdeal.RefValue.product x0 y v s w := by
  funext i
  idx_vars i
  pointwise [Read.val_main_v11, Read.val_main_v10, Read.val_main_v9, Read.val_main_v8, Read.val_main_v7, Read.val_main_v6,
    Read.val_main_v5, Read.val_main_v4, Read.val_main_v3, Read.val_main_v2, Read.val_main_v1, Read.val_main_v0,
    Cert.HyOutIdeal.RefValue.product, Cert.HyOutIdeal.RefValue.gatedRows]

/-- From memories that agree on the arguments, the kernel's run and the reference's end with the same result array, the product
    of the gated rows, and leave the arguments as they were. -/
theorem equation : Cert.algebraic_HyOutIdeal_HyOutRefIdeal (hHyOutIdeal := Cert.HyOutIdeal.Gen.facts) (hHyOutRefIdeal := Gen.facts) := by
  intro m g m' g' _ hm
  refine ⟨fun c => Cert.HyOutIdeal.RefValue.product (m ((c : Thread Cert.HyOutIdeal.nD Cert.HyOutIdeal.τ).loc Cert.HyOutIdeal.main_arg0))
      (m ((c : Thread Cert.HyOutIdeal.nD Cert.HyOutIdeal.τ).loc Cert.HyOutIdeal.main_arg1))
      (m ((c : Thread Cert.HyOutIdeal.nD Cert.HyOutIdeal.τ).loc Cert.HyOutIdeal.main_arg2))
      (m ((c : Thread Cert.HyOutIdeal.nD Cert.HyOutIdeal.τ).loc Cert.HyOutIdeal.main_arg3))
      (m ((c : Thread Cert.HyOutIdeal.nD Cert.HyOutIdeal.τ).loc Cert.HyOutIdeal.main_arg4)),
    (θ_run _ _ _).mono (fun r h c => ⟨(h c).1.trans (Cert.HyOutIdeal.RefValue.final m c), (h c).2⟩) (Cert.HyOutIdeal.Value.run_blocks m g),
    (θ_run _ _ _).mono (fun r h c => ⟨(h c).1.trans ((Read.val_main_v11_eq _ _ _ _ _).trans ?_), (h c).2⟩) (Value.run m' g')⟩
  rw [result, (hm c).1, (hm c).2.1, (hm c).2.2.1, (hm c).2.2.2.1, (hm c).2.2.2.2]

end Cert.HyOutRefIdeal.RefValue

end
-- ==== Proof.QDown.lean ====
/-
  The query latents (`rmsnorm(h @ w_down) * gain`): what the kernel's result array holds after its run, what the
  reference's holds, and that they are one array, element for element, over the extended reals.
-/
module

public import proofs.«01_k».proof.Defs
public import proofs.«01_k».proof.Proof.Gen.QDownIdeal.Value
public import proofs.«01_k».proof.Proof.Gen.QDownRefIdeal.Run
public import proofs.«01_k».proof.Proof.Gen.QDownRefIdeal.Read
public import Idealize.ShloMosaic.Lib.Pipeline.ValueKit
public import Idealize.ShloMosaic.Lib.Pointwise

@[expose] public section

set_option maxRecDepth 16384

noncomputable section

namespace Cert.QDownIdeal.RefValue

open Cert.QDownIdeal Cert.QDownIdeal.Gen Idealize.ShloMosaic Idealize.ShloMosaic.TcCoe Idealize.SL.Sem
open Idealize.ShloMosaic.Pipeline (Dat)

variable (m : (ℓ : Loc nD τ sig) → Buf (Elt Ideal) ℓ)

/-- The projection to the 1024 query latents: the sum over `k` of `x (r, k) * w (0, k, l)`. -/
def projected (x : FVec Ideal S16384x4096 .bf16) (w : FVec Ideal S1x4096x1600 .f32) (r : Fin 16384) (l : Fin 1024) : EReal :=
  ∑ k : Fin 4096, x (ix2 r k) * w (ix3 0 k ⟨l.val, by omega⟩)

/-- The latents: each row's projection, divided by the root of the mean of its squares plus the small constant, times the gain. -/
def latents (x : FVec Ideal S16384x4096 .bf16) (w : FVec Ideal S1x4096x1600 .f32) (g : FVec Ideal S1x1024 .f32) :
    FVec Ideal S16384x1024 .bf16 := fun i =>
  projected x w (i 0) (i 1)
    * Ideal.rsqrt (Ideal.div (∑ l : Fin 1024, projected x w (i 0) l * projected x w (i 0) l) (Ideal.ofBits .f32 0x44800000#32)
      + Ideal.ofBits .f32 0x358637BD#32)
    * g (ix2 0 (i 1))

/-- Which block each window stages at grid point `t`: the rows' block, all weights, the gain and the rows' block. -/
theorem index_at : ∀ t : Fin grid0.N,
    win0_0.index t = ![(grid0.coords t 0).val, 0] ∧ win0_1.index t = ![0, 0] ∧ win0_2.index t = ![0, 0]
      ∧ win0_3.index t = ![(grid0.coords t 0).val, 0] := by decide +kernel

/-- The kernel's result array ends holding the latents. -/
theorem final (c : Dev nD) : (dats m 0 c).arrAt 3 cfg0.N
    = latents (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  pointwise [k0_pay1, latents, projected]
  blk_point [iblk, V, index_at t]

end Cert.QDownIdeal.RefValue

namespace Cert.QDownRefIdeal.RefValue

open Cert.QDownRefIdeal Cert.QDownRefIdeal.Gen Idealize.ShloMosaic Idealize.ShloMosaic.TcCoe Idealize.SL.Sem

/-- The reference's result is the latents. -/
theorem result (x : FVec Ideal S16384x4096 .bf16) (w : FVec Ideal S1x4096x1600 .f32) (g : FVec Ideal S1x1024 .f32) :
    Read.val_main_v18 (F := Ideal) x w g = Cert.QDownIdeal.RefValue.latents x w g := by
  funext i
  idx_vars i
  pointwise [Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0,
    Read.val_main_cst, Read.val_main_cst_0, Read.val_main_cst_1, Cert.QDownIdeal.RefValue.latents,
    Cert.QDownIdeal.RefValue.projected]

/-- From memories that agree on the arguments, the kernel's run and the reference's end with the same result array, the
    latents of the arguments, and leave the arguments as they were. -/
theorem equation : Cert.algebraic_QDownIdeal_QDownRefIdeal (hQDownIdeal := Cert.QDownIdeal.Gen.facts) (hQDownRefIdeal := Gen.facts) := by
  intro m g m' g' _ hm
  refine ⟨fun c => Cert.QDownIdeal.RefValue.latents (m ((c : Thread Cert.QDownIdeal.nD Cert.QDownIdeal.τ).loc Cert.QDownIdeal.main_arg0))
      (m ((c : Thread Cert.QDownIdeal.nD Cert.QDownIdeal.τ).loc Cert.QDownIdeal.main_arg1))
      (m ((c : Thread Cert.QDownIdeal.nD Cert.QDownIdeal.τ).loc Cert.QDownIdeal.main_arg2)),
    (θ_run _ _ _).mono (fun r h c => ⟨(h c).1.trans (Cert.QDownIdeal.RefValue.final m c), (h c).2⟩) (Cert.QDownIdeal.Value.run_blocks m g),
    (θ_run _ _ _).mono (fun r h c => ⟨(h c).1.trans ((Read.val_main_v18_eq _ _ _).trans ?_), (h c).2⟩) (Value.run m' g')⟩
  rw [result, (hm c).1, (hm c).2.1, (hm c).2.2]

end Cert.QDownRefIdeal.RefValue

end
-- ==== Proof.KvDown.lean ====
/-
  The key-value latents and the rotated key features (`h @ w_down`, one part normalised, the other rotated): what the
  kernel's two result arrays hold after its run, what the reference's hold, and that they are the same arrays, element for
  element, over the extended reals.
-/
module

public import proofs.«01_k».proof.Defs
public import proofs.«01_k».proof.Proof.Gen.KvDownIdeal.Value
public import proofs.«01_k».proof.Proof.Gen.KvDownRefIdeal.Run
public import proofs.«01_k».proof.Proof.Gen.KvDownRefIdeal.Read
public import Idealize.ShloMosaic.Lib.Pipeline.ValueKit
public import Idealize.ShloMosaic.Lib.StableHlo.RunRead
public import Idealize.ShloMosaic.Lib.Pointwise

@[expose] public section

set_option maxRecDepth 16384

noncomputable section

namespace Cert.KvDownIdeal.RefValue

open Cert.KvDownIdeal Cert.KvDownIdeal.Gen Idealize.ShloMosaic Idealize.ShloMosaic.TcCoe Idealize.SL.Sem
open Idealize.ShloMosaic.Pipeline (Dat)

variable (m : (ℓ : Loc nD τ sig) → Buf (Elt Ideal) ℓ)

/-- Column `l` of the projection past the query latents: the sum over `k` of `x (r, k) * w (0, k, 1024 + l)`. -/
def projected (x : FVec Ideal S16384x4096 .bf16) (w : FVec Ideal S1x4096x1600 .f32) (r : Fin 16384) (l : Fin 576) : EReal :=
  ∑ k : Fin 4096, x (ix2 r k) * w (ix3 0 k ⟨1024 + l.val, by omega⟩)

/-- The latents: the first 512 columns of a row, divided by the root of the mean of their squares plus the small constant,
    times the gain. -/
def latents (x : FVec Ideal S16384x4096 .bf16) (w : FVec Ideal S1x4096x1600 .f32) (g : FVec Ideal S1x512 .f32) :
    FVec Ideal S16384x512 .bf16 := fun i =>
  projected x w (i 0) ⟨(i 1).val, by have := (i 1).isLt; simp at this; omega⟩
    * Ideal.rsqrt (Ideal.div (∑ l : Fin 512, projected x w (i 0) ⟨l.val, by omega⟩ * projected x w (i 0) ⟨l.val, by omega⟩)
        (Ideal.ofBits .f32 0x44000000#32) + Ideal.ofBits .f32 0x358637BD#32)
    * g (ix2 0 (i 1))

/-- Feature `f` of quarter `s` of a row's rotated features: the first halves of the two axes' features, then the second. -/
def quarter (x : FVec Ideal S16384x4096 .bf16) (w : FVec Ideal S1x4096x1600 .f32)
    (cr sr cc sc : FVec Ideal S16384x16 .f32) (r : Fin 16384) (s : Fin 4) (f : Fin 16) : EReal :=
  match s with
  | 0 => projected x w r ⟨512 + f.val, by omega⟩ * cr (ix2 r f) - projected x w r ⟨512 + (16 + f.val), by omega⟩ * sr (ix2 r f)
  | 1 => projected x w r ⟨512 + (32 + f.val), by omega⟩ * cc (ix2 r f) - projected x w r ⟨512 + (32 + (16 + f.val)), by omega⟩ * sc (ix2 r f)
  | 2 => projected x w r ⟨512 + (16 + f.val), by omega⟩ * cr (ix2 r f) + projected x w r ⟨512 + f.val, by omega⟩ * sr (ix2 r f)
  | 3 => projected x w r ⟨512 + (32 + (16 + f.val)), by omega⟩ * cc (ix2 r f) + projected x w r ⟨512 + (32 + f.val), by omega⟩ * sc (ix2 r f)

/-- The rotated features, the four quarters twice. -/
def rotated (x : FVec Ideal S16384x4096 .bf16) (w : FVec Ideal S1x4096x1600 .f32)
    (cr sr cc sc : FVec Ideal S16384x16 .f32) : FVec Ideal S16384x128 .bf16 := fun i =>
  quarter x w cr sr cc sc (i 0) ⟨(i 1).val / 16 % 4, by omega⟩ ⟨(i 1).val % 16, by omega⟩

/-- The product's payload at row `r` and column `l`. -/
theorem pay1_at (a : Vec Ideal S1024x4096 .bf16) (b : Vec Ideal S4096x640 .bf16) (r : Fin 1024) (l : Fin 640) :
    k0_pay1 (F := Ideal) a b (ix2 r l) = ∑ k : Fin 4096, a (ix2 r k) * b (ix2 k l) := by
  pointwise [k0_pay1]

/-- The first result's payload at row `r` and column `l`: the product's first 512 columns, normalised, times the gain. -/
theorem pay2_at (a : Vec Ideal S1024x4096 .bf16) (b : Vec Ideal S4096x640 .bf16) (g : Vec Ideal S1x512 .f32) (r : Fin 1024)
    (l : Fin 512) :
    k0_pay2 (F := Ideal) a b g (ix2 r l) = k0_pay1 (F := Ideal) a b (ix2 r ⟨l.val, by omega⟩)
      * Ideal.rsqrt (Ideal.div (∑ j : Fin 512, k0_pay1 (F := Ideal) a b (ix2 r ⟨j.val, by omega⟩)
            * k0_pay1 (F := Ideal) a b (ix2 r ⟨j.val, by omega⟩)) (Ideal.ofBits .f32 0x44000000#32)
          + Ideal.ofBits .f32 0x358637BD#32) * g (ix2 0 l) := by
  pointwise [k0_pay2]

/-- The second result's payload at row `r` and column `l`: the product's last 128 columns times the table, there and half the
    columns further on. -/
theorem pay3_at (a : Vec Ideal S1024x4096 .bf16) (b : Vec Ideal S4096x640 .bf16) (u : Vec Ideal S1024x128 .f32) (r : Fin 1024)
    (l : Fin 128) :
    k0_pay3 (F := Ideal) a b u (ix2 r l)
      = k0_pay1 (F := Ideal) a b (ix2 r ⟨512 + l.val, by omega⟩) * u (ix2 r l)
        + k0_pay1 (F := Ideal) a b (ix2 r ⟨512 + (l.val + 128 - 64) % 128, by omega⟩) * u (ix2 r ⟨(l.val + 128 - 64) % 128, by omega⟩) := by
  pointwise [k0_pay3]

/-- Which block each window stages at grid point `t`: the rows' blocks, all weights and the gain. -/
theorem index_at : ∀ t : Fin grid0.N,
    win0_0.index t = ![t.val, 0] ∧ win0_1.index t = ![0, 0] ∧ win0_2.index t = ![0, 0] ∧ win0_3.index t = ![t.val, 0]
      ∧ win0_4.index t = ![t.val, 0] ∧ win0_5.index t = ![t.val, 0] := by decide +kernel

/-- Two tables of 16 columns side by side. -/
def beside (a b : FVec Ideal S16384x16 .f32) : FVec Ideal S16384x32 .f32 :=
  concatenate S16384x32 1 [⟨S16384x16, a⟩, ⟨S16384x16, b⟩] concatenates_S16384x16_S16384x16_S16384x32_d1

/-- The host's table: the cosines twice, the sines negated, the sines. -/
def table (u v : FVec Ideal S16384x32 .f32) : FVec Ideal S16384x128 .f32 :=
  concatenate S16384x128 1 [⟨S16384x32, u⟩, ⟨S16384x32, u⟩, ⟨S16384x32, (Host.negf v :
      FVec Ideal S16384x32 .f32)⟩, ⟨S16384x32, v⟩]
    concatenates_S16384x32_S16384x32_S16384x32_S16384x32_S16384x128_d1

/-- The two halves of a pair of tables. -/
theorem beside_at (a b : FVec Ideal S16384x16 .f32) (r : Fin 16384) (f : Fin 16) :
    beside a b (ix2 r ⟨f.val, by omega⟩) = a (ix2 r f) ∧ beside a b (ix2 r ⟨16 + f.val, by omega⟩) = b (ix2 r f) := by
  constructor <;> pointwise [beside]

/-- The four parts of the host's table. -/
theorem table_at (u v : FVec Ideal S16384x32 .f32) (r : Fin 16384) (f : Fin 32) :
    table u v (ix2 r ⟨f.val, by omega⟩) = u (ix2 r f) ∧ table u v (ix2 r ⟨32 + f.val, by omega⟩) = u (ix2 r f)
      ∧ table u v (ix2 r ⟨64 + f.val, by omega⟩) = -v (ix2 r f) ∧ table u v (ix2 r ⟨96 + f.val, by omega⟩) = v (ix2 r f) := by
  refine ⟨?_, ?_, ?_, ?_⟩ <;> pointwise [table]
  · rw [dif_neg (by omega), dif_neg (by omega), dif_pos (by omega)]
    exact congrArg (fun j => -v (ix2 r j)) (Fin.ext (show 64 + f.val - 32 - 32 = f.val by omega))
  · rw [dif_neg (by omega), dif_neg (by omega), dif_neg (by omega)]
    exact congrArg (fun j => v (ix2 r j)) (Fin.ext (show 96 + f.val - 32 - 32 - 32 = f.val by omega))

/-- The host's cosines. -/
theorem cosines_eq (c : Dev nD) : V m c main_v2
    = beside (m ((c : Thread nD τ).loc main_arg3)) (m ((c : Thread nD τ).loc main_arg5)) := by
  entry_read
  rfl

/-- The host's sines. -/
theorem sines_eq (c : Dev nD) : V m c main_v3
    = beside (m ((c : Thread nD τ).loc main_arg4)) (m ((c : Thread nD τ).loc main_arg6)) := by
  entry_read
  rfl

/-- The host's negated sines. -/
theorem negated_eq (c : Dev nD) : V m c main_v4 = (Host.negf (beside (m ((c : Thread nD τ).loc main_arg4))
    (m ((c : Thread nD τ).loc main_arg6))) : FVec Ideal S16384x32 .f32) := by
  entry_read
  rfl

/-- The table the kernel is given. -/
theorem table_eq (c : Dev nD) : V m c main_v5 = table (V m c main_v2) (V m c main_v3) := by
  have e (r : Ref sig .tc) (hr : r ∉ [main_v6, main_v7, main_v8, main_v9, main_v10, main_v11, main_v12, main_v13, main_v14,
      main_v15, main_v16, main_v17]) :=
    StableHlo.after_last_write (ops := hostOps0 (F := Ideal)) (i := 5) _ (r := r) rfl rfl hr (fun b => m (c, b))
  have h (r : Ref sig .tc) (hr : r ∉ [main_v6, main_v7, main_v8, main_v9, main_v10, main_v11, main_v12, main_v13, main_v14,
      main_v15, main_v16, main_v17]) (hr' : r ≠ main_v5) :
      StableHlo.upto (hostOps0 (F := Ideal)) (fun b => m (c, b)) 5 r = V m c r :=
    ((e r hr).trans (StableHlo.nary_result_ne (h := hr') ..)).symm
  refine (e main_v5 (by decide)).trans ?_
  rw [StableHlo.nary_result, ← h main_v2 (by decide) (by decide), ← h main_v3 (by decide) (by decide)]
  have n := negated_eq m c
  rw [← sines_eq] at n
  rw [← h main_v4 (by decide) (by decide), ← h main_v3 (by decide) (by decide)] at n
  unfold table
  rw [← n]
  rfl

/-- The weights' last 64 columns, those of the rotated features. -/
def ropeWeights (w : FVec Ideal S1x4096x1600 .f32) : FVec Ideal S4096x64 .f32 :=
  extractStridedSlice S4096x64 ![0, 1536] (shapeCast S4096x1600 w shapeCasts_S1x4096x1600_S4096x1600)
    slices_S4096x1600_S4096x64_0_1536

/-- Of those the first half of each axis' features. -/
def firsts (w : FVec Ideal S4096x64 .f32) : FVec Ideal S4096x32 .f32 :=
  concatenate S4096x32 1 [⟨S4096x16, extractStridedSlice S4096x16 ![0, 0] w slices_S4096x64_S4096x16_0_0⟩,
    ⟨S4096x16, extractStridedSlice S4096x16 ![0, 32] w slices_S4096x64_S4096x16_0_32⟩] concatenates_S4096x16_S4096x16_S4096x32_d1

/-- Of those the second half of each axis' features. -/
def seconds (w : FVec Ideal S4096x64 .f32) : FVec Ideal S4096x32 .f32 :=
  concatenate S4096x32 1 [⟨S4096x16, extractStridedSlice S4096x16 ![0, 16] w slices_S4096x64_S4096x16_0_16⟩,
    ⟨S4096x16, extractStridedSlice S4096x16 ![0, 48] w slices_S4096x64_S4096x16_0_48⟩] concatenates_S4096x16_S4096x16_S4096x32_d1

/-- The first halves, the second halves twice, the first halves. -/
def fourfold (a b : FVec Ideal S4096x32 .f32) : FVec Ideal S4096x128 .f32 :=
  concatenate S4096x128 1 [⟨S4096x32, a⟩, ⟨S4096x32, b⟩, ⟨S4096x32, b⟩, ⟨S4096x32, a⟩]
    concatenates_S4096x32_S4096x32_S4096x32_S4096x32_S4096x128_d1

/-- The host's weights: the latents' columns, then the rotated features' in the kernel's order. -/
def weights (w : FVec Ideal S1x4096x1600 .f32) (d : FVec Ideal S4096x128 .f32) : FVec Ideal S4096x640 .bf16 :=
  truncf .bf16 (concatenate S4096x640 1 [⟨S4096x512, extractStridedSlice S4096x512 ![0, 1024]
    (shapeCast S4096x1600 w shapeCasts_S1x4096x1600_S4096x1600) slices_S4096x1600_S4096x512_0_1024⟩, ⟨S4096x128, d⟩]
    concatenates_S4096x512_S4096x128_S4096x640_d1 : FVec Ideal S4096x640 .f32) bitsLt_bf16_f32

/-- A column of the rotated features' weights is that column of the argument. -/
theorem ropeWeights_at (w : FVec Ideal S1x4096x1600 .f32) (k : Fin 4096) (l : Fin 64) :
    ropeWeights w (ix2 k l) = w (ix3 0 k ⟨1536 + l.val, by omega⟩) := by
  pointwise [ropeWeights]

/-- The first halves' columns. -/
theorem firsts_at (w : FVec Ideal S4096x64 .f32) (k : Fin 4096) (f : Fin 16) :
    firsts w (ix2 k ⟨f.val, by omega⟩) = w (ix2 k ⟨f.val, by omega⟩)
      ∧ firsts w (ix2 k ⟨16 + f.val, by omega⟩) = w (ix2 k ⟨32 + f.val, by omega⟩) := by
  constructor <;> pointwise [firsts]

/-- The second halves' columns. -/
theorem seconds_at (w : FVec Ideal S4096x64 .f32) (k : Fin 4096) (f : Fin 16) :
    seconds w (ix2 k ⟨f.val, by omega⟩) = w (ix2 k ⟨16 + f.val, by omega⟩)
      ∧ seconds w (ix2 k ⟨16 + f.val, by omega⟩) = w (ix2 k ⟨48 + f.val, by omega⟩) := by
  constructor <;> pointwise [seconds]

/-- The four parts of the rotated features' columns. -/
theorem fourfold_at (a b : FVec Ideal S4096x32 .f32) (k : Fin 4096) (f : Fin 32) :
    fourfold a b (ix2 k ⟨f.val, by omega⟩) = a (ix2 k f) ∧ fourfold a b (ix2 k ⟨32 + f.val, by omega⟩) = b (ix2 k f)
      ∧ fourfold a b (ix2 k ⟨64 + f.val, by omega⟩) = b (ix2 k f) ∧ fourfold a b (ix2 k ⟨96 + f.val, by omega⟩) = a (ix2 k f) :=
          by
  refine ⟨?_, ?_, ?_, ?_⟩ <;> pointwise [fourfold]
  · rw [dif_neg (by omega), dif_neg (by omega), dif_pos (by omega)]
    exact congrArg (fun j => b (ix2 k j)) (Fin.ext (show 64 + f.val - 32 - 32 = f.val by omega))
  · rw [dif_neg (by omega), dif_neg (by omega), dif_neg (by omega)]
    exact congrArg (fun j => a (ix2 k j)) (Fin.ext (show 96 + f.val - 32 - 32 - 32 = f.val by omega))

/-- The latents' columns of the host's weights. -/
theorem weights_latent (w : FVec Ideal S1x4096x1600 .f32) (d : FVec Ideal S4096x128 .f32) (k : Fin 4096) (l : Fin 512) :
    weights w d (ix2 k ⟨l.val, by omega⟩) = w (ix3 0 k ⟨1024 + l.val, by omega⟩) := by
  pointwise [weights]

/-- The rotated features' columns of the host's weights. -/
theorem weights_rope (w : FVec Ideal S1x4096x1600 .f32) (d : FVec Ideal S4096x128 .f32) (k : Fin 4096) (l : Fin 128) :
    weights w d (ix2 k ⟨512 + l.val, by omega⟩) = d (ix2 k l) := by
  pointwise [weights]

/-- The host's first halves. -/
theorem firsts_eq (c : Dev nD) : V m c main_v10 = firsts (ropeWeights (m ((c : Thread nD τ).loc main_arg1))) := by
  entry_read
  rfl

/-- The host's second halves. -/
theorem seconds_eq (c : Dev nD) : V m c main_v13 = seconds (ropeWeights (m ((c : Thread nD τ).loc main_arg1))) := by
  entry_read
  rfl

/-- The host's rotated features' columns. -/
theorem fourfold_eq (c : Dev nD) : V m c main_v14 = fourfold (V m c main_v10) (V m c main_v13) := by
  have e (r : Ref sig .tc) (hr : r ∉ [main_v15, main_v16, main_v17]) :=
    StableHlo.after_last_write (ops := hostOps0 (F := Ideal)) (i := 14) _ (r := r) rfl rfl hr (fun b => m (c, b))
  have h (r : Ref sig .tc) (hr : r ∉ [main_v15, main_v16, main_v17]) (hr' : r ≠ main_v14) :
      StableHlo.upto (hostOps0 (F := Ideal)) (fun b => m (c, b)) 14 r = V m c r :=
    ((e r hr).trans (StableHlo.nary_result_ne (h := hr') ..)).symm
  refine (e main_v14 (by decide)).trans ?_
  rw [StableHlo.nary_result, ← h main_v10 (by decide) (by decide), ← h main_v13 (by decide) (by decide)]
  rfl

/-- The host's latents' columns. -/
theorem sliced_eq (c : Dev nD) : V m c main_v6 = (extractStridedSlice S4096x512 ![0, 1024]
    (shapeCast S4096x1600 (m ((c : Thread nD τ).loc main_arg1)) shapeCasts_S1x4096x1600_S4096x1600)
    slices_S4096x1600_S4096x512_0_1024 : FVec Ideal S4096x512 .f32) := by
  entry_read
  rfl

/-- The weights the kernel is given. -/
theorem weights_eq (c : Dev nD) : V m c main_v16 = weights (m ((c : Thread nD τ).loc main_arg1)) (V m c main_v14) := by
  have e (r : Ref sig .tc) (hr : r ∉ [main_v16, main_v17]) :=
    StableHlo.after_last_write (ops := hostOps0 (F := Ideal)) (i := 15) _ (r := r) rfl rfl hr (fun b => m (c, b))
  have h (r : Ref sig .tc) (hr : r ∉ [main_v16, main_v17]) (hr' : r ≠ main_v15) :
      StableHlo.upto (hostOps0 (F := Ideal)) (fun b => m (c, b)) 15 r = V m c r :=
    ((e r hr).trans (StableHlo.binary_result_ne (h := hr') ..)).symm
  have e' (r : Ref sig .tc) (hr : r ∉ [main_v17]) :=
    StableHlo.after_last_write (ops := hostOps0 (F := Ideal)) (i := 16) _ (r := r) rfl rfl hr (fun b => m (c, b))
  have h' : StableHlo.upto (hostOps0 (F := Ideal)) (fun b => m (c, b)) 16 main_v15 = V m c main_v15 :=
    ((e' main_v15 (by decide)).trans (StableHlo.unary_result_ne (h := by decide) ..)).symm
  refine (e' main_v16 (by decide)).trans ?_
  rw [StableHlo.unary_result, h']
  unfold weights
  rw [← sliced_eq m c, ← h main_v6 (by decide) (by decide), ← h main_v14 (by decide) (by decide)]
  refine congrArg (fun d : FVec Ideal S4096x640 .f32 => (truncf .bf16 d bitsLt_bf16_f32 : FVec Ideal S4096x640 .bf16)) ?_
  exact (e main_v15 (by decide)).trans (StableHlo.binary_result _ _ _ _ _ _ _ _)

/-- The gain the kernel is given. -/
theorem gain_at (c : Dev nD) (l : Fin 512) :
    V m c main_v17 (ix2 0 l) = m ((c : Thread nD τ).loc main_arg2) (ix2 0 l) := by
  entry_read
  pointwise

/-- The eight products `projected * coefficient` that the rotation adds in pairs, in the kernel's order. -/
def term (x : FVec Ideal S16384x4096 .bf16) (w : FVec Ideal S1x4096x1600 .f32)
    (cr sr cc sc : FVec Ideal S16384x16 .f32) (r : Fin 16384) (s : Fin 8) (f : Fin 16) : EReal :=
  match s with
  | 0 => projected x w r ⟨512 + f.val, by omega⟩ * cr (ix2 r f)
  | 1 => projected x w r ⟨512 + (32 + f.val), by omega⟩ * cc (ix2 r f)
  | 2 => projected x w r ⟨512 + (16 + f.val), by omega⟩ * cr (ix2 r f)
  | 3 => projected x w r ⟨512 + (32 + (16 + f.val)), by omega⟩ * cc (ix2 r f)
  | 4 => projected x w r ⟨512 + (16 + f.val), by omega⟩ * -sr (ix2 r f)
  | 5 => projected x w r ⟨512 + (32 + (16 + f.val)), by omega⟩ * -sc (ix2 r f)
  | 6 => projected x w r ⟨512 + f.val, by omega⟩ * sr (ix2 r f)
  | 7 => projected x w r ⟨512 + (32 + f.val), by omega⟩ * sc (ix2 r f)

/-- Two of the products, four apart, add up to a rotated feature. -/
theorem term_add (x : FVec Ideal S16384x4096 .bf16) (w : FVec Ideal S1x4096x1600 .f32)
    (cr sr cc sc : FVec Ideal S16384x16 .f32) (r : Fin 16384) (s : Fin 8) (f : Fin 16) :
    term x w cr sr cc sc r s f + term x w cr sr cc sc r (s + 4) f = quarter x w cr sr cc sc r ⟨s.val % 4, by omega⟩ f := by
  have sub (a b : EReal) : a + -b = a - b := (sub_eq_add_neg a b).symm
  have sub' (a b : EReal) : -b + a = a - b := by rw [add_comm, sub]
  fin_cases s
  · show _ * _ + _ * -_ = _; rw [mul_neg, sub]; rfl
  · show _ * _ + _ * -_ = _; rw [mul_neg, sub]; rfl
  · rfl
  · rfl
  · show _ * -_ + _ * _ = _; rw [mul_neg, sub']; rfl
  · show _ * -_ + _ * _ = _; rw [mul_neg, sub']; rfl
  · exact add_comm _ _
  · exact add_comm _ _

/-- The product at grid point `t`, in a column whose weights are column `1024 + j` of the argument. -/
theorem product_at (c : Dev nD) (t : Fin cfg0.N) (r : Fin 1024) (l : Fin 640) (j : Fin 576) (q : Fin 16384)
    (hq : q.val = 1024 * t.val + r.val)
    (hw : ∀ k : Fin 4096, V m c main_v16 (ix2 k l) = m ((c : Thread nD τ).loc main_arg1) (ix3 0 k ⟨1024 + j.val, by omega⟩)) :
    k0_pay1 (F := Ideal) (iblk m c 0 t) (iblk m c 1 t) (ix2 r l) = projected (m ((c : Thread nD τ).loc main_arg0))
        (m ((c : Thread nD τ).loc main_arg1)) q j := by
  have hb (k : Fin 4096) : iblk m c 1 t (ix2 k l) = V m c main_v16 (ix2 k l) := by
    blk_point [iblk, index_at t]
  have ha (k : Fin 4096) : iblk m c 0 t (ix2 r k) = m ((c : Thread nD τ).loc main_arg0) (ix2 q k) := by
    obtain ⟨q, hlt⟩ := q
    obtain rfl : q = _ := hq
    blk_point [iblk, V_main_arg0, index_at t]
  rw [pay1_at]
  exact Finset.sum_congr rfl fun k _ => by rw [ha, hb, hw]

/-- The product's latent columns. -/
theorem product_latent (c : Dev nD) (t : Fin cfg0.N) (r : Fin 1024) (l : Fin 512) (q : Fin 16384)
    (hq : q.val = 1024 * t.val + r.val) :
    k0_pay1 (F := Ideal) (iblk m c 0 t) (iblk m c 1 t) (ix2 r ⟨l.val, by omega⟩)
      = projected (m ((c : Thread nD τ).loc main_arg0)) (m ((c : Thread nD τ).loc main_arg1)) q ⟨l.val, by omega⟩ :=
  product_at m c t r _ _ q hq fun k => by rw [weights_eq, weights_latent]

/-- The first payload at grid point `t` is the latents at row `1024 * t + r`. -/
theorem latents_block (c : Dev nD) (t : Fin cfg0.N) (r : Fin 1024) (l : Fin 512) (q : Fin 16384)
    (hq : q.val = 1024 * t.val + r.val) :
    k0_pay2 (F := Ideal) (iblk m c 0 t) (iblk m c 1 t) (iblk m c 2 t) (ix2 r l) = latents
        (m ((c : Thread nD τ).loc main_arg0)) (m ((c : Thread nD τ).loc main_arg1))
            (m ((c : Thread nD τ).loc main_arg2)) (ix2 q l) := by
  have hg : iblk m c 2 t (ix2 0 l) = m ((c : Thread nD τ).loc main_arg2) (ix2 0 l) := by
    rw [← gain_at m c l]
    blk_point [iblk, index_at t]
  rw [pay2_at, hg]
  simp only [product_latent m c t r _ q hq]
  rfl

/-- The kernel's first result array ends holding the latents. -/
theorem final_latents (c : Dev nD) : (dats m 0 c).arrAt 4 cfg0.N = latents (m ((c : Thread nD τ).loc main_arg0))
      (m ((c : Thread nD τ).loc main_arg1)) (m ((c : Thread nD τ).loc main_arg2)) := by
  refine (dats m 0 c).arrAt_eq_of_covers 4 _ (by decide +kernel) fun t hf y => ?_
  blk_simp
  rw [after0_4]
  frame_out
  idx_vars y
  have e0 : ((((View.whole main_v18_0).slice (win0_4.rect t)).emb (ix2 y0 y1) 0 : Fin _) : ℕ) = 1024 * t.val + y0.val := by
    blk_simp [index_at t]
    omega
  have e1 : ((((View.whole main_v18_0).slice (win0_4.rect t)).emb (ix2 y0 y1) 1 : Fin _) : ℕ) = y1.val := by
    blk_simp [index_at t]
  refine (latents_block m c t y0 y1 _ e0).trans ?_
  congr 1
  funext k; fin_cases k
  · rfl
  · exact Fin.ext e1.symm

/-- The kernel's products at grid point `t`: column `16 * s + f` of its table times the product's column. -/
theorem term_at (c : Dev nD) (t : Fin cfg0.N) (r : Fin 1024) (l : Fin 128) (q : Fin 16384) (s : Fin 8) (f : Fin 16)
    (hq : q.val = 1024 * t.val + r.val) (hl : l.val = 16 * s.val + f.val) :
    k0_pay1 (F := Ideal) (iblk m c 0 t) (iblk m c 1 t) (ix2 r ⟨512 + l.val, by omega⟩) * iblk m c 3 t (ix2 r l)
      = term (m ((c : Thread nD τ).loc main_arg0)) (m ((c : Thread nD τ).loc main_arg1))
          (m ((c : Thread nD τ).loc main_arg3)) (m ((c : Thread nD τ).loc main_arg4)) (m ((c : Thread nD τ).loc main_arg5))
              (m ((c : Thread nD τ).loc main_arg6)) q s f := by
  have hu : iblk m c 3 t (ix2 r l) = V m c main_v5 (ix2 q l) := by
    obtain ⟨q, hlt⟩ := q
    obtain rfl : q = _ := hq
    blk_point [iblk, index_at t]
  have hp (j : Fin 576) (h : ∀ k : Fin 4096, V m c main_v14 (ix2 k l)
      = m ((c : Thread nD τ).loc main_arg1) (ix3 0 k ⟨1024 + j.val, by omega⟩)) :=
    product_at m c t r ⟨512 + l.val, by omega⟩ j q hq fun k => by rw [weights_eq, weights_rope, h]
  have hd (j : Fin 576) (a : Fin 64) (haj : 1536 + a.val = 1024 + j.val) (k : Fin 4096) :
      ropeWeights (m ((c : Thread nD τ).loc main_arg1)) (ix2 k a) = m ((c : Thread nD τ).loc main_arg1) (ix3 0 k ⟨1024 + j.val, by omega⟩) := by
    rw [ropeWeights_at]
    congr 2
    exact Fin.ext haj
  rw [hu, table_eq, cosines_eq, sines_eq]
  rw [fourfold_eq, firsts_eq, seconds_eq] at hp
  obtain ⟨l, hlt⟩ := l
  have low : f.val < 32 := by omega
  have high : 16 + f.val < 32 := by omega
  fin_cases s
  · obtain rfl : l = f.val := by simpa [← add_assoc] using hl
    rw [hp ⟨512 + f.val, by omega⟩ fun k => ((fourfold_at _ _ k ⟨f.val, low⟩).1.trans (firsts_at _ k f).1).trans
        (hd _ _ (by simp only []; omega) k),
      (table_at _ _ q ⟨f.val, low⟩).1, (beside_at _ _ q f).1]
    rfl
  · obtain rfl : l = 16 + f.val := by simpa [← add_assoc] using hl
    rw [hp ⟨512 + (32 + f.val), by omega⟩ fun k => ((fourfold_at _ _ k ⟨16 + f.val, high⟩).1.trans (firsts_at _ k f).2).trans
        (hd _ _ (by simp only []; omega) k),
      (table_at _ _ q ⟨16 + f.val, high⟩).1, (beside_at _ _ q f).2]
    rfl
  · obtain rfl : l = 32 + f.val := by simpa [← add_assoc] using hl
    rw [hp ⟨512 + (16 + f.val), by omega⟩ fun k => ((fourfold_at _ _ k ⟨f.val, low⟩).2.1.trans (seconds_at _ k f).1).trans
        (hd _ _ (by simp only []; omega) k),
      (table_at _ _ q ⟨f.val, low⟩).2.1, (beside_at _ _ q f).1]
    rfl
  · obtain rfl : l = 32 + (16 + f.val) := by simpa [← add_assoc] using hl
    rw [hp ⟨512 + (32 + (16 + f.val)), by omega⟩
        fun k => ((fourfold_at _ _ k ⟨16 + f.val, high⟩).2.1.trans (seconds_at _ k f).2).trans
            (hd _ _ (by simp only []; omega) k),
      (table_at _ _ q ⟨16 + f.val, high⟩).2.1, (beside_at _ _ q f).2]
    rfl
  · obtain rfl : l = 64 + f.val := by simpa [← add_assoc] using hl
    rw [hp ⟨512 + (16 + f.val), by omega⟩ fun k => ((fourfold_at _ _ k ⟨f.val, low⟩).2.2.1.trans (seconds_at _ k f).1).trans
        (hd _ _ (by simp only []; omega) k),
      (table_at _ _ q ⟨f.val, low⟩).2.2.1, (beside_at _ _ q f).1]
    rfl
  · obtain rfl : l = 64 + (16 + f.val) := by simpa [← add_assoc] using hl
    rw [hp ⟨512 + (32 + (16 + f.val)), by omega⟩
        fun k => ((fourfold_at _ _ k ⟨16 + f.val, high⟩).2.2.1.trans (seconds_at _ k f).2).trans
            (hd _ _ (by simp only []; omega) k),
      (table_at _ _ q ⟨16 + f.val, high⟩).2.2.1, (beside_at _ _ q f).2]
    rfl
  · obtain rfl : l = 96 + f.val := by simpa [← add_assoc] using hl
    rw [hp ⟨512 + f.val, by omega⟩ fun k => ((fourfold_at _ _ k ⟨f.val, low⟩).2.2.2.trans (firsts_at _ k f).1).trans
        (hd _ _ (by simp only []; omega) k),
      (table_at _ _ q ⟨f.val, low⟩).2.2.2, (beside_at _ _ q f).1]
    rfl
  · obtain rfl : l = 96 + (16 + f.val) := by simpa [← add_assoc] using hl
    rw [hp ⟨512 + (32 + f.val), by omega⟩
        fun k => ((fourfold_at _ _ k ⟨16 + f.val, high⟩).2.2.2.trans (firsts_at _ k f).2).trans
            (hd _ _ (by simp only []; omega) k),
      (table_at _ _ q ⟨16 + f.val, high⟩).2.2.2, (beside_at _ _ q f).2]
    rfl

/-- The second payload at grid point `t` is the rotated features at row `1024 * t + r`. -/
theorem rotated_block (c : Dev nD) (t : Fin cfg0.N) (r : Fin 1024) (l : Fin 128) (q : Fin 16384)
    (hq : q.val = 1024 * t.val + r.val) :
    k0_pay3 (F := Ideal) (iblk m c 0 t) (iblk m c 1 t) (iblk m c 3 t) (ix2 r l) = rotated
        (m ((c : Thread nD τ).loc main_arg0)) (m ((c : Thread nD τ).loc main_arg1)) (m ((c : Thread nD τ).loc main_arg3))
            (m ((c : Thread nD τ).loc main_arg4)) (m ((c : Thread nD τ).loc main_arg5))
                (m ((c : Thread nD τ).loc main_arg6)) (ix2 q l) := by
  have hs : l.val / 16 < 8 := by omega
  rw [pay3_at, term_at m c t r l q ⟨l.val / 16, hs⟩ ⟨l.val % 16, by omega⟩ hq (by simp only []; omega),
    term_at m c t r ⟨(l.val + 128 - 64) % 128, by omega⟩ q (⟨l.val / 16, hs⟩ + 4) ⟨l.val % 16, by omega⟩ hq
      (by simp only [Fin.val_add]; show _ = 16 * ((l.val / 16 + 4) % 8) + _; omega), term_add]
  rfl

/-- The kernel's second result array ends holding the rotated features. -/
theorem final_rotated (c : Dev nD) : (dats m 0 c).arrAt 5 cfg0.N = rotated (m ((c : Thread nD τ).loc main_arg0))
      (m ((c : Thread nD τ).loc main_arg1)) (m ((c : Thread nD τ).loc main_arg3)) (m ((c : Thread nD τ).loc main_arg4))
          (m ((c : Thread nD τ).loc main_arg5)) (m ((c : Thread nD τ).loc main_arg6)) := by
  refine (dats m 0 c).arrAt_eq_of_covers 5 _ (by decide +kernel) fun t hf y => ?_
  blk_simp
  rw [after0_5]
  frame_out
  idx_vars y
  have e0 : ((((View.whole main_v18_1).slice (win0_5.rect t)).emb (ix2 y0 y1) 0 : Fin _) : ℕ) = 1024 * t.val + y0.val := by
    blk_simp [index_at t]
    omega
  have e1 : ((((View.whole main_v18_1).slice (win0_5.rect t)).emb (ix2 y0 y1) 1 : Fin _) : ℕ) = y1.val := by
    blk_simp [index_at t]
  refine (rotated_block m c t y0 y1 _ e0).trans ?_
  congr 1
  funext k; fin_cases k
  · rfl
  · exact Fin.ext e1.symm

end Cert.KvDownIdeal.RefValue

namespace Cert.KvDownRefIdeal.RefValue

open Cert.KvDownRefIdeal Cert.KvDownRefIdeal.Gen Idealize.ShloMosaic Idealize.ShloMosaic.TcCoe Idealize.SL.Sem
open Cert.KvDownIdeal.RefValue (projected latents quarter rotated)

/-- The reference's projection, past the query latents. -/
theorem projected_at (x : FVec Ideal S16384x4096 .bf16) (w : FVec Ideal S1x4096x1600 .f32) (r : Fin 16384) (l : Fin 576) :
    Read.val_main_v3 (F := Ideal) x w (ix2 r l) = projected x w r l := by
  pointwise [Read.val_main_v3, Read.val_main_v2, Read.val_main_v1, Read.val_main_v0, projected]

/-- The reference's first result is the latents. -/
theorem result_latents (x : FVec Ideal S16384x4096 .bf16) (w : FVec Ideal S1x4096x1600 .f32) (g : FVec Ideal S1x512 .f32) :
    Read.val_main_v46 (F := Ideal) x w g = latents x w g := by
  funext i
  idx_vars i
  pointwise [latents, Read.val_main_v46, Read.val_main_v44, Read.val_main_v43, Read.val_main_v42, Read.val_main_v41, Read.val_main_v40,
    Read.val_main_v39, Read.val_main_v38, Read.val_main_v37, Read.val_main_v36, Read.val_main_v35, Read.val_main_v34,
    Read.val_main_v33, Read.val_main_v32, Read.val_main_v31, Read.val_main_v30, Read.val_main_cst, Read.val_main_cst_0,
    Read.val_main_cst_1]
  simp only [projected_at]

/-- The four rotated quarters of the reference. -/
theorem quarter_at (x : FVec Ideal S16384x4096 .bf16) (w : FVec Ideal S1x4096x1600 .f32)
    (cr sr cc sc : FVec Ideal S16384x16 .f32) (r : Fin 16384) (f : Fin 16) :
    Read.val_main_v16 (F := Ideal) x w cr sr (ix2 r f) = quarter x w cr sr cc sc r 0 f
      ∧ Read.val_main_v27 (F := Ideal) x w cc sc (ix2 r f) = quarter x w cr sr cc sc r 1 f
      ∧ Read.val_main_v17 (F := Ideal) x w cr sr (ix2 r f) = quarter x w cr sr cc sc r 2 f
      ∧ Read.val_main_v28 (F := Ideal) x w cc sc (ix2 r f) = quarter x w cr sr cc sc r 3 f := by
  refine ⟨?_, ?_, ?_, ?_⟩
  · pointwise [Read.val_main_v16, Read.val_main_v15, Read.val_main_v14, Read.val_main_v13, Read.val_main_v12,
      Read.val_main_v11, Read.val_main_v10, Read.val_main_v9, Read.val_main_v8, Read.val_main_v7, Read.val_main_v5, Read.val_main_v4]
    simp only [projected_at]
    rfl
  · pointwise [Read.val_main_v27, Read.val_main_v26, Read.val_main_v25, Read.val_main_v24, Read.val_main_v23,
      Read.val_main_v22, Read.val_main_v21, Read.val_main_v20, Read.val_main_v19, Read.val_main_v18, Read.val_main_v6, Read.val_main_v4]
    simp only [projected_at]
    rfl
  · pointwise [Read.val_main_v17, Read.val_main_v15, Read.val_main_v14, Read.val_main_v13, Read.val_main_v12,
      Read.val_main_v11, Read.val_main_v10, Read.val_main_v9, Read.val_main_v8, Read.val_main_v7, Read.val_main_v5, Read.val_main_v4]
    simp only [projected_at]
    rfl
  · pointwise [Read.val_main_v28, Read.val_main_v26, Read.val_main_v25, Read.val_main_v24, Read.val_main_v23,
      Read.val_main_v22, Read.val_main_v21, Read.val_main_v20, Read.val_main_v19, Read.val_main_v18, Read.val_main_v6, Read.val_main_v4]
    simp only [projected_at]
    rfl

/-- The reference's second result is the rotated features. -/
theorem result_rotated (x : FVec Ideal S16384x4096 .bf16) (w : FVec Ideal S1x4096x1600 .f32)
    (cr sr cc sc : FVec Ideal S16384x16 .f32) : Read.val_main_v47 (F := Ideal) x w cr sr cc sc = rotated x w cr sr cc sc := by
  funext i
  idx_vars i
  pointwise [Read.val_main_v47, Read.val_main_v45, Read.val_main_v29, rotated]
  have key (s : Fin 4) (f : Fin 16) (hs : s.val = i1.val / 16 % 4) (hf : f.val = i1.val % 16) :
      quarter x w cr sr cc sc i0 s f = quarter x w cr sr cc sc i0 ⟨i1.val / 16 % 4, by omega⟩ ⟨i1.val % 16, by omega⟩ := by
    congr 1
    · exact Fin.ext hs
    · exact Fin.ext hf
  have at0 (f : Fin 16) (hs : 0 = i1.val / 16 % 4) (hf : f.val = i1.val % 16) :=
    (quarter_at x w cr sr cc sc i0 f).1.trans (key 0 f hs hf)
  have at1 (f : Fin 16) (hs : 1 = i1.val / 16 % 4) (hf : f.val = i1.val % 16) :=
    (quarter_at x w cr sr cc sc i0 f).2.1.trans (key 1 f hs hf)
  have at2 (f : Fin 16) (hs : 2 = i1.val / 16 % 4) (hf : f.val = i1.val % 16) :=
    (quarter_at x w cr sr cc sc i0 f).2.2.1.trans (key 2 f hs hf)
  have at3 (f : Fin 16) (hs : 3 = i1.val / 16 % 4) (hf : f.val = i1.val % 16) :=
    (quarter_at x w cr sr cc sc i0 f).2.2.2.trans (key 3 f hs hf)
  split
  · split
    · exact at0 ⟨i1.val, by omega⟩ (by omega) (show i1.val = i1.val % 16 by omega)
    · split
      · exact at1 ⟨i1.val - 16, by omega⟩ (by omega) (show i1.val - 16 = i1.val % 16 by omega)
      · split
        · exact at2 ⟨i1.val - 16 - 16, by omega⟩ (by omega) (show i1.val - 16 - 16 = i1.val % 16 by omega)
        · exact at3 ⟨i1.val - 16 - 16 - 16, by omega⟩ (by omega) (show i1.val - 16 - 16 - 16 = i1.val % 16 by omega)
  · split
    · exact at0 ⟨i1.val - 64, by omega⟩ (by omega) (show i1.val - 64 = i1.val % 16 by omega)
    · split
      · exact at1 ⟨i1.val - 64 - 16, by omega⟩ (by omega) (show i1.val - 64 - 16 = i1.val % 16 by omega)
      · split
        · exact at2 ⟨i1.val - 64 - 16 - 16, by omega⟩ (by omega) (show i1.val - 64 - 16 - 16 = i1.val % 16 by omega)
        · exact at3 ⟨i1.val - 64 - 16 - 16 - 16, by omega⟩ (by omega) (show i1.val - 64 - 16 - 16 - 16 = i1.val % 16 by omega)

/-- From memories that agree on the arguments, the kernel's run and the reference's end with the same two result arrays, the
    latents and the rotated features, and leave the arguments as they were. -/
theorem equation : Cert.algebraic_KvDownIdeal_KvDownRefIdeal (hKvDownIdeal := Cert.KvDownIdeal.Gen.facts) (hKvDownRefIdeal := Gen.facts) := by
  intro m g m' g' _ hm
  refine ⟨fun c => latents (m ((c : Thread Cert.KvDownIdeal.nD Cert.KvDownIdeal.τ).loc Cert.KvDownIdeal.main_arg0))
      (m ((c : Thread Cert.KvDownIdeal.nD Cert.KvDownIdeal.τ).loc Cert.KvDownIdeal.main_arg1))
      (m ((c : Thread Cert.KvDownIdeal.nD Cert.KvDownIdeal.τ).loc Cert.KvDownIdeal.main_arg2)),
    fun c => rotated (m ((c : Thread Cert.KvDownIdeal.nD Cert.KvDownIdeal.τ).loc Cert.KvDownIdeal.main_arg0))
      (m ((c : Thread Cert.KvDownIdeal.nD Cert.KvDownIdeal.τ).loc Cert.KvDownIdeal.main_arg1))
      (m ((c : Thread Cert.KvDownIdeal.nD Cert.KvDownIdeal.τ).loc Cert.KvDownIdeal.main_arg3))
      (m ((c : Thread Cert.KvDownIdeal.nD Cert.KvDownIdeal.τ).loc Cert.KvDownIdeal.main_arg4))
      (m ((c : Thread Cert.KvDownIdeal.nD Cert.KvDownIdeal.τ).loc Cert.KvDownIdeal.main_arg5))
      (m ((c : Thread Cert.KvDownIdeal.nD Cert.KvDownIdeal.τ).loc Cert.KvDownIdeal.main_arg6)),
    (θ_run _ _ _).mono (fun r h c => ⟨(h c).1.trans (Cert.KvDownIdeal.RefValue.final_latents m c),
      (h c).2.1.trans (Cert.KvDownIdeal.RefValue.final_rotated m c), (h c).2.2⟩) (Cert.KvDownIdeal.Value.run_blocks m g),
    (θ_run _ _ _).mono (fun r h c => ⟨(h c).1.trans ((Read.val_main_v46_eq _ _ _).trans ?_),
      (h c).2.1.trans ((Read.val_main_v47_eq m' c).trans ?_), (h c).2.2⟩) (Value.run m' g')⟩
  · obtain ⟨h0, h1, h2, -⟩ := hm c
    rw [result_latents, h0, h1, h2]
  · obtain ⟨h0, h1, -, h3, h4, h5, h6⟩ := hm c
    rw [result_rotated, h0, h1, h3, h4, h5, h6]

end Cert.KvDownRefIdeal.RefValue

end
-- ==== Proof.KUp.lean ====
/-
  The keys (`ckv @ w_k`, each head's features followed by the rotated features all heads share): what the kernel's result array
  holds after its run, what the reference's holds, and that they are one array, element for element, over the extended reals.
-/
module

public import proofs.«01_k».proof.Defs
public import proofs.«01_k».proof.Proof.Gen.KUpIdeal.Value
public import proofs.«01_k».proof.Proof.Gen.KUpRefIdeal.Run
public import proofs.«01_k».proof.Proof.Gen.KUpRefIdeal.Read
public import Idealize.ShloMosaic.Lib.Pipeline.ValueKit
public import Idealize.ShloMosaic.Lib.Pointwise

@[expose] public section

set_option maxRecDepth 16384

noncomputable section

namespace Cert.KUpIdeal.RefValue

open Cert.KUpIdeal Cert.KUpIdeal.Gen Idealize.ShloMosaic Idealize.ShloMosaic.TcCoe Idealize.SL.Sem
open Idealize.ShloMosaic.Pipeline (Dat)

variable (m : (ℓ : Loc nD τ sig) → Buf (Elt Ideal) ℓ)

/-- Key feature `d` of head `h`: the position-free ones are sums over the latents, the others are the rotated features. -/
def keys (x : FVec Ideal S16640x512 .bf16) (kr : FVec Ideal S16640x128 .bf16) (w : FVec Ideal S1x512x8192 .f32) :
    FVec Ideal S16640x8192 .bf16 := fun i =>
  if h : (i 1).val % 256 < 128 then ∑ k : Fin 512, x (ix2 (i 0) k) * w (ix3 0 k (i 1))
  else kr (ix2 (i 0) ⟨(i 1).val % 256 - 128, by omega⟩)

/-- Which block each window stages at grid point `t`. -/
theorem index_at : ∀ t : Fin grid0.N,
    win0_0.index t = ![(grid0.coords t 0).val, 0] ∧ win0_1.index t = ![0, (grid0.coords t 1).val]
      ∧ win0_2.index t = ![(grid0.coords t 0).val, 0]
      ∧ win0_3.index t = ![(grid0.coords t 0).val, (grid0.coords t 1).val] := by decide +kernel

/-- The first head's payload: row `r` of the latents' block against the weights' column `l`. -/
theorem pay2_at (a : Vec Ideal S1664x512 .bf16) (b : Vec Ideal S512x256 .bf16) (r : Fin 1664) (l : Fin 128) :
    k0_pay2 (F := Ideal) a b (ix2 r l) = ∑ k : Fin 512, a (ix2 r k) * b (ix2 k ⟨l.val, by omega⟩) := by
  pointwise [k0_pay2, k0_pay1]

/-- The second head's payload: row `r` of the latents' block against the weights' column `128 + l`. -/
theorem pay3_at (a : Vec Ideal S1664x512 .bf16) (b : Vec Ideal S512x256 .bf16) (r : Fin 1664) (l : Fin 128) :
    k0_pay3 (F := Ideal) a b (ix2 r l) = ∑ k : Fin 512, a (ix2 r k) * b (ix2 k ⟨128 + l.val, by omega⟩) := by
  pointwise [k0_pay3, k0_pay1]

/-- The staged latents at grid point `t` are the rows of the first argument that the point's block covers. -/
theorem latents_at (c : Dev nD) (t : Fin cfg0.N) (r : Fin 1664) (k : Fin 512) (q : Fin 16640)
    (hq : q.val = 1664 * (grid0.coords t 0).val + r.val) :
    iblk m c 0 t (ix2 r k) = m ((c : Thread nD τ).loc main_arg0) (ix2 q k) := by
  obtain ⟨q, hlt⟩ := q
  obtain rfl : q = _ := hq
  blk_point [iblk, V_main_arg0, index_at t]

/-- The staged rotated features at grid point `t` are those rows of the second argument. -/
theorem rotated_at (c : Dev nD) (t : Fin cfg0.N) (r : Fin 1664) (d : Fin 128) (q : Fin 16640)
    (hq : q.val = 1664 * (grid0.coords t 0).val + r.val) :
    iblk m c 2 t (ix2 r d) = m ((c : Thread nD τ).loc main_arg1) (ix2 q d) := by
  obtain ⟨q, hlt⟩ := q
  obtain rfl : q = _ := hq
  blk_point [iblk, V_main_arg1, index_at t]

/-- The staged weights at grid point `t` are two heads' key columns of the third argument. -/
theorem weights_at (c : Dev nD) (t : Fin cfg0.N) (k : Fin 512) (l : Fin 256) (j : Fin 8192)
    (hj : j.val = (256 * (grid0.coords t 1).val + l.val) / 128 * 256 + (256 * (grid0.coords t 1).val + l.val) % 128) :
    iblk m c 1 t (ix2 k l) = m ((c : Thread nD τ).loc main_arg2) (ix3 0 k j) := by
  obtain ⟨j, hlt⟩ := j
  obtain rfl : j = _ := hj
  blk_point [iblk, V, index_at t]

/-- The rotated features, stored for each of the block's two heads, are the keys' there. -/
theorem rotated_piece (c : Dev nD) (t : Fin cfg0.N) (r : Fin 1664) (d : Fin 128) (i : S16640x8192.Idx)
    (h0 : (i 0).val = 1664 * (grid0.coords t 0).val + r.val) (h1 : (i 1).val % 256 = 128 + d.val) :
    iblk m c 2 t (ix2 r d)
      = keys (m ((c : Thread nD τ).loc main_arg0)) (m ((c : Thread nD τ).loc main_arg1)) (m ((c : Thread nD τ).loc main_arg2)) i := by
  unfold keys
  rw [dif_neg (by omega), rotated_at m c t r d _ h0]
  congr 2
  exact Fin.ext (by show d.val = (i 1).val % 256 - 128; omega)

/-- The block's first head's position-free features are the keys' there. -/
theorem first_piece (c : Dev nD) (t : Fin cfg0.N) (r : Fin 1664) (d : Fin 128) (i : S16640x8192.Idx)
    (h0 : (i 0).val = 1664 * (grid0.coords t 0).val + r.val) (h1 : (i 1).val = 512 * (grid0.coords t 1).val + d.val) :
    k0_pay2 (F := Ideal) (iblk m c 0 t) (iblk m c 1 t) (ix2 r d)
      = keys (m ((c : Thread nD τ).loc main_arg0)) (m ((c : Thread nD τ).loc main_arg1)) (m ((c : Thread nD τ).loc main_arg2)) i := by
  unfold keys
  rw [dif_pos (by omega), pay2_at]
  refine Finset.sum_congr rfl fun k _ => ?_
  rw [latents_at m c t r k _ h0, weights_at m c t k _ (i 1) (by simp only []; omega)]

/-- The block's second head's position-free features are the keys' there. -/
theorem second_piece (c : Dev nD) (t : Fin cfg0.N) (r : Fin 1664) (d : Fin 128) (i : S16640x8192.Idx)
    (h0 : (i 0).val = 1664 * (grid0.coords t 0).val + r.val) (h1 : (i 1).val = 512 * (grid0.coords t 1).val + (256 + d.val)) :
    k0_pay3 (F := Ideal) (iblk m c 0 t) (iblk m c 1 t) (ix2 r d)
      = keys (m ((c : Thread nD τ).loc main_arg0)) (m ((c : Thread nD τ).loc main_arg1)) (m ((c : Thread nD τ).loc main_arg2)) i := by
  unfold keys
  rw [dif_pos (by omega), pay3_at]
  refine Finset.sum_congr rfl fun k _ => ?_
  rw [latents_at m c t r k _ h0, weights_at m c t k _ (i 1) (by simp only []; omega)]

/-- The kernel's result array ends holding the keys. -/
theorem final (c : Dev nD) : (dats m 0 c).arrAt 3 cfg0.N
    = keys (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  have e0 : ((((View.whole main_v5).slice (win0_3.rect t)).emb (ix2 y0 y1) 0 : Fin _) : ℕ) = 1664 * (grid0.coords t 0).val + y0.val := by
    blk_simp [index_at t]
    omega
  have e1 : ((((View.whole main_v5).slice (win0_3.rect t)).emb (ix2 y0 y1) 1 : Fin _) : ℕ) = 512 * (grid0.coords t 1).val + y1.val := by
    blk_simp [index_at t]
    omega
  generalize ((View.whole main_v5).slice (win0_3.rect t)).emb (ix2 y0 y1) = i at e0 e1
  refine View.canon_eq_of_allAt _ _ _ (cover0_3 _ _ _ _ _) ?_
  refine View.allAt_cons_unit _ _ _ _ _ ?_ (View.allAt_cons_unit _ _ _ _ _ ?_ (View.allAt_cons_unit _ _ _ _ _ ?_
    (View.allAt_cons_unit _ _ _ _ _ ?_ (View.allAt_nil _ _))))
  all_goals
    intro x hx
    idx_vars x
    have h0 := hx 0
    have h1 := hx 1
    simp at h0 h1
  · exact rotated_piece m c t x0 x1 i (by omega) (by omega)
  · exact second_piece m c t x0 x1 i (by omega) (by omega)
  · exact rotated_piece m c t x0 x1 i (by omega) (by omega)
  · exact first_piece m c t x0 x1 i (by omega) (by omega)

end Cert.KUpIdeal.RefValue

namespace Cert.KUpRefIdeal.RefValue

open Cert.KUpRefIdeal Cert.KUpRefIdeal.Gen Idealize.ShloMosaic Idealize.ShloMosaic.TcCoe Idealize.SL.Sem

/-- The reference's result is the keys. -/
theorem result (x : FVec Ideal S16640x512 .bf16) (kr : FVec Ideal S16640x128 .bf16) (w : FVec Ideal S1x512x8192 .f32) :
    Read.val_main_v10 (F := Ideal) x kr w = Cert.KUpIdeal.RefValue.keys x kr w := by
  funext i
  idx_vars i
  pointwise [Read.val_main_v10, Read.val_main_v9, Read.val_main_v8, Read.val_main_v7, Read.val_main_v6, Read.val_main_v5,
    Read.val_main_v4, Read.val_main_v3, Read.val_main_v2, Read.val_main_v1, Read.val_main_v0, Cert.KUpIdeal.RefValue.keys]

/-- From memories that agree on the arguments, the kernel's run and the reference's end with the same result array, the keys
    of the arguments, and leave the arguments as they were. -/
theorem equation : Cert.algebraic_KUpIdeal_KUpRefIdeal (hKUpIdeal := Cert.KUpIdeal.Gen.facts) (hKUpRefIdeal := Gen.facts) := by
  intro m g m' g' _ hm
  refine ⟨fun c => Cert.KUpIdeal.RefValue.keys (m ((c : Thread Cert.KUpIdeal.nD Cert.KUpIdeal.τ).loc Cert.KUpIdeal.main_arg0))
      (m ((c : Thread Cert.KUpIdeal.nD Cert.KUpIdeal.τ).loc Cert.KUpIdeal.main_arg1))
      (m ((c : Thread Cert.KUpIdeal.nD Cert.KUpIdeal.τ).loc Cert.KUpIdeal.main_arg2)),
    (θ_run _ _ _).mono (fun r h c => ⟨(h c).1.trans (Cert.KUpIdeal.RefValue.final m c), (h c).2⟩) (Cert.KUpIdeal.Value.run_blocks m g),
    (θ_run _ _ _).mono (fun r h c => ⟨(h c).1.trans ((Read.val_main_v10_eq _ _ _).trans ?_), (h c).2⟩) (Value.run m' g')⟩
  rw [result, (hm c).1, (hm c).2.1, (hm c).2.2]

end Cert.KUpRefIdeal.RefValue

end
-- ==== Proof.VUp.lean ====
/-
  The values' projection, transposed (`(ckv @ w_v).T`): what the kernel's result array holds after its run, what the
  reference's holds, and that they are one array, element for element, over the extended reals.
-/
module

public import proofs.«01_k».proof.Defs
public import proofs.«01_k».proof.Proof.Gen.VUpIdeal.Value
public import proofs.«01_k».proof.Proof.Gen.VUpRefIdeal.Run
public import proofs.«01_k».proof.Proof.Gen.VUpRefIdeal.Read
public import Idealize.ShloMosaic.Lib.Pipeline.ValueKit
public import Idealize.ShloMosaic.Lib.Pointwise

@[expose] public section

set_option maxRecDepth 16384

noncomputable section

namespace Cert.VUpIdeal.RefValue

open Cert.VUpIdeal Cert.VUpIdeal.Gen Idealize.ShloMosaic Idealize.ShloMosaic.TcCoe Idealize.SL.Sem
open Idealize.ShloMosaic.Pipeline (Dat)

variable (m : (ℓ : Loc nD τ sig) → Buf (Elt Ideal) ℓ)

/-- The weights' column of value feature `l`: each head's 256 columns are its 128 key features, then its 128 value
    features. -/
def column (l : Fin 4096) : Fin 8192 := ⟨l.val / 128 * 256 + (128 + l.val % 128), by omega⟩

/-- The values, features before tokens: element `(l, r)` is the sum over `k` of `w (0, k, column l) * x (r, k)`. -/
def values (x : FVec Ideal S16640x512 .bf16) (w : FVec Ideal S1x512x8192 .f32) : FVec Ideal S4096x16640 .bf16 :=
  fun i => ∑ k : Fin 512, w (ix3 0 k (column (i 0))) * x (ix2 (i 1) k)

/-- Which block each window stages at grid point `t`: the features' block, the tokens' block and both. -/
theorem index_at : ∀ t : Fin grid0.N,
    win0_0.index t = ![(grid0.coords t 0).val, 0] ∧ win0_1.index t = ![(grid0.coords t 1).val, 0]
      ∧ win0_2.index t = ![(grid0.coords t 0).val, (grid0.coords t 1).val] := by decide +kernel

/-- The kernel's result array ends holding the values. -/
theorem final (c : Dev nD) : (dats m 0 c).arrAt 2 cfg0.N
    = values (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, values, column]
  blk_point [iblk, V, index_at t]

end Cert.VUpIdeal.RefValue

namespace Cert.VUpRefIdeal.RefValue

open Cert.VUpRefIdeal Cert.VUpRefIdeal.Gen Idealize.ShloMosaic Idealize.ShloMosaic.TcCoe Idealize.SL.Sem

/-- The reference's result is the values. -/
theorem result (x : FVec Ideal S16640x512 .bf16) (w : FVec Ideal S1x512x8192 .f32) :
    Read.val_main_v7 (F := Ideal) x w = Cert.VUpIdeal.RefValue.values x w := by
  funext i
  idx_vars i
  pointwise [Read.val_main_v7, Read.val_main_v6, Read.val_main_v5, Read.val_main_v4, Read.val_main_v3, Read.val_main_v2,
    Read.val_main_v1, Read.val_main_v0, Cert.VUpIdeal.RefValue.values, Cert.VUpIdeal.RefValue.column]
  exact Finset.sum_congr rfl fun k _ => mul_comm _ _

/-- From memories that agree on the arguments, the kernel's run and the reference's end with the same result array, the values
    of the arguments, and leave the arguments as they were. -/
theorem equation : Cert.algebraic_VUpIdeal_VUpRefIdeal (hVUpIdeal := Cert.VUpIdeal.Gen.facts) (hVUpRefIdeal := Gen.facts) := by
  intro m g m' g' _ hm
  refine ⟨fun c => Cert.VUpIdeal.RefValue.values (m ((c : Thread Cert.VUpIdeal.nD Cert.VUpIdeal.τ).loc Cert.VUpIdeal.main_arg0))
      (m ((c : Thread Cert.VUpIdeal.nD Cert.VUpIdeal.τ).loc Cert.VUpIdeal.main_arg1)),
    (θ_run _ _ _).mono (fun r h c => ⟨(h c).1.trans (Cert.VUpIdeal.RefValue.final m c), (h c).2⟩) (Cert.VUpIdeal.Value.run_blocks m g),
    (θ_run _ _ _).mono (fun r h c => ⟨(h c).1.trans ((Read.val_main_v7_eq _ _).trans ?_), (h c).2⟩) (Value.run m' g')⟩
  rw [result, (hm c).1, (hm c).2]

end Cert.VUpRefIdeal.RefValue

end
-- ==== Proof.Norm.lean ====
/-
  The residual and its normalisation (`x + gate * rmsnorm(y)`, then the same normalised, scaled and shifted): what the
  kernel's two result arrays hold after its run, what the reference's hold, and that they are the same arrays, element for
  element, over the extended reals.
-/
module

public import proofs.«01_k».proof.Defs
public import proofs.«01_k».proof.Proof.Gen.NormIdeal.Value
public import proofs.«01_k».proof.Proof.Gen.NormRefIdeal.Run
public import proofs.«01_k».proof.Proof.Gen.NormRefIdeal.Read
public import Idealize.ShloMosaic.Lib.Pipeline.ValueKit
public import Idealize.ShloMosaic.Lib.StableHlo.RunRead
public import Idealize.ShloMosaic.Lib.Pointwise

@[expose] public section

set_option maxRecDepth 16384

noncomputable section

namespace Cert.NormIdeal.RefValue

open Cert.NormIdeal Cert.NormIdeal.Gen Idealize.ShloMosaic Idealize.ShloMosaic.TcCoe Idealize.SL.Sem
open Idealize.ShloMosaic.Pipeline (Dat)

variable (m : (ℓ : Loc nD τ sig) → Buf (Elt Ideal) ℓ)

/-- A row of 4096 numbers, each divided by the root of the mean of the row's squares plus the small constant. -/
def normalised (a : Fin 4096 → EReal) (l : Fin 4096) : EReal :=
  a l * Ideal.rsqrt (Ideal.div (∑ k : Fin 4096, a k * a k) (Ideal.ofBits .f32 0x45800000#32) + Ideal.ofBits .f32 0x358637BD#32)

/-- The new residual: `x` plus the gate times the normalised `y` times its gain. -/
def residual (x : FVec Ideal S16384x4096 .f32) (y : FVec Ideal S16384x4096 .bf16) (gate gain : FVec Ideal S4096 .f32) :
    FVec Ideal S16384x4096 .f32 := fun i =>
  x i + gate (ix1 (i 1)) * (normalised (fun k => y (ix2 (i 0) k)) (i 1) * gain (ix1 (i 1)))

/-- The next layer's input: the new residual normalised, times its gain, times one plus the scale, plus the shift. -/
def modulated (x : FVec Ideal S16384x4096 .f32) (y : FVec Ideal S16384x4096 .bf16)
    (gate gain gain' shift scale : FVec Ideal S4096 .f32) : FVec Ideal S16384x4096 .bf16 := fun i =>
  normalised (fun k => residual x y gate gain (ix2 (i 0) k)) (i 1) * gain' (ix1 (i 1)) * (1 + scale (ix1 (i 1)))
    + shift (ix1 (i 1))

/-- The first payload at row `r` and column `l`: the new residual of the blocks it reads. -/
theorem pay2_at (x : Vec Ideal S256x4096 .f32) (gate : Vec Ideal S1x4096 .f32) (y : Vec Ideal S256x4096 .bf16)
    (gain : Vec Ideal S1x4096 .f32) (r : Fin 256) (l : Fin 4096) :
    k0_pay2 (F := Ideal) x gate y gain (ix2 r l)
      = x (ix2 r l) + gate (ix2 0 l) * (normalised (fun k => y (ix2 r k)) l * gain (ix2 0 l)) := by
  pointwise [k0_pay2, normalised]

/-- The second payload at row `r` and column `l`: the normalised first payload times its gain. -/
theorem pay3_at (x : Vec Ideal S256x4096 .f32) (gate : Vec Ideal S1x4096 .f32) (y : Vec Ideal S256x4096 .bf16)
    (gain gain' : Vec Ideal S1x4096 .f32) (r : Fin 256) (l : Fin 4096) :
    k0_pay3 (F := Ideal) x gate y gain gain' (ix2 r l)
      = normalised (fun k => k0_pay2 (F := Ideal) x gate y gain (ix2 r k)) l * gain' (ix2 0 l) := by
  pointwise [k0_pay3, normalised]

/-- The third payload at row `r` and column `l`: its operand times one plus the scale, plus the shift. -/
theorem pay1_at (a : FVec Ideal S256x4096 .f32) (scale shift : Vec Ideal S1x4096 .f32) (r : Fin 256) (l : Fin 4096) :
    k0_pay1 (F := Ideal) a scale shift (ix2 r l) = a (ix2 r l) * (1 + scale (ix2 0 l)) + shift (ix2 0 l) := by
  pointwise [k0_pay1]

/-- Which block each window stages at grid point `t`: the rows' blocks and all the vectors. -/
theorem index_at : ∀ t : Fin grid0.N,
    win0_0.index t = ![t.val, 0] ∧ win0_1.index t = ![t.val, 0] ∧ win0_2.index t = ![0, 0]
      ∧ win0_3.index t = ![t.val, 0] ∧ win0_4.index t = ![t.val, 0] := by decide +kernel

/-- The host's row of the gate. -/
theorem row0_at (c : Dev nD) (l : Fin 4096) :
    V m c main_v0 (ix2 0 l) = m ((c : Thread nD τ).loc main_arg2) (ix1 l) := by
  entry_read
  pointwise

/-- The host's row of the gain. -/
theorem row1_at (c : Dev nD) (l : Fin 4096) :
    V m c main_v1 (ix2 0 l) = m ((c : Thread nD τ).loc main_arg3) (ix1 l) := by
  entry_read
  pointwise

/-- The host's row of the second gain. -/
theorem row2_at (c : Dev nD) (l : Fin 4096) :
    V m c main_v2 (ix2 0 l) = m ((c : Thread nD τ).loc main_arg4) (ix1 l) := by
  entry_read
  pointwise

/-- The host's row of the shift. -/
theorem row3_at (c : Dev nD) (l : Fin 4096) :
    V m c main_v3 (ix2 0 l) = m ((c : Thread nD τ).loc main_arg5) (ix1 l) := by
  entry_read
  pointwise

/-- The host's row of the scale. -/
theorem row4_at (c : Dev nD) (l : Fin 4096) :
    V m c main_v4 (ix2 0 l) = m ((c : Thread nD τ).loc main_arg6) (ix1 l) := by
  entry_read
  pointwise

/-- The array the host puts together: the five rows and three rows of zeros, one below another. -/
def stacked (v0 v1 v2 v3 v4 v5 : FVec Ideal S1x4096 .f32) : FVec Ideal S8x4096 .f32 :=
  concatenate S8x4096 0 [⟨S1x4096, v0⟩, ⟨S1x4096, v1⟩, ⟨S1x4096, v2⟩, ⟨S1x4096, v3⟩, ⟨S1x4096, v4⟩, ⟨S1x4096, v5⟩, ⟨S1x4096, v5⟩,
    ⟨S1x4096, v5⟩] concatenates_S1x4096_S1x4096_S1x4096_S1x4096_S1x4096_S1x4096_S1x4096_S1x4096_S8x4096_d0

/-- The host's last operation stacks the rows its earlier operations made. -/
theorem rows_eq (c : Dev nD) : V m c main_v6
    = stacked (V m c main_v0) (V m c main_v1) (V m c main_v2) (V m c main_v3) (V m c main_v4) (V m c main_v5) := by
  have e := StableHlo.after_last_write (ops := hostOps0 (F := Ideal)) (i := 7) (W := []) (r := main_v6) rfl rfl (by simp)
    (fun b => m (c, b))
  rw [StableHlo.nary_result] at e
  have h (r : Ref sig .tc) (hr : r ≠ main_v6) :
      StableHlo.upto (hostOps0 (F := Ideal)) (fun b => m (c, b)) 7 r = V m c r :=
    (StableHlo.nary_result_ne _ _ _ _ _ _ hr).symm
  refine e.trans ?_
  rw [← h main_v0 (by decide), ← h main_v1 (by decide), ← h main_v2 (by decide), ← h main_v3 (by decide),
    ← h main_v4 (by decide), ← h main_v5 (by decide)]
  rfl

/-- The first five rows of the stack. -/
theorem stacked_at (v0 v1 v2 v3 v4 v5 : FVec Ideal S1x4096 .f32) (l : Fin 4096) :
    stacked v0 v1 v2 v3 v4 v5 (ix2 0 l) = v0 (ix2 0 l) ∧ stacked v0 v1 v2 v3 v4 v5 (ix2 1 l) = v1 (ix2 0 l)
      ∧ stacked v0 v1 v2 v3 v4 v5 (ix2 2 l) = v2 (ix2 0 l) ∧ stacked v0 v1 v2 v3 v4 v5 (ix2 3 l) = v3 (ix2 0 l)
      ∧ stacked v0 v1 v2 v3 v4 v5 (ix2 4 l) = v4 (ix2 0 l) := by
  refine ⟨?_, ?_, ?_, ?_, ?_⟩ <;> pointwise [stacked]

/-- The five vectors the host puts in rows: gate, gain, second gain, shift and scale. -/
theorem vectors_at (c : Dev nD) (t : Fin cfg0.N) (l : Fin 4096) :
    iblk m c 2 t (ix2 0 l) = m ((c : Thread nD τ).loc main_arg2) (ix1 l)
      ∧ iblk m c 2 t (ix2 1 l) = m ((c : Thread nD τ).loc main_arg3) (ix1 l)
      ∧ iblk m c 2 t (ix2 2 l) = m ((c : Thread nD τ).loc main_arg4) (ix1 l)
      ∧ iblk m c 2 t (ix2 3 l) = m ((c : Thread nD τ).loc main_arg5) (ix1 l)
      ∧ iblk m c 2 t (ix2 4 l) = m ((c : Thread nD τ).loc main_arg6) (ix1 l) := by
  have h (k : Fin 8) : iblk m c 2 t (ix2 k l) = V m c main_v6 (ix2 k l) := by
    blk_point [iblk, index_at t]
  rw [h, h, h, h, h, rows_eq, ← row0_at m c l, ← row1_at m c l, ← row2_at m c l, ← row3_at m c l, ← row4_at m c l]
  exact stacked_at _ _ _ _ _ _ l

/-- A one-row piece of the staged vectors is that row of them. -/
theorem row_read (u : Vec Ideal S8x4096 .f32) (l : Fin 4096) :
    (View.ld u r0_1 : Vec Ideal S1x4096 .f32) (ix2 0 l) = u (ix2 0 l) ∧ (View.ld u r0_2 : Vec Ideal S1x4096 .f32) (ix2 0 l) = u (ix2 1 l) ∧ (View.ld u r0_3 : Vec Ideal S1x4096 .f32) (ix2 0 l) = u (ix2 2 l)
      ∧ (View.ld u r0_5 : Vec Ideal S1x4096 .f32) (ix2 0 l) = u (ix2 3 l) ∧ (View.ld u r0_4 : Vec Ideal S1x4096 .f32) (ix2 0 l) = u (ix2 4 l) := by
  refine ⟨?_, ?_, ?_, ?_, ?_⟩ <;> pointwise

/-- The first payload at grid point `t` is the new residual at row `256 * t + r`. -/
theorem residual_block (c : Dev nD) (t : Fin cfg0.N) (r : Fin 256) (l : Fin 4096) (q : Fin 16384) (hq : q.val = 256 * t.val + r.val) :
    k0_pay2 (F := Ideal) (iblk m c 0 t) (View.ld (iblk m c 2 t) r0_1) (iblk m c 1 t) (View.ld (iblk m c 2 t) r0_2) (ix2 r l)
      = residual (m ((c : Thread nD τ).loc main_arg0)) (m ((c : Thread nD τ).loc main_arg1)) (m ((c : Thread nD τ).loc main_arg2))
      (m ((c : Thread nD τ).loc main_arg3)) (ix2 q l) := by
  rw [pay2_at, (row_read _ l).1, (row_read _ l).2.1, (vectors_at m c t l).1, (vectors_at m c t l).2.1]
  obtain ⟨q, hlt⟩ := q
  obtain rfl : q = 256 * t.val + r.val := hq
  unfold residual
  blk_point [iblk, V_main_arg0, V_main_arg1, index_at t]

/-- The kernel's first result array ends holding the new residual. -/
theorem final_residual (c : Dev nD) : (dats m 0 c).arrAt 3 cfg0.N
    = residual (m ((c : Thread nD τ).loc main_arg0)) (m ((c : Thread nD τ).loc main_arg1)) (m ((c : Thread nD τ).loc main_arg2))
      (m ((c : Thread nD τ).loc main_arg3)) := by
  refine (dats m 0 c).arrAt_eq_of_covers 3 _ (by decide +kernel) fun t hf y => ?_
  blk_simp
  rw [after0_3]
  frame_out
  idx_vars y
  have e0 : ((((View.whole main_v7_0).slice (win0_3.rect t)).emb (ix2 y0 y1) 0 : Fin _) : ℕ) = 256 * t.val + y0.val := by
    blk_simp [index_at t]
    omega
  have e1 : ((((View.whole main_v7_0).slice (win0_3.rect t)).emb (ix2 y0 y1) 1 : Fin _) : ℕ) = y1.val := by
    blk_simp [index_at t]
  refine (residual_block m c t y0 y1 _ e0).trans ?_
  congr 1
  funext k; fin_cases k
  · rfl
  · exact Fin.ext e1.symm

/-- The kernel's second result array ends holding the next layer's input. -/
theorem final_modulated (c : Dev nD) : (dats m 0 c).arrAt 4 cfg0.N
    = modulated (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 4 _ (by decide +kernel) fun t hf y => ?_
  blk_simp
  rw [after0_4]
  frame_out
  idx_vars y
  have e0 : ((((View.whole main_v7_1).slice (win0_4.rect t)).emb (ix2 y0 y1) 0 : Fin _) : ℕ) = 256 * t.val + y0.val := by
    blk_simp [index_at t]
    omega
  have e1 : (((View.whole main_v7_1).slice (win0_4.rect t)).emb (ix2 y0 y1) 1 : Fin _) = y1 := Fin.ext (by
    blk_simp [index_at t])
  have hr := row_read (iblk m c 2 t) y1
  have hv := vectors_at m c t y1
  rw [pay1_at, pay3_at, hr.2.2.1, hr.2.2.2.1, hr.2.2.2.2, hv.2.2.1, hv.2.2.2.1, hv.2.2.2.2]
  refine (congrArg (fun f => normalised f y1 * _ * _ + _) (funext fun k => residual_block m c t y0 k _ e0)).trans ?_
  unfold modulated
  rw [e1]

end Cert.NormIdeal.RefValue

namespace Cert.NormRefIdeal.RefValue

open Cert.NormRefIdeal Cert.NormRefIdeal.Gen Idealize.ShloMosaic Idealize.ShloMosaic.TcCoe Idealize.SL.Sem

/-- The reference's first result is the new residual. -/
theorem result_residual (x : FVec Ideal S16384x4096 .f32) (y : FVec Ideal S16384x4096 .bf16) (gate gain : FVec Ideal S4096 .f32) :
    Read.val_main_v17 (F := Ideal) x y gate gain = Cert.NormIdeal.RefValue.residual x y gate gain := by
  funext i
  idx_vars i
  pointwise [Read.val_main_v17, Read.val_main_v16, Read.val_main_v15, Read.val_main_v14, Read.val_main_v13, Read.val_main_v12,
    Read.val_main_v11, Read.val_main_v10, Read.val_main_v9, Read.val_main_v8, Read.val_main_v7, Read.val_main_v6,
    Read.val_main_v5, Read.val_main_v4, Read.val_main_v3, Read.val_main_v2, Read.val_main_v1, Read.val_main_v0,
    Read.val_main_cst, Read.val_main_cst_0, Read.val_main_cst_1, Cert.NormIdeal.RefValue.residual,
    Cert.NormIdeal.RefValue.normalised]

/-- The reference's second result is the next layer's input. -/
theorem result_modulated (x : FVec Ideal S16384x4096 .f32) (y : FVec Ideal S16384x4096 .bf16)
    (gate gain gain' shift scale : FVec Ideal S4096 .f32) :
    Read.val_main_v39 (F := Ideal) x y gate gain gain' shift scale
      = Cert.NormIdeal.RefValue.modulated x y gate gain gain' shift scale := by
  funext i
  idx_vars i
  unfold Cert.NormIdeal.RefValue.modulated
  rw [← result_residual]
  pointwise [Read.val_main_v39, Read.val_main_v38, Read.val_main_v37, Read.val_main_v36, Read.val_main_v35, Read.val_main_v34,
    Read.val_main_v33, Read.val_main_v32, Read.val_main_v31, Read.val_main_v30, Read.val_main_v29, Read.val_main_v28,
    Read.val_main_v27, Read.val_main_v26, Read.val_main_v25, Read.val_main_v24, Read.val_main_v23, Read.val_main_v22,
    Read.val_main_v21, Read.val_main_v20, Read.val_main_v19, Read.val_main_v18, Read.val_main_cst_2, Read.val_main_cst_3,
    Read.val_main_cst_4, Read.val_main_cst_5, Cert.NormIdeal.RefValue.normalised]

/-- From memories that agree on the arguments, the kernel's run and the reference's end with the same two result arrays, the
    new residual and the next layer's input, and leave the arguments as they were. -/
theorem equation : Cert.algebraic_NormIdeal_NormRefIdeal (hNormIdeal := Cert.NormIdeal.Gen.facts) (hNormRefIdeal := Gen.facts) := by
  intro m g m' g' _ hm
  refine ⟨fun c => Cert.NormIdeal.RefValue.residual (m ((c : Thread Cert.NormIdeal.nD Cert.NormIdeal.τ).loc Cert.NormIdeal.main_arg0)) (m ((c : Thread Cert.NormIdeal.nD Cert.NormIdeal.τ).loc Cert.NormIdeal.main_arg1))
      (m ((c : Thread Cert.NormIdeal.nD Cert.NormIdeal.τ).loc Cert.NormIdeal.main_arg2)) (m ((c : Thread Cert.NormIdeal.nD Cert.NormIdeal.τ).loc Cert.NormIdeal.main_arg3)),
    fun c => Cert.NormIdeal.RefValue.modulated (m ((c : Thread Cert.NormIdeal.nD Cert.NormIdeal.τ).loc Cert.NormIdeal.main_arg0)) (m ((c : Thread Cert.NormIdeal.nD Cert.NormIdeal.τ).loc Cert.NormIdeal.main_arg1))
      (m ((c : Thread Cert.NormIdeal.nD Cert.NormIdeal.τ).loc Cert.NormIdeal.main_arg2)) (m ((c : Thread Cert.NormIdeal.nD Cert.NormIdeal.τ).loc Cert.NormIdeal.main_arg3))
      (m ((c : Thread Cert.NormIdeal.nD Cert.NormIdeal.τ).loc Cert.NormIdeal.main_arg4)) (m ((c : Thread Cert.NormIdeal.nD Cert.NormIdeal.τ).loc Cert.NormIdeal.main_arg5))
      (m ((c : Thread Cert.NormIdeal.nD Cert.NormIdeal.τ).loc Cert.NormIdeal.main_arg6)),
    (θ_run _ _ _).mono (fun r h c => ⟨(h c).1.trans (Cert.NormIdeal.RefValue.final_residual m c),
      (h c).2.1.trans (Cert.NormIdeal.RefValue.final_modulated m c), (h c).2.2⟩) (Cert.NormIdeal.Value.run_blocks m g),
    (θ_run _ _ _).mono (fun r h c => ⟨(h c).1.trans ((Read.val_main_v17_eq _ _ _ _).trans ?_),
      (h c).2.1.trans ((Read.val_main_v39_eq m' c).trans ?_), (h c).2.2⟩) (Value.run m' g')⟩
  · obtain ⟨h0, h1, h2, h3, -⟩ := hm c
    rw [result_residual, h0, h1, h2, h3]
  · obtain ⟨h0, h1, h2, h3, h4, h5, h6⟩ := hm c
    rw [result_modulated, h0, h1, h2, h3, h4, h5, h6]

end Cert.NormRefIdeal.RefValue

end
-- ==== Proof.lean ====
/-
  The certificate's claim, assembled. For each of the calls: the kernel, its idealization and its reference run
  to the end without a fault and leave their arguments as they were; the idealization is the kernel's own text; and, over the
  extended reals, the idealized kernel's result arrays are the reference's (the modules imported below, one per call).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.ScIn
public import proofs.«01_k».proof.Proof.Gen.ScIn.Skeleton
public import proofs.«01_k».proof.Proof.Gen.ScIn.Launch
public import proofs.«01_k».proof.Proof.Gen.ScIn.Points
public import proofs.«01_k».proof.Proof.Gen.ScIn.Frame
public import proofs.«01_k».proof.Proof.Gen.ScInIdeal
public import proofs.«01_k».proof.Proof.Gen.ScInIdeal.Skeleton
public import proofs.«01_k».proof.Proof.Gen.ScInIdeal.Launch
public import proofs.«01_k».proof.Proof.Gen.ScInIdeal.Points
public import proofs.«01_k».proof.Proof.Gen.ScInIdeal.Frame
public import proofs.«01_k».proof.Proof.Gen.ScInRefIdeal
public import proofs.«01_k».proof.Proof.Gen.ScOut
public import proofs.«01_k».proof.Proof.Gen.ScOut.Skeleton
public import proofs.«01_k».proof.Proof.Gen.ScOut.Launch
public import proofs.«01_k».proof.Proof.Gen.ScOut.Points
public import proofs.«01_k».proof.Proof.Gen.ScOut.Frame
public import proofs.«01_k».proof.Proof.Gen.ScOutIdeal
public import proofs.«01_k».proof.Proof.Gen.ScOutIdeal.Skeleton
public import proofs.«01_k».proof.Proof.Gen.ScOutIdeal.Launch
public import proofs.«01_k».proof.Proof.Gen.ScOutIdeal.Points
public import proofs.«01_k».proof.Proof.Gen.ScOutIdeal.Frame
public import proofs.«01_k».proof.Proof.Gen.ScOutRefIdeal
public import proofs.«01_k».proof.Proof.Gen.HyIn
public import proofs.«01_k».proof.Proof.Gen.HyIn.Skeleton
public import proofs.«01_k».proof.Proof.Gen.HyIn.Launch
public import proofs.«01_k».proof.Proof.Gen.HyIn.Points
public import proofs.«01_k».proof.Proof.Gen.HyIn.Frame
public import proofs.«01_k».proof.Proof.Gen.HyInIdeal
public import proofs.«01_k».proof.Proof.Gen.HyInIdeal.Skeleton
public import proofs.«01_k».proof.Proof.Gen.HyInIdeal.Launch
public import proofs.«01_k».proof.Proof.Gen.HyInIdeal.Points
public import proofs.«01_k».proof.Proof.Gen.HyInIdeal.Frame
public import proofs.«01_k».proof.Proof.Gen.HyInRefIdeal
public import proofs.«01_k».proof.Proof.Gen.HyOut
public import proofs.«01_k».proof.Proof.Gen.HyOut.Skeleton
public import proofs.«01_k».proof.Proof.Gen.HyOut.Launch
public import proofs.«01_k».proof.Proof.Gen.HyOut.Points
public import proofs.«01_k».proof.Proof.Gen.HyOut.Frame
public import proofs.«01_k».proof.Proof.Gen.HyOutIdeal
public import proofs.«01_k».proof.Proof.Gen.HyOutIdeal.Skeleton
public import proofs.«01_k».proof.Proof.Gen.HyOutIdeal.Launch
public import proofs.«01_k».proof.Proof.Gen.HyOutIdeal.Points
public import proofs.«01_k».proof.Proof.Gen.HyOutIdeal.Frame
public import proofs.«01_k».proof.Proof.Gen.HyOutRefIdeal
public import proofs.«01_k».proof.Proof.Gen.MlaOut
public import proofs.«01_k».proof.Proof.Gen.MlaOut.Skeleton
public import proofs.«01_k».proof.Proof.Gen.MlaOut.Launch
public import proofs.«01_k».proof.Proof.Gen.MlaOut.Points
public import proofs.«01_k».proof.Proof.Gen.MlaOut.Frame
public import proofs.«01_k».proof.Proof.Gen.MlaOutIdeal
public import proofs.«01_k».proof.Proof.Gen.MlaOutIdeal.Skeleton
public import proofs.«01_k».proof.Proof.Gen.MlaOutIdeal.Launch
public import proofs.«01_k».proof.Proof.Gen.MlaOutIdeal.Points
public import proofs.«01_k».proof.Proof.Gen.MlaOutIdeal.Frame
public import proofs.«01_k».proof.Proof.Gen.MlaOutRefIdeal
public import proofs.«01_k».proof.Proof.Gen.QDown
public import proofs.«01_k».proof.Proof.Gen.KvDown
public import proofs.«01_k».proof.Proof.Gen.QDown.Skeleton
public import proofs.«01_k».proof.Proof.Gen.KvDown.Skeleton
public import proofs.«01_k».proof.Proof.Gen.QDown.Launch
public import proofs.«01_k».proof.Proof.Gen.KvDown.Launch
public import proofs.«01_k».proof.Proof.Gen.QDown.Points
public import proofs.«01_k».proof.Proof.Gen.KvDown.Points
public import proofs.«01_k».proof.Proof.Gen.QDown.Frame
public import proofs.«01_k».proof.Proof.Gen.KvDown.Frame
public import proofs.«01_k».proof.Proof.Gen.QDownIdeal
public import proofs.«01_k».proof.Proof.Gen.KvDownIdeal
public import proofs.«01_k».proof.Proof.Gen.QDownIdeal.Skeleton
public import proofs.«01_k».proof.Proof.Gen.KvDownIdeal.Skeleton
public import proofs.«01_k».proof.Proof.Gen.QDownIdeal.Launch
public import proofs.«01_k».proof.Proof.Gen.KvDownIdeal.Launch
public import proofs.«01_k».proof.Proof.Gen.QDownIdeal.Points
public import proofs.«01_k».proof.Proof.Gen.KvDownIdeal.Points
public import proofs.«01_k».proof.Proof.Gen.QDownIdeal.Frame
public import proofs.«01_k».proof.Proof.Gen.KvDownIdeal.Frame
public import proofs.«01_k».proof.Proof.Gen.QDownRefIdeal
public import proofs.«01_k».proof.Proof.Gen.KvDownRefIdeal
public import proofs.«01_k».proof.Proof.Gen.KUp
public import proofs.«01_k».proof.Proof.Gen.KUp.Skeleton
public import proofs.«01_k».proof.Proof.Gen.KUp.Launch
public import proofs.«01_k».proof.Proof.Gen.KUp.Points
public import proofs.«01_k».proof.Proof.Gen.KUp.Frame
public import proofs.«01_k».proof.Proof.Gen.KUpIdeal
public import proofs.«01_k».proof.Proof.Gen.KUpIdeal.Skeleton
public import proofs.«01_k».proof.Proof.Gen.KUpIdeal.Launch
public import proofs.«01_k».proof.Proof.Gen.KUpIdeal.Points
public import proofs.«01_k».proof.Proof.Gen.KUpIdeal.Frame
public import proofs.«01_k».proof.Proof.Gen.KUpRefIdeal
public import proofs.«01_k».proof.Proof.Gen.VUp
public import proofs.«01_k».proof.Proof.Gen.VUp.Skeleton
public import proofs.«01_k».proof.Proof.Gen.VUp.Launch
public import proofs.«01_k».proof.Proof.Gen.VUp.Points
public import proofs.«01_k».proof.Proof.Gen.VUp.Frame
public import proofs.«01_k».proof.Proof.Gen.VUpIdeal
public import proofs.«01_k».proof.Proof.Gen.VUpIdeal.Skeleton
public import proofs.«01_k».proof.Proof.Gen.VUpIdeal.Launch
public import proofs.«01_k».proof.Proof.Gen.VUpIdeal.Points
public import proofs.«01_k».proof.Proof.Gen.VUpIdeal.Frame
public import proofs.«01_k».proof.Proof.Gen.VUpRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Gen.ScInIdeal.Value
public import proofs.«01_k».proof.Proof.Gen.ScInRefIdeal.Run
public import proofs.«01_k».proof.Proof.Gen.ScInRefIdeal.Read
public import proofs.«01_k».proof.Proof.Gen.ScOutIdeal.Value
public import proofs.«01_k».proof.Proof.Gen.ScOutRefIdeal.Run
public import proofs.«01_k».proof.Proof.Gen.ScOutRefIdeal.Read
public import proofs.«01_k».proof.Proof.Gen.HyInIdeal.Value
public import proofs.«01_k».proof.Proof.Gen.HyInRefIdeal.Run
public import proofs.«01_k».proof.Proof.Gen.HyInRefIdeal.Read
public import proofs.«01_k».proof.Proof.Gen.HyOutIdeal.Value
public import proofs.«01_k».proof.Proof.Gen.HyOutRefIdeal.Run
public import proofs.«01_k».proof.Proof.Gen.HyOutRefIdeal.Read
public import proofs.«01_k».proof.Proof.Gen.MlaOutIdeal.Value
public import proofs.«01_k».proof.Proof.Gen.MlaOutRefIdeal.Run
public import proofs.«01_k».proof.Proof.Gen.MlaOutRefIdeal.Read
public import proofs.«01_k».proof.Proof.Gen.QDownIdeal.Value
public import proofs.«01_k».proof.Proof.Gen.KvDownIdeal.Value
public import proofs.«01_k».proof.Proof.Gen.QDownRefIdeal.Run
public import proofs.«01_k».proof.Proof.Gen.KvDownRefIdeal.Run
public import proofs.«01_k».proof.Proof.Gen.QDownRefIdeal.Read
public import proofs.«01_k».proof.Proof.Gen.KvDownRefIdeal.Read
public import proofs.«01_k».proof.Proof.Gen.KUpIdeal.Value
public import proofs.«01_k».proof.Proof.Gen.KUpRefIdeal.Run
public import proofs.«01_k».proof.Proof.Gen.KUpRefIdeal.Read
public import proofs.«01_k».proof.Proof.Gen.VUpIdeal.Value
public import proofs.«01_k».proof.Proof.Gen.VUpRefIdeal.Run
public import proofs.«01_k».proof.Proof.Gen.VUpRefIdeal.Read
public import proofs.«01_k».proof.Proof.Gen.NormIdeal.Value
public import proofs.«01_k».proof.Proof.Gen.NormRefIdeal.Run
public import proofs.«01_k».proof.Proof.Gen.NormRefIdeal.Read
public import proofs.«01_k».proof.Proof.Attention
public import proofs.«01_k».proof.Proof.FfnUp
public import proofs.«01_k».proof.Proof.FfnDown
public import proofs.«01_k».proof.Proof.ScIn
public import proofs.«01_k».proof.Proof.HyIn
public import proofs.«01_k».proof.Proof.MlaOut
public import proofs.«01_k».proof.Proof.ScOut
public import proofs.«01_k».proof.Proof.HyOut
public import proofs.«01_k».proof.Proof.QDown
public import proofs.«01_k».proof.Proof.KvDown
public import proofs.«01_k».proof.Proof.KUp
public import proofs.«01_k».proof.Proof.VUp
public import proofs.«01_k».proof.Proof.Norm
public import Idealize.ShloMosaic.Adequacy
public import Idealize.ShloMosaic.Init

@[expose] public section

noncomputable section

namespace Cert.Proof

open Idealize.ShloMosaic Idealize.SL.Sem

/-- The reference of the attention runs to the end, leaves its arguments as they were, and has no semaphore. -/
theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The reference of the feed-forward layer's first product runs to the end, leaves its arguments as they were, and has no semaphore. -/
theorem frame_FfnUpRefIdeal : Cert.quiescent_FfnUpRefIdeal (hFfnUpRefIdeal := Cert.FfnUpRefIdeal.Gen.facts) := fun m ρ _ =>
  (θ_run Cert.FfnUpRefIdeal.defs _ _).mono (fun r h => ⟨fun c => (h c).2, sem_eq_zero_of_no_sems (by decide) r.2⟩)
    (Cert.FfnUpRefIdeal.Value.run m ρ)

/-- The reference of the feed-forward layer's second product runs to the end, leaves its arguments as they were, and has no semaphore. -/
theorem frame_FfnDownRefIdeal : Cert.quiescent_FfnDownRefIdeal (hFfnDownRefIdeal := Cert.FfnDownRefIdeal.Gen.facts) := fun m ρ _ =>
  (θ_run Cert.FfnDownRefIdeal.defs _ _).mono (fun r h => ⟨fun c => (h c).2, sem_eq_zero_of_no_sems (by decide) r.2⟩)
    (Cert.FfnDownRefIdeal.Value.run m ρ)

/-- The reference of the short convolution's first product runs to the end, leaves its arguments as they were, and has no semaphore. -/
theorem frame_ScInRefIdeal : Cert.quiescent_ScInRefIdeal (hScInRefIdeal := Cert.ScInRefIdeal.Gen.facts) := fun m ρ _ =>
  (θ_run Cert.ScInRefIdeal.defs _ _).mono (fun r h => ⟨fun c => (h c).2.2, sem_eq_zero_of_no_sems (by decide) r.2⟩)
    (Cert.ScInRefIdeal.Value.run m ρ)

/-- The reference of the short convolution and its second product runs to the end, leaves its arguments as they were, and has no semaphore. -/
theorem frame_ScOutRefIdeal : Cert.quiescent_ScOutRefIdeal (hScOutRefIdeal := Cert.ScOutRefIdeal.Gen.facts) := fun m ρ _ =>
  (θ_run Cert.ScOutRefIdeal.defs _ _).mono (fun r h => ⟨fun c => (h c).2, sem_eq_zero_of_no_sems (by decide) r.2⟩)
    (Cert.ScOutRefIdeal.Value.run m ρ)

/-- The reference of the Hyena layer's first product runs to the end, leaves its arguments as they were, and has no semaphore. -/
theorem frame_HyInRefIdeal : Cert.quiescent_HyInRefIdeal (hHyInRefIdeal := Cert.HyInRefIdeal.Gen.facts) := fun m ρ _ =>
  (θ_run Cert.HyInRefIdeal.defs _ _).mono (fun r h => ⟨fun c => (h c).2, sem_eq_zero_of_no_sems (by decide) r.2⟩)
    (Cert.HyInRefIdeal.Value.run m ρ)

/-- The reference of the Hyena layer's gate and second product runs to the end, leaves its arguments as they were, and has no semaphore. -/
theorem frame_HyOutRefIdeal : Cert.quiescent_HyOutRefIdeal (hHyOutRefIdeal := Cert.HyOutRefIdeal.Gen.facts) := fun m ρ _ =>
  (θ_run Cert.HyOutRefIdeal.defs _ _).mono (fun r h => ⟨fun c => (h c).2, sem_eq_zero_of_no_sems (by decide) r.2⟩)
    (Cert.HyOutRefIdeal.Value.run m ρ)

/-- The reference of the attention layer's output product runs to the end, leaves its arguments as they were, and has no semaphore. -/
theorem frame_MlaOutRefIdeal : Cert.quiescent_MlaOutRefIdeal (hMlaOutRefIdeal := Cert.MlaOutRefIdeal.Gen.facts) := fun m ρ _ =>
  (θ_run Cert.MlaOutRefIdeal.defs _ _).mono (fun r h => ⟨fun c => (h c).2, sem_eq_zero_of_no_sems (by decide) r.2⟩)
    (Cert.MlaOutRefIdeal.Value.run m ρ)

/-- The reference of the query latents runs to the end, leaves its arguments as they were, and has no semaphore. -/
theorem frame_QDownRefIdeal : Cert.quiescent_QDownRefIdeal (hQDownRefIdeal := Cert.QDownRefIdeal.Gen.facts) := fun m ρ _ =>
  (θ_run Cert.QDownRefIdeal.defs _ _).mono (fun r h => ⟨fun c => (h c).2, sem_eq_zero_of_no_sems (by decide) r.2⟩)
    (Cert.QDownRefIdeal.Value.run m ρ)

/-- The reference of the key-value latents and the rotated key features runs to the end, leaves its arguments as they were, and has no semaphore. -/
theorem frame_KvDownRefIdeal : Cert.quiescent_KvDownRefIdeal (hKvDownRefIdeal := Cert.KvDownRefIdeal.Gen.facts) := fun m ρ _ =>
  (θ_run Cert.KvDownRefIdeal.defs _ _).mono (fun r h => ⟨fun c => (h c).2.2, sem_eq_zero_of_no_sems (by decide) r.2⟩)
    (Cert.KvDownRefIdeal.Value.run m ρ)

/-- The reference of the keys runs to the end, leaves its arguments as they were, and has no semaphore. -/
theorem frame_KUpRefIdeal : Cert.quiescent_KUpRefIdeal (hKUpRefIdeal := Cert.KUpRefIdeal.Gen.facts) := fun m ρ _ =>
  (θ_run Cert.KUpRefIdeal.defs _ _).mono (fun r h => ⟨fun c => (h c).2, sem_eq_zero_of_no_sems (by decide) r.2⟩)
    (Cert.KUpRefIdeal.Value.run m ρ)

/-- The reference of the values runs to the end, leaves its arguments as they were, and has no semaphore. -/
theorem frame_VUpRefIdeal : Cert.quiescent_VUpRefIdeal (hVUpRefIdeal := Cert.VUpRefIdeal.Gen.facts) := fun m ρ _ =>
  (θ_run Cert.VUpRefIdeal.defs _ _).mono (fun r h => ⟨fun c => (h c).2, sem_eq_zero_of_no_sems (by decide) r.2⟩)
    (Cert.VUpRefIdeal.Value.run m ρ)

/-- The reference of the residual and its normalisation runs to the end, leaves its arguments as they were, and has no semaphore. -/
theorem frame_NormRefIdeal : Cert.quiescent_NormRefIdeal (hNormRefIdeal := Cert.NormRefIdeal.Gen.facts) := fun m ρ _ =>
  (θ_run Cert.NormRefIdeal.defs _ _).mono (fun r h => ⟨fun c => (h c).2.2, sem_eq_zero_of_no_sems (by decide) r.2⟩)
    (Cert.NormRefIdeal.Value.run m ρ)

/-- Every claim of the certificate. -/
theorem claim : Cert.Claim := ⟨Cert.Kernel.Gen.facts, Cert.KernelIdeal.Gen.facts, Cert.ReferenceIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.ScIn.Gen.facts, Cert.ScInIdeal.Gen.facts, Cert.ScInRefIdeal.Gen.facts,
  Cert.ScOut.Gen.facts, Cert.ScOutIdeal.Gen.facts, Cert.ScOutRefIdeal.Gen.facts,
  Cert.HyIn.Gen.facts, Cert.HyInIdeal.Gen.facts, Cert.HyInRefIdeal.Gen.facts,
  Cert.HyOut.Gen.facts, Cert.HyOutIdeal.Gen.facts, Cert.HyOutRefIdeal.Gen.facts,
  Cert.MlaOut.Gen.facts, Cert.MlaOutIdeal.Gen.facts, Cert.MlaOutRefIdeal.Gen.facts,
  Cert.QDown.Gen.facts, Cert.QDownIdeal.Gen.facts, Cert.QDownRefIdeal.Gen.facts,
  Cert.KvDown.Gen.facts, Cert.KvDownIdeal.Gen.facts, Cert.KvDownRefIdeal.Gen.facts,
  Cert.KUp.Gen.facts, Cert.KUpIdeal.Gen.facts, Cert.KUpRefIdeal.Gen.facts,
  Cert.VUp.Gen.facts, Cert.VUpIdeal.Gen.facts, Cert.VUpRefIdeal.Gen.facts,
  Cert.Norm.Gen.facts, Cert.NormIdeal.Gen.facts, Cert.NormRefIdeal.Gen.facts,
  Cert.Pre_finite.Gen.facts,
  fun m ρ _ => Cert.Kernel.Gen.frame m ρ,
  fun m ρ _ => Cert.KernelIdeal.Gen.frame m ρ,
  fun m ρ _ => Cert.KernelIdeal.Gen.frame m ρ,
  frame_ReferenceIdeal,
  fun m ρ _ => frame_ReferenceIdeal m ρ trivial,
  fun m ρ _ => Cert.FfnUp.Gen.frame m ρ,
  fun m ρ _ => Cert.FfnUpIdeal.Gen.frame m ρ,
  frame_FfnUpRefIdeal,
  fun m ρ _ => Cert.FfnDown.Gen.frame m ρ,
  fun m ρ _ => Cert.FfnDownIdeal.Gen.frame m ρ,
  frame_FfnDownRefIdeal,
  fun m ρ _ => Cert.ScIn.Gen.frame m ρ,
  fun m ρ _ => Cert.ScInIdeal.Gen.frame m ρ,
  frame_ScInRefIdeal,
  fun m ρ _ => Cert.ScOut.Gen.frame m ρ,
  fun m ρ _ => Cert.ScOutIdeal.Gen.frame m ρ,
  frame_ScOutRefIdeal,
  fun m ρ _ => Cert.HyIn.Gen.frame m ρ,
  fun m ρ _ => Cert.HyInIdeal.Gen.frame m ρ,
  frame_HyInRefIdeal,
  fun m ρ _ => Cert.HyOut.Gen.frame m ρ,
  fun m ρ _ => Cert.HyOutIdeal.Gen.frame m ρ,
  frame_HyOutRefIdeal,
  fun m ρ _ => Cert.MlaOut.Gen.frame m ρ,
  fun m ρ _ => Cert.MlaOutIdeal.Gen.frame m ρ,
  frame_MlaOutRefIdeal,
  fun m ρ _ => Cert.QDown.Gen.frame m ρ,
  fun m ρ _ => Cert.QDownIdeal.Gen.frame m ρ,
  frame_QDownRefIdeal,
  fun m ρ _ => Cert.KvDown.Gen.frame m ρ,
  fun m ρ _ => Cert.KvDownIdeal.Gen.frame m ρ,
  frame_KvDownRefIdeal,
  fun m ρ _ => Cert.KUp.Gen.frame m ρ,
  fun m ρ _ => Cert.KUpIdeal.Gen.frame m ρ,
  frame_KUpRefIdeal,
  fun m ρ _ => Cert.VUp.Gen.frame m ρ,
  fun m ρ _ => Cert.VUpIdeal.Gen.frame m ρ,
  frame_VUpRefIdeal,
  fun m ρ _ => Cert.Norm.Gen.frame m ρ,
  fun m ρ _ => Cert.NormIdeal.Gen.frame m ρ,
  frame_NormRefIdeal,
  trivial,
  Cert.ReferenceIdeal.RefValue.equation,
  trivial,
  Cert.FfnUpRefIdeal.RefValue.equation,
  trivial,
  Cert.FfnDownRefIdeal.RefValue.equation,
  trivial,
  Cert.ScInRefIdeal.RefValue.equation,
  trivial,
  Cert.ScOutRefIdeal.RefValue.equation,
  trivial,
  Cert.HyInRefIdeal.RefValue.equation,
  trivial,
  Cert.HyOutRefIdeal.RefValue.equation,
  trivial,
  Cert.MlaOutRefIdeal.RefValue.equation,
  trivial,
  Cert.QDownRefIdeal.RefValue.equation,
  trivial,
  Cert.KvDownRefIdeal.RefValue.equation,
  trivial,
  Cert.KUpRefIdeal.RefValue.equation,
  trivial,
  Cert.VUpRefIdeal.RefValue.equation,
  trivial,
  Cert.NormRefIdeal.RefValue.equation⟩

end Cert.Proof

end
